-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "neg_inf" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v98_0)) (v1 : (c : Dev Cert.KernelIdeal.nD) → Buf (Elt Ideal) ((c.tc : Thread Cert.KernelIdeal.nD Cert.KernelIdeal.τ).loc Cert.KernelIdeal.main_v98_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_0) = v0 c
          ∧ r.2.mem ((c.tc : Thread Cert.KernelIdeal.nD Cert.KernelIdeal.τ).loc Cert.KernelIdeal.main_v98_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v79) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_In_InIdeal : Prop :=
  IdealRules.bf16_pair.Statement Cert.InIdeal.S32x128 Cert.InIdeal.S16x128

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v2_1)) (v1 : (c : Dev Cert.InIdeal.nD) → Buf (Elt Ideal) ((c.tc : Thread Cert.InIdeal.nD Cert.InIdeal.τ).loc Cert.InIdeal.main_v2_2)) (v2 : (c : Dev Cert.InIdeal.nD) → Buf (Elt Ideal) ((c.tc : Thread Cert.InIdeal.nD Cert.InIdeal.τ).loc Cert.InIdeal.main_v2_3)) (v3 : (c : Dev Cert.InIdeal.nD) → Buf (Elt Ideal) ((c.tc : Thread Cert.InIdeal.nD Cert.InIdeal.τ).loc Cert.InIdeal.main_v2_4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2_1) = v0 c
          ∧ r.2.mem ((c.tc : Thread Cert.InIdeal.nD Cert.InIdeal.τ).loc Cert.InIdeal.main_v2_2) = v1 c
          ∧ r.2.mem ((c.tc : Thread Cert.InIdeal.nD Cert.InIdeal.τ).loc Cert.InIdeal.main_v2_3) = v2 c
          ∧ r.2.mem ((c.tc : Thread Cert.InIdeal.nD Cert.InIdeal.τ).loc Cert.InIdeal.main_v2_4) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v29) = v0 c
          ∧ r.2.mem ((c.tc : Thread Cert.InReferenceIdeal.nD Cert.InReferenceIdeal.τ).loc Cert.InReferenceIdeal.main_v30) = v1 c
          ∧ r.2.mem ((c.tc : Thread Cert.InReferenceIdeal.nD Cert.InReferenceIdeal.τ).loc Cert.InReferenceIdeal.main_v31) = v2 c
          ∧ r.2.mem ((c.tc : Thread Cert.InReferenceIdeal.nD Cert.InReferenceIdeal.τ).loc Cert.InReferenceIdeal.main_v32) = v3 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v18) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hIn : Cert.In.Facts) (hInIdeal : Cert.InIdeal.Facts) (hInReferenceIdeal : Cert.InReferenceIdeal.Facts) (hAda : Cert.Ada.Facts) (hAdaIdeal : Cert.AdaIdeal.Facts) (hAdaReferenceIdeal : Cert.AdaReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_In (hIn := hIn)
    ∧ quiescent_InIdeal (hInIdeal := hInIdeal)
    ∧ quiescent_InReferenceIdeal (hInReferenceIdeal := hInReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_In_InIdeal
    ∧ algebraic_InIdeal_InReferenceIdeal (hInIdeal := hInIdeal) (hInReferenceIdeal := hInReferenceIdeal)
    ∧ preserves_Ada_AdaIdeal
    ∧ algebraic_AdaIdeal_AdaReferenceIdeal (hAdaIdeal := hAdaIdeal) (hAdaReferenceIdeal := hAdaReferenceIdeal)
-- ==== Pre_finite.lean ====
abbrev S16x2048x384 : Shape := ⟨3, ![16, 2048, 384]⟩
abbrev S16x2048x128 : Shape := ⟨3, ![16, 2048, 128]⟩
abbrev S6 : Shape := ⟨1, ![6]⟩
abbrev S16x2048x256 : Shape := ⟨3, ![16, 2048, 256]⟩
abbrev S4x64x64 : Shape := ⟨3, ![4, 64, 64]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S16x2048x384 : S_.BroadcastsInDim S16x2048x384 (![] : Fin 0 → Fin S16x2048x384.rank)
  reducesTo_S16x2048x384_S_d0_1_2 : S16x2048x384.ReducesTo [0, 1, 2] S_
  bcast_S_S16x2048x128 : S_.BroadcastsInDim S16x2048x128 (![] : Fin 0 → Fin S16x2048x128.rank)
  reducesTo_S16x2048x128_S_d0_1_2 : S16x2048x128.ReducesTo [0, 1, 2] S_
  bcast_S_S6 : S_.BroadcastsInDim S6 (![] : Fin 0 → Fin S6.rank)
  reducesTo_S6_S_d0 : S6.ReducesTo [0] S_

variable [Facts]

def fn_part1 {F : FTy → Type} [FloatOps F] (main_arg3 : FVec F S6 .f32) (main_v8 : IVec S_ 1) (main_v12 : IVec S_ 1) (main_v15 : IVec S16x2048x128 1) (main_c_5 : IVec S_ 1) : IVec S_ 1 :=
  let main_v16 : IVec S_ 1 := (fun x v => Host.reduce IntOp.andi x v reducesTo_S16x2048x128_S_d0_1_2 h_S_) main_v15 main_c_5
  let main_v17 : IVec S_ 1 := andi main_v12 main_v16
  let main_v18 : FVec F S6 .f32 := Host.absf main_arg3
  let main_cst_6 : FVec F S_ .f32 := constant S_ .f32 0x7F800000#32
  let main_v19 : FVec F S6 .f32 := broadcastInDim S6 ![] bcast_S_S6 main_cst_6
  let main_v20 : IVec S6 1 := cmpf .olt main_v18 main_v19
  let main_c_7 : IVec S_ 1 := constantI S_ 1 1#1
  let main_v21 : IVec S_ 1 := (fun x v => Host.reduce IntOp.andi x v reducesTo_S6_S_d0 h_S_) main_v20 main_c_7
  let main_v22 : IVec S_ 1 := andi main_v17 main_v21
  let main_v23 : IVec S_ 1 := andi main_v22 main_v8
  main_v23

def fn {F : FTy → Type} [FloatOps F] (main_arg0 : FVec F S16x2048x384 .f32) (main_arg1 : FVec F S16x2048x128 .f32) (main_arg2 : FVec F S16x2048x128 .f32) (main_arg3 : FVec F S6 .f32) (main_arg4 : FVec F S16x2048x256 .f32) (main_arg5 : FVec F S4x64x64 .f32) : IVec S_ 1 :=
  let main_v0 : FVec F S16x2048x256 .f32 := Host.absf main_arg4
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S4x64x64 .f32 := Host.absf main_arg5
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S16x2048x384 .f32 := Host.absf main_arg0
  let main_cst_2 : FVec F S_ .f32 := constant S_ .f32 0x7F800000#32
  let main_v10 : FVec F S16x2048x384 .f32 := broadcastInDim S16x2048x384 ![] bcast_S_S16x2048x384 main_cst_2
  let main_v11 : IVec S16x2048x384 1 := cmpf .olt main_v9 main_v10
  let main_c_3 : IVec S_ 1 := constantI S_ 1 1#1
  let main_v12 : IVec S_ 1 := (fun x v => Host.reduce IntOp.andi x v reducesTo_S16x2048x384_S_d0_1_2 h_S_) main_v11 main_c_3
  let main_v13 : FVec F S16x2048x128 .f32 := Host.absf main_arg1
  let main_cst_4 : FVec F S_ .f32 := constant S_ .f32 0x7F800000#32
  let main_v14 : FVec F S16x2048x128 .f32 := broadcastInDim S16x2048x128 ![] bcast_S_S16x2048x128 main_cst_4
  let main_v15 : IVec S16x2048x128 1 := cmpf .olt main_v13 main_v14
  let main_c_5 : IVec S_ 1 := constantI S_ 1 1#1
  fn_part1 (F := F) main_arg3 main_v8 main_v12 main_v15 main_c_5
-- ==== Kernel.lean ====
abbrev S16x2048x384 : Shape := ⟨3, ![16, 2048, 384]⟩
abbrev S16x2048x128 : Shape := ⟨3, ![16, 2048, 128]⟩
abbrev S6 : Shape := ⟨1, ![6]⟩
abbrev S16x2048x256 : Shape := ⟨3, ![16, 2048, 256]⟩
abbrev S4x64x64 : Shape := ⟨3, ![4, 64, 64]⟩
abbrev S_ : Shape := ⟨0, ![]⟩
abbrev S2048x2048 : Shape := ⟨2, ![2048, 2048]⟩
abbrev S256x256 : Shape := ⟨2, ![256, 256]⟩
abbrev S1x64x64 : Shape := ⟨3, ![1, 64, 64]⟩
abbrev S64x64 : Shape := ⟨2, ![64, 64]⟩
abbrev S64x256 : Shape := ⟨2, ![64, 256]⟩
abbrev S2x384x384 : Shape := ⟨3, ![2, 384, 384]⟩
abbrev S1x2048x384 : Shape := ⟨3, ![1, 2048, 384]⟩
abbrev S1x2048x128 : Shape := ⟨3, ![1, 2048, 128]⟩
abbrev S1x2048x256 : Shape := ⟨3, ![1, 2048, 256]⟩
abbrev S2304x128 : Shape := ⟨2, ![2304, 128]⟩
abbrev S4096x256 : Shape := ⟨2, ![4096, 256]⟩
abbrev S2048x256 : Shape := ⟨2, ![2048, 256]⟩
abbrev S128x128 : Shape := ⟨2, ![128, 128]⟩
abbrev S2048x128 : Shape := ⟨2, ![2048, 128]⟩
abbrev S384x384 : Shape := ⟨2, ![384, 384]⟩
abbrev S384x1 : Shape := ⟨2, ![384, 1]⟩
abbrev S1 : Shape := ⟨1, ![1]⟩
abbrev S1x128x384 : Shape := ⟨3, ![1, 128, 384]⟩
abbrev S128x384 : Shape := ⟨2, ![128, 384]⟩
abbrev S384x128 : Shape := ⟨2, ![384, 128]⟩
abbrev S128x64 : Shape := ⟨2, ![128, 64]⟩
abbrev S384x64 : Shape := ⟨2, ![384, 64]⟩
abbrev S1x384x384 : Shape := ⟨3, ![1, 384, 384]⟩
abbrev S128x2048 : Shape := ⟨2, ![128, 2048]⟩
abbrev S128x256 : Shape := ⟨2, ![128, 256]⟩
abbrev S1x128x256 : Shape := ⟨3, ![1, 128, 256]⟩
abbrev S384 : Shape := ⟨1, ![384]⟩

abbrev nBuf : Space → Nat
  | .hbm => 149
  | .vmem => 21
  | .smem => 1
  | _ => 0

abbrev hbmTy0_0 (i : Nat) : BufTy := match i % 128 with
  | 0 => ⟨S16x2048x384, .f32⟩
  | 1 => ⟨S16x2048x128, .f32⟩
  | 2 => ⟨S16x2048x128, .f32⟩
  | 3 => ⟨S6, .f32⟩
  | 4 => ⟨S16x2048x256, .f32⟩
  | 5 => ⟨S4x64x64, .f32⟩
  | 6 => ⟨S_, .f32⟩
  | 7 => ⟨S16x2048x384, .f32⟩
  | 8 => ⟨S16x2048x384, .f32⟩
  | 9 => ⟨S16x2048x384, .bf16⟩
  | 10 => ⟨S16x2048x128, .bf16⟩
  | 11 => ⟨S16x2048x128, .bf16⟩
  | 12 => ⟨S16x2048x256, .bf16⟩
  | 13 => ⟨S2048x2048, .i32⟩
  | 14 => ⟨S2048x2048, .i32⟩
  | 15 => ⟨S2048x2048, .i32⟩
  | 16 => ⟨S_, .i32⟩
  | 17 => ⟨S2048x2048, .i32⟩
  | 18 => ⟨S2048x2048, .i32⟩
  | 19 => ⟨S_, .f32⟩
  | 20 => ⟨S_, .f32⟩
  | 21 => ⟨S_, .f32⟩
  | 22 => ⟨S_, .f32⟩
  | 23 => ⟨S2048x2048, .f32⟩
  | 24 => ⟨S2048x2048, .f32⟩
  | 25 => ⟨S2048x2048, .f32⟩
  | 26 => ⟨S_, .f32⟩
  | 27 => ⟨S2048x2048, .f32⟩
  | 28 => ⟨S2048x2048, .f32⟩
  | 29 => ⟨S2048x2048, .f32⟩
  | 30 => ⟨S_, .f32⟩
  | 31 => ⟨S2048x2048, .f32⟩
  | 32 => ⟨S2048x2048, .f32⟩
  | 33 => ⟨S2048x2048, .f32⟩
  | 34 => ⟨S_, .f32⟩
  | 35 => ⟨S2048x2048, .f32⟩
  | 36 => ⟨S2048x2048, .f32⟩
  | 37 => ⟨S256x256, .i32⟩
  | 38 => ⟨S256x256, .i32⟩
  | 39 => ⟨S_, .i32⟩
  | 40 => ⟨S256x256, .i32⟩
  | 41 => ⟨S256x256, .i32⟩
  | 42 => ⟨S_, .i32⟩
  | 43 => ⟨S256x256, .i32⟩
  | 44 => ⟨S256x256, .i32⟩
  | 45 => ⟨S256x256, .i32⟩
  | 46 => ⟨S_, .i32⟩
  | 47 => ⟨S256x256, .i32⟩
  | 48 => ⟨S256x256, .i32⟩
  | 49 => ⟨S_, .f32⟩
  | 50 => ⟨S_, .f32⟩
  | 51 => ⟨S_, .f32⟩
  | 52 => ⟨S_, .f32⟩
  | 53 => ⟨S256x256, .f32⟩
  | 54 => ⟨S256x256, .f32⟩
  | 55 => ⟨S256x256, .f32⟩
  | 56 => ⟨S_, .f32⟩
  | 57 => ⟨S256x256, .f32⟩
  | 58 => ⟨S256x256, .f32⟩
  | 59 => ⟨S256x256, .f32⟩
  | 60 => ⟨S_, .f32⟩
  | 61 => ⟨S256x256, .f32⟩
  | 62 => ⟨S256x256, .f32⟩
  | 63 => ⟨S256x256, .f32⟩
  | 64 => ⟨S_, .f32⟩
  | 65 => ⟨S256x256, .f32⟩
  | 66 => ⟨S256x256, .f32⟩
  | 67 => ⟨S_, .i32⟩
  | 68 => ⟨S256x256, .i32⟩
  | 69 => ⟨S256x256, .i32⟩
  | 70 => ⟨S_, .i32⟩
  | 71 => ⟨S256x256, .i32⟩
  | 72 => ⟨S256x256, .i32⟩
  | 73 => ⟨S256x256, .i1⟩
  | 74 => ⟨S_, .f32⟩
  | 75 => ⟨S_, .f32⟩
  | 76 => ⟨S256x256, .f32⟩
  | 77 => ⟨S256x256, .f32⟩
  | 78 => ⟨S_, .f32⟩
  | 79 => ⟨S_, .f32⟩
  | 80 => ⟨S256x256, .f32⟩
  | 81 => ⟨S256x256, .f32⟩
  | 82 => ⟨S2048x2048, .bf16⟩
  | 83 => ⟨S2048x2048, .f32⟩
  | 84 => ⟨S2048x2048, .bf16⟩
  | 85 => ⟨S256x256, .bf16⟩
  | 86 => ⟨S256x256, .bf16⟩
  | 87 => ⟨S1x64x64, .f32⟩
  | 88 => ⟨S64x64, .f32⟩
  | 89 => ⟨S1x64x64, .f32⟩
  | 90 => ⟨S64x64, .f32⟩
  | 91 => ⟨S1x64x64, .f32⟩
  | 92 => ⟨S64x64, .f32⟩
  | 93 => ⟨S1x64x64, .f32⟩
  | 94 => ⟨S64x64, .f32⟩
  | 95 => ⟨S_, .f32⟩
  | 96 => ⟨S64x256, .f32⟩
  | 97 => ⟨S_, .f32⟩
  | 98 => ⟨S64x256, .f32⟩
  | 99 => ⟨S_, .f32⟩
  | 100 => ⟨S64x256, .f32⟩
  | 101 => ⟨S_, .f32⟩
  | 102 => ⟨S64x256, .f32⟩
  | 103 => ⟨S256x256, .f32⟩
  | 104 => ⟨S256x256, .bf16⟩
  | 105 => ⟨S2x384x384, .i32⟩
  | 106 => ⟨S2x384x384, .i32⟩
  | 107 => ⟨S_, .i32⟩
  | 108 => ⟨S2x384x384, .i32⟩
  | 109 => ⟨S2x384x384, .i32⟩
  | 110 => ⟨S_, .i32⟩
  | 111 => ⟨S2x384x384, .i32⟩
  | 112 => ⟨S2x384x384, .i32⟩
  | 113 => ⟨S2x384x384, .i32⟩
  | 114 => ⟨S2x384x384, .i32⟩
  | 115 => ⟨S2x384x384, .i32⟩
  | 116 => ⟨S_, .i32⟩
  | 117 => ⟨S2x384x384, .i32⟩
  | 118 => ⟨S2x384x384, .i32⟩
  | 119 => ⟨S_, .i32⟩
  | 120 => ⟨S2x384x384, .i32⟩
  | 121 => ⟨S2x384x384, .i32⟩
  | 122 => ⟨S2x384x384, .i32⟩
  | 123 => ⟨S_, .i32⟩
  | 124 => ⟨S2x384x384, .i32⟩
  | 125 => ⟨S2x384x384, .i32⟩
  | 126 => ⟨S2x384x384, .f32⟩
  | 127 => ⟨S_, .f32⟩
  | _ => ⟨S16x2048x384, .f32⟩

abbrev hbmTy0_1 (i : Nat) : BufTy := match i % 128 with
  | 0 => ⟨S2x384x384, .f32⟩
  | 1 => ⟨S2x384x384, .f32⟩
  | 2 => ⟨S_, .f32⟩
  | 3 => ⟨S2x384x384, .f32⟩
  | 4 => ⟨S2x384x384, .f32⟩
  | 5 => ⟨S_, .f32⟩
  | 6 => ⟨S2x384x384, .f32⟩
  | 7 => ⟨S2x384x384, .f32⟩
  | 8 => ⟨S2x384x384, .f32⟩
  | 9 => ⟨S_, .i32⟩
  | 10 => ⟨S2x384x384, .i32⟩
  | 11 => ⟨S2x384x384, .i1⟩
  | 12 => ⟨S2x384x384, .f32⟩
  | 13 => ⟨S2x384x384, .f32⟩
  | 14 => ⟨S2x384x384, .f32⟩
  | 15 => ⟨S_, .f32⟩
  | 16 => ⟨S_, .f32⟩
  | 17 => ⟨S2x384x384, .f32⟩
  | 18 => ⟨S2x384x384, .f32⟩
  | 19 => ⟨S16x2048x384, .bf16⟩
  | 20 => ⟨S16x2048x256, .bf16⟩
  | _ => ⟨S16x2048x384, .f32⟩

abbrev hbmTy (i : Nat) : BufTy := match i / 128 with
  | 0 => hbmTy0_0 i
  | 1 => hbmTy0_1 i
  | _ => ⟨S16x2048x384, .f32⟩

abbrev bufTy : (tb : Table) → Fin (tcTables nBuf tb) → BufTy
  | .hbm, ⟨i, _⟩ => hbmTy i
  | .local _ .vmem, ⟨0, _⟩ => ⟨S1x2048x384, .bf16⟩
  | .local _ .vmem, ⟨1, _⟩ => ⟨S1x2048x384, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2x384x384, .f32⟩
  | .local _ .vmem, ⟨7, _⟩ => ⟨S1x2048x256, .bf16⟩
  | .local _ .vmem, ⟨8, _⟩ => ⟨S1x2048x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S2048x2048, .bf16⟩
  | .local _ .vmem, ⟨13, _⟩ => ⟨S2048x2048, .bf16⟩
  | .local _ .vmem, ⟨14, _⟩ => ⟨S1x2048x384, .bf16⟩
  | .local _ .vmem, ⟨15, _⟩ => ⟨S1x2048x384, .bf16⟩
  | .local _ .vmem, ⟨16, _⟩ => ⟨S1x2048x256, .bf16⟩
  | .local _ .vmem, ⟨17, _⟩ => ⟨S1x2048x256, .bf16⟩
  | .local _ .vmem, ⟨18, _⟩ => ⟨S2304x128, .bf16⟩
  | .local _ .vmem, ⟨19, _⟩ => ⟨S2304x128, .bf16⟩
  | .local _ .vmem, ⟨20, _⟩ => ⟨S4096x256, .bf16⟩
  | .local _ .smem, ⟨0, _⟩ => ⟨S6, .f32⟩
  | _, _ => ⟨S16x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_c_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_call0_v0 : Ref sig .tc := ⟨.hbm, 75, rfl⟩
abbrev main_call0_v1 : Ref sig .tc := ⟨.hbm, 76, rfl⟩
abbrev main_v51 : Ref sig .tc := ⟨.hbm, 77, rfl⟩
abbrev main_cst_16 : Ref sig .tc := ⟨.hbm, 78, rfl⟩
abbrev main_call1_v0 : Ref sig .tc := ⟨.hbm, 79, rfl⟩
abbrev main_call1_v1 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v4 : Ref sig .tc := ⟨.hbm, 96, rfl⟩
abbrev main_call2_cst_0 : Ref sig .tc := ⟨.hbm, 97, rfl⟩
abbrev main_call2_v5 : Ref sig .tc := ⟨.hbm, 98, rfl⟩
abbrev main_call2_cst_1 : Ref sig .tc := ⟨.hbm, 99, rfl⟩
abbrev main_call2_v6 : Ref sig .tc := ⟨.hbm, 100, rfl⟩
abbrev main_call2_cst_2 : Ref sig .tc := ⟨.hbm, 101, rfl⟩
abbrev main_call2_v7 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_c_20 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_21 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_22 : Ref sig .tc := ⟨.hbm, 127, rfl⟩
abbrev main_v85 : Ref sig .tc := ⟨.hbm, 128, rfl⟩
abbrev main_v86 : Ref sig .tc := ⟨.hbm, 129, rfl⟩
abbrev main_cst_23 : Ref sig .tc := ⟨.hbm, 130, rfl⟩
abbrev main_v87 : Ref sig .tc := ⟨.hbm, 131, rfl⟩
abbrev main_v88 : Ref sig .tc := ⟨.hbm, 132, rfl⟩
abbrev main_cst_24 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_25 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_26 : Ref sig .tc := ⟨.hbm, 143, rfl⟩
abbrev main_call3_v0 : Ref sig .tc := ⟨.hbm, 144, rfl⟩
abbrev main_call3_v1 : Ref sig .tc := ⟨.hbm, 145, rfl⟩
abbrev main_v97 : Ref sig .tc := ⟨.hbm, 146, rfl⟩
abbrev main_v98_0 : Ref sig .tc := ⟨.hbm, 147, rfl⟩
abbrev main_v98_1 : Ref sig .tc := ⟨.hbm, 148, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_125 : BitVec 32 := 0#32
  let c7_i32 : BitVec 32 := 7#32
  let v272 : BitVec 32 := Scalar.addi c0_i32_125 c7_i32
  let c1_i32_126 : BitVec 32 := 1#32
  ⟨c0_i32_125, v272, c1_i32_126⟩
def k0_mult1 (k0_t1 : Fin k0_t1_loop.trips) : BitVec 32 :=
  let c2_i32 : BitVec 32 := 2#32
  let c0_i32_125 : BitVec 32 := 0#32
  let c1_i32_126 : BitVec 32 := 1#32
  let arg17 : BitVec 32 := Scf.iv c0_i32_125 c1_i32_126 k0_t1
  let v273 : BitVec 32 := Scalar.muli c2_i32 arg17
  let c1_i32_128 : BitVec 32 := 1#32
  let v274 : BitVec 32 := Scalar.addi v273 c1_i32_128
  let c128_i32_132 : BitVec 32 := 128#32
  let v278 : BitVec 32 := Scalar.muli v274 c128_i32_132
  v278
def k0_mult2 (k0_t1 : Fin k0_t1_loop.trips) : BitVec 32 :=
  let c2_i32_129 : BitVec 32 := 2#32
  let c0_i32_125 : BitVec 32 := 0#32
  let c1_i32_126 : BitVec 32 := 1#32
  let arg17 : BitVec 32 := Scf.iv c0_i32_125 c1_i32_126 k0_t1
  let v275 : BitVec 32 := Scalar.muli c2_i32_129 arg17
  let c2_i32_130 : BitVec 32 := 2#32
  let v276 : BitVec 32 := Scalar.addi v275 c2_i32_130
  let c128_i32_133 : BitVec 32 := 128#32
  let v280 : BitVec 32 := Scalar.muli v276 c128_i32_133
  v280
def k0_off1 (k0_t1 : Fin k0_t1_loop.trips) (c1_i32_128 : BitVec 32) : Fin 3 → Nat :=
  let c0_134 : Index := 0#32
  let c2_i32 : BitVec 32 := 2#32
  let c0_i32_125 : BitVec 32 := 0#32
  let c1_i32_126 : BitVec 32 := 1#32
  let arg17 : BitVec 32 := Scf.iv c0_i32_125 c1_i32_126 k0_t1
  let v273 : BitVec 32 := Scalar.muli c2_i32 arg17
  let v274 : BitVec 32 := Scalar.addi v273 c1_i32_128
  let c128_i32_132 : BitVec 32 := 128#32
  let v278 : BitVec 32 := Scalar.muli v274 c128_i32_132
  let v279 : BitVec 32 := v278
  let v282 : Index := Scalar.indexCast v279
  let c0_135 : Index := 0#32
  ![0, v282.toNat, 0]
def k0_off2 (k0_t1 : Fin k0_t1_loop.trips) (c1_i32_128 : BitVec 32) : Fin 2 → Nat :=
  let c2_i32 : BitVec 32 := 2#32
  let c0_i32_125 : BitVec 32 := 0#32
  let c1_i32_126 : BitVec 32 := 1#32
  let arg17 : BitVec 32 := Scf.iv c0_i32_125 c1_i32_126 k0_t1
  let v273 : BitVec 32 := Scalar.muli c2_i32 arg17
  let v274 : BitVec 32 := Scalar.addi v273 c1_i32_128
  let c128_i32_132 : BitVec 32 := 128#32
  let v278 : BitVec 32 := Scalar.muli v274 c128_i32_132
  let v279 : BitVec 32 := v278
  let v288 : Index := Scalar.indexCast v279
  let c0_138 : Index := 0#32
  ![v288.toNat, 0]
def k0_mult3 (k0_t1 : Fin k0_t1_loop.trips) : BitVec 32 :=
  let c0_i32_125 : BitVec 32 := 0#32
  let c1_i32_126 : BitVec 32 := 1#32
  let arg17 : BitVec 32 := Scf.iv c0_i32_125 c1_i32_126 k0_t1
  let c1_i32_131 : BitVec 32 := 1#32
  let v277 : BitVec 32 := Scalar.addi arg17 c1_i32_131
  let c256_i32_158 : BitVec 32 := 256#32
  let v332 : BitVec 32 := Scalar.muli v277 c256_i32_158
  let c0_i32_159 : BitVec 32 := 0#32
  let v333 : BitVec 32 := Scalar.addi v332 c0_i32_159
  v333
def k0_off3 (k0_t1 : Fin k0_t1_loop.trips) (c0_i32_159 : BitVec 32) : Fin 2 → Nat :=
  let c0_i32_125 : BitVec 32 := 0#32
  let c1_i32_126 : BitVec 32 := 1#32
  let arg17 : BitVec 32 := Scf.iv c0_i32_125 c1_i32_126 k0_t1
  let c1_i32_131 : BitVec 32 := 1#32
  let v277 : BitVec 32 := Scalar.addi arg17 c1_i32_131
  let c256_i32_158 : BitVec 32 := 256#32
  let v332 : BitVec 32 := Scalar.muli v277 c256_i32_158
  let v333 : BitVec 32 := Scalar.addi v332 c0_i32_159
  let v334 : BitVec 32 := v333
  let v335 : Index := Scalar.indexCast v334
  let c0_160 : Index := 0#32
  ![v335.toNat, 0]
def k0_off4 (k0_t1 : Fin k0_t1_loop.trips) (c0_i32_159 : BitVec 32) : Fin 3 → Nat :=
  let c0_168 : Index := 0#32
  let c0_i32_125 : BitVec 32 := 0#32
  let c1_i32_126 : BitVec 32 := 1#32
  let arg17 : BitVec 32 := Scf.iv c0_i32_125 c1_i32_126 k0_t1
  let c1_i32_131 : BitVec 32 := 1#32
  let v277 : BitVec 32 := Scalar.addi arg17 c1_i32_131
  let c256_i32_158 : BitVec 32 := 256#32
  let v332 : BitVec 32 := Scalar.muli v277 c256_i32_158
  let v333 : BitVec 32 := Scalar.addi v332 c0_i32_159
  let v334 : BitVec 32 := v333
  let v347 : Index := Scalar.indexCast v334
  let c0_169 : Index := 0#32
  ![0, v347.toNat, 0]
def k0_mult4 (k0_t1 : Fin k0_t1_loop.trips) : BitVec 32 :=
  let c0_i32_125 : BitVec 32 := 0#32
  let c1_i32_126 : BitVec 32 := 1#32
  let arg17 : BitVec 32 := Scf.iv c0_i32_125 c1_i32_126 k0_t1
  let c1_i32_131 : BitVec 32 := 1#32
  let v277 : BitVec 32 := Scalar.addi arg17 c1_i32_131
  let c256_i32_174 : BitVec 32 := 256#32
  let v375 : BitVec 32 := Scalar.muli v277 c256_i32_174
  let c128_i32_175 : BitVec 32 := 128#32
  let v376 : BitVec 32 := Scalar.addi v375 c128_i32_175
  v376
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2048x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "neg_inf" => some ⊥
  | _ => none
-- ==== ReferenceIdeal.lean ====
abbrev S16x2048x384 : Shape := ⟨3, ![16, 2048, 384]⟩
abbrev S16x2048x128 : Shape := ⟨3, ![16, 2048, 128]⟩
abbrev S6 : Shape := ⟨1, ![6]⟩
abbrev S16x2048x256 : Shape := ⟨3, ![16, 2048, 256]⟩
abbrev S4x64x64 : Shape := ⟨3, ![4, 64, 64]⟩
abbrev S_ : Shape := ⟨0, ![]⟩
abbrev S16x16x128x2x3x64 : Shape := ⟨6, ![16, 16, 128, 2, 3, 64]⟩
abbrev S16x2048x2x64 : Shape := ⟨4, ![16, 2048, 2, 64]⟩
abbrev S16x2304x2x64 : Shape := ⟨4, ![16, 2304, 2, 64]⟩
abbrev S16x18x128x2x64 : Shape := ⟨5, ![16, 18, 128, 2, 64]⟩
abbrev S16x16x128x2x64 : Shape := ⟨5, ![16, 16, 128, 2, 64]⟩
abbrev S16x16x384x2x64 : Shape := ⟨5, ![16, 16, 384, 2, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S2x3 : Shape := ⟨2, ![2, 3]⟩
abbrev S2x3x1x1 : Shape := ⟨4, ![2, 3, 1, 1]⟩
abbrev S1x1x128x384 : Shape := ⟨4, ![1, 1, 128, 384]⟩
abbrev S2x3x128x384 : Shape := ⟨4, ![2, 3, 128, 384]⟩
abbrev S16x16x2x384x128x3 : Shape := ⟨6, ![16, 16, 2, 384, 128, 3]⟩
abbrev S16x16x2x3x128x384 : Shape := ⟨6, ![16, 16, 2, 3, 128, 384]⟩
abbrev S1x1x2x3x128x384 : Shape := ⟨6, ![1, 1, 2, 3, 128, 384]⟩
abbrev S1x16x1x1x128x384 : Shape := ⟨6, ![1, 16, 1, 1, 128, 384]⟩
abbrev S1x1x2x3x1x1 : Shape := ⟨6, ![1, 1, 2, 3, 1, 1]⟩
abbrev S16x16x2x3x128 : Shape := ⟨5, ![16, 16, 2, 3, 128]⟩
abbrev S16x16x2x3x128x1 : Shape := ⟨6, ![16, 16, 2, 3, 128, 1]⟩
abbrev S16x16x2x64x3x128 : Shape := ⟨6, ![16, 16, 2, 64, 3, 128]⟩
abbrev S16x2048x4x64 : Shape := ⟨4, ![16, 2048, 4, 64]⟩
abbrev S2048x2048 : Shape := ⟨2, ![2048, 2048]⟩
abbrev S64x64 : Shape := ⟨2, ![64, 64]⟩
abbrev S16x4x64x2048 : Shape := ⟨4, ![16, 4, 64, 2048]⟩
abbrev S4x64x16x2048 : Shape := ⟨4, ![4, 64, 16, 2048]⟩

abbrev nBuf : Space → Nat
  | .hbm => 176
  | .vmem => 0
  | .smem => 0
  | _ => 0

abbrev hbmTy0_0 (i : Nat) : BufTy := match i % 128 with
  | 0 => ⟨S16x2048x384, .f32⟩
  | 1 => ⟨S16x2048x128, .f32⟩
  | 2 => ⟨S16x2048x128, .f32⟩
  | 3 => ⟨S6, .f32⟩
  | 4 => ⟨S16x2048x256, .f32⟩
  | 5 => ⟨S4x64x64, .f32⟩
  | 6 => ⟨S_, .f32⟩
  | 7 => ⟨S16x2048x384, .f32⟩
  | 8 => ⟨S16x2048x384, .f32⟩
  | 9 => ⟨S16x16x128x2x3x64, .f32⟩
  | 10 => ⟨S16x2048x2x64, .f32⟩
  | 11 => ⟨S_, .i32⟩
  | 12 => ⟨S_, .f32⟩
  | 13 => ⟨S16x2304x2x64, .f32⟩
  | 14 => ⟨S16x18x128x2x64, .f32⟩
  | 15 => ⟨S16x16x128x2x64, .f32⟩
  | 16 => ⟨S16x16x128x2x64, .f32⟩
  | 17 => ⟨S16x16x128x2x64, .f32⟩
  | 18 => ⟨S16x16x384x2x64, .f32⟩
  | 19 => ⟨S16x2048x2x64, .f32⟩
  | 20 => ⟨S_, .i32⟩
  | 21 => ⟨S_, .f32⟩
  | 22 => ⟨S16x2304x2x64, .f32⟩
  | 23 => ⟨S16x18x128x2x64, .f32⟩
  | 24 => ⟨S16x16x128x2x64, .f32⟩
  | 25 => ⟨S16x16x128x2x64, .f32⟩
  | 26 => ⟨S16x16x128x2x64, .f32⟩
  | 27 => ⟨S16x16x384x2x64, .f32⟩
  | 28 => ⟨S128, .i32⟩
  | 29 => ⟨S128x1, .i32⟩
  | 30 => ⟨S384, .i32⟩
  | 31 => ⟨S1x384, .i32⟩
  | 32 => ⟨S_, .i32⟩
  | 33 => ⟨S128x1, .i32⟩
  | 34 => ⟨S128x1, .i32⟩
  | 35 => ⟨S128x384, .i32⟩
  | 36 => ⟨S128x384, .i32⟩
  | 37 => ⟨S128x384, .i32⟩
  | 38 => ⟨S128x384, .i32⟩
  | 39 => ⟨S16, .i32⟩
  | 40 => ⟨S16x1, .i32⟩
  | 41 => ⟨S_, .i32⟩
  | 42 => ⟨S16x1, .i32⟩
  | 43 => ⟨S16x1, .i32⟩
  | 44 => ⟨S_, .i32⟩
  | 45 => ⟨S16x1, .i32⟩
  | 46 => ⟨S16x1, .i32⟩
  | 47 => ⟨S16x384, .i32⟩
  | 48 => ⟨S16x384, .i32⟩
  | 49 => ⟨S16x384, .i32⟩
  | 50 => ⟨S_, .i32⟩
  | 51 => ⟨S128x384, .i32⟩
  | 52 => ⟨S128x384, .i1⟩
  | 53 => ⟨S1x128x384, .i1⟩
  | 54 => ⟨S_, .i32⟩
  | 55 => ⟨S16x384, .i32⟩
  | 56 => ⟨S16x384, .i1⟩
  | 57 => ⟨S_, .i32⟩
  | 58 => ⟨S16x384, .i32⟩
  | 59 => ⟨S16x384, .i1⟩
  | 60 => ⟨S16x384, .i1⟩
  | 61 => ⟨S16x1x384, .i1⟩
  | 62 => ⟨S16x128x384, .i1⟩
  | 63 => ⟨S16x128x384, .i1⟩
  | 64 => ⟨S16x128x384, .i1⟩
  | 65 => ⟨S6, .f32⟩
  | 66 => ⟨S_, .f32⟩
  | 67 => ⟨S6, .f32⟩
  | 68 => ⟨S6, .f32⟩
  | 69 => ⟨S_, .f32⟩
  | 70 => ⟨S6, .f32⟩
  | 71 => ⟨S6, .f32⟩
  | 72 => ⟨S_, .f32⟩
  | 73 => ⟨S6, .f32⟩
  | 74 => ⟨S6, .f32⟩
  | 75 => ⟨S_, .f32⟩
  | 76 => ⟨S6, .f32⟩
  | 77 => ⟨S6, .f32⟩
  | 78 => ⟨S6, .f32⟩
  | 79 => ⟨S2x3, .f32⟩
  | 80 => ⟨S2x3x1x1, .f32⟩
  | 81 => ⟨S2x3x1x1, .f32⟩
  | 82 => ⟨S128x384, .f32⟩
  | 83 => ⟨S1x1x128x384, .f32⟩
  | 84 => ⟨S2x3x128x384, .f32⟩
  | 85 => ⟨S2x3x128x384, .f32⟩
  | 86 => ⟨S2x3x128x384, .f32⟩
  | 87 => ⟨S16x16x2x384x128x3, .f32⟩
  | 88 => ⟨S16x16x2x3x128x384, .f32⟩
  | 89 => ⟨S1x1x2x3x128x384, .f32⟩
  | 90 => ⟨S16x16x2x3x128x384, .f32⟩
  | 91 => ⟨S16x16x2x3x128x384, .f32⟩
  | 92 => ⟨S1x16x1x1x128x384, .i1⟩
  | 93 => ⟨S_, .f32⟩
  | 94 => ⟨S_, .f32⟩
  | 95 => ⟨S16x16x2x3x128x384, .i1⟩
  | 96 => ⟨S16x16x2x3x128x384, .f32⟩
  | 97 => ⟨S16x16x2x3x128x384, .f32⟩
  | 98 => ⟨S1x1x2x3x1x1, .f32⟩
  | 99 => ⟨S_, .f32⟩
  | 100 => ⟨S16x16x2x3x128, .f32⟩
  | 101 => ⟨S16x16x2x3x128x1, .f32⟩
  | 102 => ⟨S16x16x2x3x128x1, .f32⟩
  | 103 => ⟨S16x16x2x3x128x1, .f32⟩
  | 104 => ⟨S16x16x2x3x128x384, .f32⟩
  | 105 => ⟨S16x16x2x3x128x384, .f32⟩
  | 106 => ⟨S16x16x2x3x128x384, .f32⟩
  | 107 => ⟨S_, .f32⟩
  | 108 => ⟨S16x16x2x3x128, .f32⟩
  | 109 => ⟨S16x16x2x3x128x1, .f32⟩
  | 110 => ⟨S16x16x2x3x128x1, .f32⟩
  | 111 => ⟨S16x16x2x3x128x1, .f32⟩
  | 112 => ⟨S16x16x2x3x128x1, .f32⟩
  | 113 => ⟨S16x16x2x3x128x1, .f32⟩
  | 114 => ⟨S16x16x2x3x128x384, .f32⟩
  | 115 => ⟨S16x16x2x3x128x384, .f32⟩
  | 116 => ⟨S16x16x2x64x3x128, .f32⟩
  | 117 => ⟨S16x16x128x2x3x64, .f32⟩
  | 118 => ⟨S16x2048x384, .f32⟩
  | 119 => ⟨S16x2048x384, .bf16⟩
  | 120 => ⟨S16x2048x4x64, .f32⟩
  | 121 => ⟨S2048x2048, .i32⟩
  | 122 => ⟨S2048x2048, .i32⟩
  | 123 => ⟨S2048x2048, .i32⟩
  | 124 => ⟨S_, .f32⟩
  | 125 => ⟨S_, .f32⟩
  | 126 => ⟨S_, .f32⟩
  | 127 => ⟨S_, .f32⟩
  | _ => ⟨S16x2048x384, .f32⟩

abbrev hbmTy0_1 (i : Nat) : BufTy := match i % 128 with
  | 0 => ⟨S2048x2048, .f32⟩
  | 1 => ⟨S2048x2048, .f32⟩
  | 2 => ⟨S2048x2048, .f32⟩
  | 3 => ⟨S_, .f32⟩
  | 4 => ⟨S2048x2048, .f32⟩
  | 5 => ⟨S2048x2048, .f32⟩
  | 6 => ⟨S2048x2048, .f32⟩
  | 7 => ⟨S_, .f32⟩
  | 8 => ⟨S2048x2048, .f32⟩
  | 9 => ⟨S2048x2048, .f32⟩
  | 10 => ⟨S2048x2048, .f32⟩
  | 11 => ⟨S2048x2048, .f32⟩
  | 12 => ⟨S_, .f32⟩
  | 13 => ⟨S2048x2048, .f32⟩
  | 14 => ⟨S2048x2048, .f32⟩
  | 15 => ⟨S64x64, .i32⟩
  | 16 => ⟨S64x64, .i32⟩
  | 17 => ⟨S64x64, .i32⟩
  | 18 => ⟨S_, .f32⟩
  | 19 => ⟨S_, .f32⟩
  | 20 => ⟨S_, .f32⟩
  | 21 => ⟨S_, .f32⟩
  | 22 => ⟨S64x64, .f32⟩
  | 23 => ⟨S64x64, .f32⟩
  | 24 => ⟨S64x64, .f32⟩
  | 25 => ⟨S_, .f32⟩
  | 26 => ⟨S64x64, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S16x2048x4x64, .f32⟩
  | 38 => ⟨S16x2048x4x64, .f32⟩
  | 39 => ⟨S16x4x64x2048, .f32⟩
  | 40 => ⟨S16x2048x4x64, .f32⟩
  | 41 => ⟨S16x4x64x2048, .f32⟩
  | 42 => ⟨S16x2048x4x64, .f32⟩
  | 43 => ⟨S16x2048x4x64, .f32⟩
  | 44 => ⟨S4x64x16x2048, .f32⟩
  | 45 => ⟨S16x2048x4x64, .f32⟩
  | 46 => ⟨S16x2048x256, .f32⟩
  | 47 => ⟨S16x2048x256, .bf16⟩
  | _ => ⟨S16x2048x384, .f32⟩

abbrev hbmTy (i : Nat) : BufTy := match i / 128 with
  | 0 => hbmTy0_0 i
  | 1 => hbmTy0_1 i
  | _ => ⟨S16x2048x384, .f32⟩

abbrev bufTy : (tb : Table) → Fin (tcTables nBuf tb) → BufTy
  | .hbm, ⟨i, _⟩ => hbmTy i
  | _, _ => ⟨S16x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_14 : Ref sig .tc := ⟨.hbm, 124, rfl⟩
abbrev main_v97 : Ref sig .tc := ⟨.hbm, 125, rfl⟩
abbrev main_cst_15 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_16 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_17 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_18 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_19 : Ref sig .tc := ⟨.hbm, 146, rfl⟩
abbrev main_v114 : Ref sig .tc := ⟨.hbm, 147, rfl⟩
abbrev main_cst_20 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_21 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_22 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_23 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩

abbrev nD : Nat := 1
abbrev τ : Topo := Topo.v7x

variable {F : FTy → Type} [FloatOps F]
-- ==== Ffn.lean ====
abbrev S16x2048x1024 : Shape := ⟨3, ![16, 2048, 1024]⟩
abbrev S16x6x1024 : Shape := ⟨3, ![16, 6, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S4x5632 : Shape := ⟨2, ![4, 5632]⟩
abbrev S1x1024 : Shape := ⟨2, ![1, 1024]⟩
abbrev S1x1024x1024 : Shape := ⟨3, ![1, 1024, 1024]⟩
abbrev S1x16x1024 : Shape := ⟨3, ![1, 16, 1024]⟩
abbrev S1x6x1024 : Shape := ⟨3, ![1, 6, 1024]⟩
abbrev S2x528x1024 : Shape := ⟨3, ![2, 528, 1024]⟩
abbrev S2x544x128 : Shape := ⟨3, ![2, 544, 128]⟩
abbrev S2x512x1024 : Shape := ⟨3, ![2, 512, 1024]⟩
abbrev S6x1024 : Shape := ⟨2, ![6, 1024]⟩
abbrev S16x1024 : Shape := ⟨2, ![16, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1x528x1024 : Shape := ⟨3, ![1, 528, 1024]⟩
abbrev S528x1024 : Shape := ⟨2, ![528, 1024]⟩
abbrev S1024x256 : Shape := ⟨2, ![1024, 256]⟩
abbrev S528x256 : Shape := ⟨2, ![528, 256]⟩
abbrev S512x128 : Shape := ⟨2, ![512, 128]⟩
abbrev S1x512x128 : Shape := ⟨3, ![1, 512, 128]⟩
abbrev S1x128 : Shape := ⟨2, ![1, 128]⟩
abbrev S1x1x128 : Shape := ⟨3, ![1, 1, 128]⟩
abbrev S4x128 : Shape := ⟨2, ![4, 128]⟩
abbrev S1x544x128 : Shape := ⟨3, ![1, 544, 128]⟩
abbrev S544x128 : Shape := ⟨2, ![544, 128]⟩
abbrev S512x256 : Shape := ⟨2, ![512, 256]⟩
abbrev S256x1024 : Shape := ⟨2, ![256, 1024]⟩

abbrev nBuf : Space → Nat
  | .hbm => 15
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1x5632, .f32⟩
  | .hbm, ⟨9, _⟩ => ⟨S4x5632, .f32⟩
  | .hbm, ⟨10, _⟩ => ⟨S1x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S4x5632, .f32⟩
  | .local _ .vmem, ⟨12, _⟩ => ⟨S2816x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S2x528x1024, .bf16⟩
  | .local _ .vmem, ⟨16, _⟩ => ⟨S2x544x128, .f32⟩
  | .local _ .vmem, ⟨17, _⟩ => ⟨S2x544x128, .f32⟩
  | .local _ .vmem, ⟨18, _⟩ => ⟨S2x544x128, .f32⟩
  | .local _ .vmem, ⟨19, _⟩ => ⟨S2x544x128, .f32⟩
  | .local _ .vmem, ⟨20, _⟩ => ⟨S2x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S16x2048x1024 : Shape := ⟨3, ![16, 2048, 1024]⟩
abbrev S16x6x1024 : Shape := ⟨3, ![16, 6, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x5632, .f32⟩
  | .hbm, ⟨35, _⟩ => ⟨S_, .i32⟩
  | .hbm, ⟨36, _⟩ => ⟨S_, .f32⟩
  | .hbm, ⟨37, _⟩ => ⟨S16x2050x5632, .f32⟩
  | .hbm, ⟨38, _⟩ => ⟨S16x2048x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S16x2048x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S16x2048x5632, .f32⟩
  | .hbm, ⟨56, _⟩ => ⟨S16x2048x5632, .f32⟩
  | .hbm, ⟨57, _⟩ => ⟨S16x2048x5632, .f32⟩
  | .hbm, ⟨58, _⟩ => ⟨S1x1x5632, .f32⟩
  | .hbm, ⟨59, _⟩ => ⟨S16x2048x5632, .f32⟩
  | .hbm, ⟨60, _⟩ => ⟨S16x2048x5632, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S_, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S_, .f32⟩
  | .hbm, ⟨70, _⟩ => ⟨S16x2048x2816, .f32⟩
  | .hbm, ⟨71, _⟩ => ⟨S16x2048x2816, .f32⟩
  | .hbm, ⟨72, _⟩ => ⟨S16x2048x2816, .f32⟩
  | .hbm, ⟨73, _⟩ => ⟨S_, .f32⟩
  | .hbm, ⟨74, _⟩ => ⟨S16x2048x2816, .f32⟩
  | .hbm, ⟨75, _⟩ => ⟨S16x2048x2816, .f32⟩
  | .hbm, ⟨76, _⟩ => ⟨S_, .f32⟩
  | .hbm, ⟨77, _⟩ => ⟨S16x2048x2816, .f32⟩
  | .hbm, ⟨78, _⟩ => ⟨S16x2048x2816, .f32⟩
  | .hbm, ⟨79, _⟩ => ⟨S16x2048x2816, .f32⟩
  | .hbm, ⟨80, _⟩ => ⟨S16x2048x2816, .f32⟩
  | .hbm, ⟨81, _⟩ => ⟨S16x2048x1024, .f32⟩
  | .hbm, ⟨82, _⟩ => ⟨S16x2048x1024, .f32⟩
  | .hbm, ⟨83, _⟩ => ⟨S_, .f32⟩
  | .hbm, ⟨84, _⟩ => ⟨S16x2048, .f32⟩
  | .hbm, ⟨85, _⟩ => ⟨S16x2048x1, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S16x2048x1, .f32⟩
  | .hbm, ⟨93, _⟩ => ⟨S16x2048x1024, .f32⟩
  | .hbm, ⟨94, _⟩ => ⟨S16x2048x1024, .f32⟩
  | .hbm, ⟨95, _⟩ => ⟨S1x1x1024, .f32⟩
  | .hbm, ⟨96, _⟩ => ⟨S16x2048x1024, .f32⟩
  | .hbm, ⟨97, _⟩ => ⟨S16x2048x1024, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_cst_8 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== In.lean ====
abbrev S16x2048x1024 : Shape := ⟨3, ![16, 2048, 1024]⟩
abbrev S16x6x1024 : Shape := ⟨3, ![16, 6, 1024]⟩
abbrev S1024 : Shape := ⟨1, ![1024]⟩
abbrev S1024x1280 : Shape := ⟨2, ![1024, 1280]⟩
abbrev S1x1024 : Shape := ⟨2, ![1, 1024]⟩
abbrev S24x2048x256 : Shape := ⟨3, ![24, 2048, 256]⟩
abbrev S16x2048x256 : Shape := ⟨3, ![16, 2048, 256]⟩
abbrev S16x2048x384 : Shape := ⟨3, ![16, 2048, 384]⟩
abbrev S16x2048x128 : Shape := ⟨3, ![16, 2048, 128]⟩
abbrev S16x128x1024 : Shape := ⟨3, ![16, 128, 1024]⟩
abbrev S24x128x256 : Shape := ⟨3, ![24, 128, 256]⟩
abbrev S16x128x256 : Shape := ⟨3, ![16, 128, 256]⟩
abbrev S16x128x384 : Shape := ⟨3, ![16, 128, 384]⟩
abbrev S16x128x128 : Shape := ⟨3, ![16, 128, 128]⟩
abbrev S12x640x128 : Shape := ⟨3, ![12, 640, 128]⟩
abbrev S16x32x1024 : Shape := ⟨3, ![16, 32, 1024]⟩
abbrev S16x32 : Shape := ⟨2, ![16, 32]⟩
abbrev S16x32x1 : Shape := ⟨3, ![16, 32, 1]⟩
abbrev S1x1x1024 : Shape := ⟨3, ![1, 1, 1024]⟩
abbrev S16x1x1024 : Shape := ⟨3, ![16, 1, 1024]⟩
abbrev S512x1024 : Shape := ⟨2, ![512, 1024]⟩
abbrev S512x1280 : Shape := ⟨2, ![512, 1280]⟩
abbrev S512x256 : Shape := ⟨2, ![512, 256]⟩
abbrev S16x32x256 : Shape := ⟨3, ![16, 32, 256]⟩
abbrev S512x384 : Shape := ⟨2, ![512, 384]⟩
abbrev S16x32x384 : Shape := ⟨3, ![16, 32, 384]⟩
abbrev S512x128 : Shape := ⟨2, ![512, 128]⟩
abbrev S16x32x128 : Shape := ⟨3, ![16, 32, 128]⟩
abbrev S32x128 : Shape := ⟨2, ![32, 128]⟩
abbrev S1x32x128 : Shape := ⟨3, ![1, 32, 128]⟩
abbrev S1x16x128 : Shape := ⟨3, ![1, 16, 128]⟩
abbrev S16x128 : Shape := ⟨2, ![16, 128]⟩

abbrev nBuf : Space → Nat
  | .hbm => 11
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x1280, .f32⟩
  | .hbm, ⟨4, _⟩ => ⟨S1x1024, .f32⟩
  | .hbm, ⟨5, _⟩ => ⟨S1024x1280, .bf16⟩
  | .hbm, ⟨6, _⟩ => ⟨S24x2048x256, .bf16⟩
  | .hbm, ⟨7, _⟩ => ⟨S16x2048x256, .bf16⟩
  | .hbm, ⟨8, _⟩ => ⟨S16x2048x384, .bf16⟩
  | .hbm, ⟨9, _⟩ => ⟨S16x2048x128, .bf16⟩
  | .hbm, ⟨10, _⟩ => ⟨S16x2048x128, .bf16⟩
  | .local _ .vmem, ⟨0, _⟩ => ⟨S16x128x1024, .f32⟩
  | .local _ .vmem, ⟨1, _⟩ => ⟨S16x128x1024, .f32⟩
  | .local _ .vmem, ⟨2, _⟩ => ⟨S16x6x1024, .f32⟩
  | .local _ .vmem, ⟨3, _⟩ => ⟨S1x1024, .f32⟩
  | .local _ .vmem, ⟨4, _⟩ => ⟨S1024x1280, .bf16⟩
  | .local _ .vmem, ⟨5, _⟩ => ⟨S24x128x256, .bf16⟩
  | .local _ .vmem, ⟨6, _⟩ => ⟨S24x128x256, .bf16⟩
  | .local _ .vmem, ⟨7, _⟩ => ⟨S16x128x256, .bf16⟩
  | .local _ .vmem, ⟨8, _⟩ => ⟨S16x128x256, .bf16⟩
  | .local _ .vmem, ⟨9, _⟩ => ⟨S16x128x384, .bf16⟩
  | .local _ .vmem, ⟨10, _⟩ => ⟨S16x128x384, .bf16⟩
  | .local _ .vmem, ⟨11, _⟩ => ⟨S16x128x128, .bf16⟩
  | .local _ .vmem, ⟨12, _⟩ => ⟨S16x128x128, .bf16⟩
  | .local _ .vmem, ⟨13, _⟩ => ⟨S16x128x128, .bf16⟩
  | .local _ .vmem, ⟨14, _⟩ => ⟨S16x128x128, .bf16⟩
  | .local _ .vmem, ⟨15, _⟩ => ⟨S12x640x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S24x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InIdeal.lean ====
variable {F : FTy → Type} [FloatOps F]
-- ==== InReferenceIdeal.lean ====
abbrev S16x2048x1024 : Shape := ⟨3, ![16, 2048, 1024]⟩
abbrev S16x6x1024 : Shape := ⟨3, ![16, 6, 1024]⟩
abbrev S1024 : Shape := ⟨1, ![1024]⟩
abbrev S1024x1280 : Shape := ⟨2, ![1024, 1280]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1280 : Shape := ⟨3, ![16, 2048, 1280]⟩
abbrev S16x2048x384 : Shape := ⟨3, ![16, 2048, 384]⟩
abbrev S16x2048x256 : Shape := ⟨3, ![16, 2048, 256]⟩
abbrev S16x2048x128 : Shape := ⟨3, ![16, 2048, 128]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x1280, .f32⟩
  | .hbm, ⟨4, _⟩ => ⟨S16x1x1024, .f32⟩
  | .hbm, ⟨5, _⟩ => ⟨S16x1x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1280, .f32⟩
  | .hbm, ⟨30, _⟩ => ⟨S16x2048x384, .f32⟩
  | .hbm, ⟨31, _⟩ => ⟨S16x2048x256, .f32⟩
  | .hbm, ⟨32, _⟩ => ⟨S16x2048x384, .f32⟩
  | .hbm, ⟨33, _⟩ => ⟨S16x2048x128, .f32⟩
  | .hbm, ⟨34, _⟩ => ⟨S16x2048x128, .f32⟩
  | .hbm, ⟨35, _⟩ => ⟨S_, .f32⟩
  | .hbm, ⟨36, _⟩ => ⟨S16x2048x384, .f32⟩
  | .hbm, ⟨37, _⟩ => ⟨S16x2048x384, .f32⟩
  | .hbm, ⟨38, _⟩ => ⟨S16x2048x256, .bf16⟩
  | .hbm, ⟨39, _⟩ => ⟨S16x2048x384, .bf16⟩
  | .hbm, ⟨40, _⟩ => ⟨S16x2048x128, .bf16⟩
  | .hbm, ⟨41, _⟩ => ⟨S16x2048x128, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Ada.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S16x1024 : Shape := ⟨2, ![16, 1024]⟩
abbrev S2x1024x6144 : Shape := ⟨3, ![2, 1024, 6144]⟩
abbrev S2x6144 : Shape := ⟨2, ![2, 6144]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 22
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S1x1024x6144, .f32⟩
  | .hbm, ⟨4, _⟩ => ⟨S1024x6144, .f32⟩
  | .hbm, ⟨5, _⟩ => ⟨S16x6144, .f32⟩
  | .hbm, ⟨6, _⟩ => ⟨S1x6144, .f32⟩
  | .hbm, ⟨7, _⟩ => ⟨S6144, .f32⟩
  | .hbm, ⟨8, _⟩ => ⟨S1x6144, .f32⟩
  | .hbm, ⟨9, _⟩ => ⟨S16x6144, .f32⟩
  | .hbm, ⟨10, _⟩ => ⟨S16x6144, .f32⟩
  | .hbm, ⟨11, _⟩ => ⟨S1x1024x6144, .f32⟩
  | .hbm, ⟨12, _⟩ => ⟨S1024x6144, .f32⟩
  | .hbm, ⟨13, _⟩ => ⟨S16x6144, .f32⟩
  | .hbm, ⟨14, _⟩ => ⟨S1x6144, .f32⟩
  | .hbm, ⟨15, _⟩ => ⟨S6144, .f32⟩
  | .hbm, ⟨16, _⟩ => ⟨S1x6144, .f32⟩
  | .hbm, ⟨17, _⟩ => ⟨S16x6144, .f32⟩
  | .hbm, ⟨18, _⟩ => ⟨S16x6144, .f32⟩
  | .hbm, ⟨19, _⟩ => ⟨S1x16x6144, .f32⟩
  | .hbm, ⟨20, _⟩ => ⟨S1x16x6144, .f32⟩
  | .hbm, ⟨21, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Proof.Block.lean ====
/- One block of the window attention at one entry: 128 queries of six heads against their span of 384 keys, and the same for the
   rows of the Fourier mixer. The printed payloads of the kernel are read at an index and said in plain formulas. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Att

open Cert.KernelIdeal Cert.KernelIdeal.Gen Idealize.ShloMosaic Idealize.SL.Sem

/-- The column of the query and of the output that holds entry `d` of head `3 * kh + g`. -/
abbrev qcol (kh : Fin 2) (g : Fin 3) (d : Fin 64) : Fin 384 := ⟨192 * kh.val + 64 * g.val + d.val, by omega⟩

/-- The column of the keys and of the values that holds entry `d` of key head `kh`. -/
abbrev kcol (kh : Fin 2) (d : Fin 64) : Fin 128 := ⟨64 * kh.val + d.val, by omega⟩

/-- The row of the stacked queries of one key head that holds query `r` of the group's head `g`. -/
abbrev brow (g : Fin 3) (r : Fin 128) : Fin 384 := ⟨128 * g.val + r.val, by omega⟩

/-- The greatest score of a row, the sink included. -/
def rowMax (s : Fin 384 → EReal) (sink : EReal) : EReal := max (Finset.univ.fold max ⊥ s) sink

/-- The softmax's denominator of a row, the sink included. -/
def rowDen (s : Fin 384 → EReal) (sink : EReal) : EReal :=
  ∑ j, Ideal.exp (s j - rowMax s sink) + Ideal.exp (sink - rowMax s sink)

/-- One output entry: the exponentials of the scores against a column of the values, over the denominator. -/
def attRow (s : Fin 384 → EReal) (sink : EReal) (v : Fin 384 → EReal) : EReal :=
  Ideal.div (∑ j, Ideal.exp (s j - rowMax s sink) * v j) (rowDen s sink)

theorem ofBits_neg_infinity : Ideal.ofBits .f32 0xFF800000#32 = ⊥ := by simp [Ideal.ofBits, Ideal.ieee]

/-- The scores of the first key head's rows. -/
theorem score0_apply (q : FVec Ideal S128x384 .bf16) (k : Vec Ideal S384x128 .bf16) (b : Vec Ideal S1x384x384 .f32)
    (g : Fin 3) (r : Fin 128) (j : Fin 384) :
    k0_pay9 (F := Ideal) q k b (ix2 (brow g r) j)
      = ∑ d : Fin 64, q (ix2 r (qcol 0 g d)) * k (ix2 j (kcol 0 d)) + b (ix3 0 (brow g r) j) := by
  unfold k0_pay9
  pointwise
  congr 1
  refine Finset.sum_congr rfl fun d _ => ?_
  congr 1
  · fin_cases g <;> (simp only [brow, qcol]; split_ifs <;> first | omega | (congr 2 <;> (apply Fin.ext; simp; try omega)))
  · congr 2; apply Fin.ext; simp

/-- The scores of the second key head's rows. -/
theorem score1_apply (q : FVec Ideal S128x384 .bf16) (k : Vec Ideal S384x128 .bf16) (b : Vec Ideal S1x384x384 .f32)
    (g : Fin 3) (r : Fin 128) (j : Fin 384) :
    k0_pay10 (F := Ideal) q k b (ix2 (brow g r) j)
      = ∑ d : Fin 64, q (ix2 r (qcol 1 g d)) * k (ix2 j (kcol 1 d)) + b (ix3 0 (brow g r) j) := by
  unfold k0_pay10
  pointwise
  congr 1
  refine Finset.sum_congr rfl fun d _ => ?_
  congr 1
  · fin_cases g <;> (simp only [brow, qcol]; split_ifs <;> first | omega | (congr 2 <;> (apply Fin.ext; simp; try omega)))

/-- The block's output from its scores, sinks and values. -/
def outBlk (s0 s1 : FVec Ideal S384x384 .f32) (u0 u1 : FVec Ideal S384x1 .f32) (v : Vec Ideal S384x128 .bf16) :
    FVec Ideal S1x128x384 .bf16 :=
  k0_pay3 (k0_pay23 u0 v (k0_pay15 u0 s0) (k0_pay19 u0 s0)) (k0_pay24 u1 v (k0_pay16 u1 s1) (k0_pay20 u1 s1))

theorem head0_apply (s : FVec Ideal S384x384 .f32) (u : FVec Ideal S384x1 .f32) (v : Vec Ideal S384x128 .bf16) (i : Fin 384)
    (d : Fin 64) :
    k0_pay23 (F := Ideal) u v (k0_pay15 u s) (k0_pay19 u s) (ix2 i d)
      = attRow (fun j => s (ix2 i j)) (u (ix2 i 0)) (fun j => v (ix2 j (kcol 0 d))) := by
  unfold k0_pay23 k0_pay19 k0_pay15 attRow rowDen rowMax
  pointwise
  simp only [ofBits_neg_infinity, kcol]
  congr 1
  refine Finset.sum_congr rfl fun j _ => ?_
  congr 3
  apply Fin.ext; simp

theorem head1_apply (s : FVec Ideal S384x384 .f32) (u : FVec Ideal S384x1 .f32) (v : Vec Ideal S384x128 .bf16) (i : Fin 384)
    (d : Fin 64) :
    k0_pay24 (F := Ideal) u v (k0_pay16 u s) (k0_pay20 u s) (ix2 i d)
      = attRow (fun j => s (ix2 i j)) (u (ix2 i 0)) (fun j => v (ix2 j (kcol 1 d))) := by
  unfold k0_pay24 k0_pay20 k0_pay16 attRow rowDen rowMax
  pointwise
  simp only [ofBits_neg_infinity, kcol]
  rfl

/-- The block's output at an entry of a head of the first key head. -/
theorem outBlk_apply0 (s0 s1 : FVec Ideal S384x384 .f32) (u0 u1 : FVec Ideal S384x1 .f32) (v : Vec Ideal S384x128 .bf16)
    (g : Fin 3) (r : Fin 128) (d : Fin 64) :
    outBlk s0 s1 u0 u1 v (ix3 0 r (qcol 0 g d))
      = attRow (fun j => s0 (ix2 (brow g r) j)) (u0 (ix2 (brow g r) 0)) (fun j => v (ix2 j (kcol 0 d))) := by
  rw [← head0_apply]
  unfold outBlk
  generalize k0_pay23 u0 v (k0_pay15 u0 s0) (k0_pay19 u0 s0) = A
  generalize k0_pay24 u1 v (k0_pay16 u1 s1) (k0_pay20 u1 s1) = B
  unfold k0_pay3
  pointwise
  fin_cases g <;> (simp only [brow, qcol]; split_ifs <;> first | omega | (congr 2 <;> (apply Fin.ext; simp; try omega)))

/-- The block's output at an entry of a head of the second key head. -/
theorem outBlk_apply1 (s0 s1 : FVec Ideal S384x384 .f32) (u0 u1 : FVec Ideal S384x1 .f32) (v : Vec Ideal S384x128 .bf16)
    (g : Fin 3) (r : Fin 128) (d : Fin 64) :
    outBlk s0 s1 u0 u1 v (ix3 0 r (qcol 1 g d))
      = attRow (fun j => s1 (ix2 (brow g r) j)) (u1 (ix2 (brow g r) 0)) (fun j => v (ix2 j (kcol 1 d))) := by
  rw [← head1_apply]
  unfold outBlk
  generalize k0_pay23 u0 v (k0_pay15 u0 s0) (k0_pay19 u0 s0) = A
  generalize k0_pay24 u1 v (k0_pay16 u1 s1) (k0_pay20 u1 s1) = B
  unfold k0_pay3
  pointwise
  fin_cases g <;> (simp only [brow, qcol]; split_ifs <;> first | omega | (congr 2 <;> (apply Fin.ext; simp; try omega)))

/-- The named constant that hides a score is minus infinity. -/
theorem named_neg_inf : Named.named (F := Ideal) (φ := .f32) κ "neg_inf" 0xF149F2CA#32 = (⊥ : EReal) := rfl

/-- Scores with the keys before the sequence's start left out, as the first block masks them. -/
def maskFirst (s : FVec Ideal S384x384 .f32) : FVec Ideal S384x384 .f32 :=
  select (cmpi .sge (iota .tc S384x384 32 [1] iota_S384x384_d1_w32) (broadcast S384x384 128#32)) s
    (broadcast S384x384 (Named.named (F := Ideal) κ "neg_inf" 0xF149F2CA#32))

/-- Scores with the keys after the sequence's end left out, as the last block masks them. -/
def maskLast (s : FVec Ideal S384x384 .f32) : FVec Ideal S384x384 .f32 :=
  select (cmpi .slt (iota .tc S384x384 32 [1] iota_S384x384_d1_w32) (broadcast S384x384 256#32)) s
    (broadcast S384x384 (Named.named (F := Ideal) κ "neg_inf" 0xF149F2CA#32))

theorem maskFirst_apply (s : FVec Ideal S384x384 .f32) (i j : Fin 384) :
    maskFirst s (ix2 i j) = if 128 ≤ j.val then s (ix2 i j) else ⊥ := by
  unfold maskFirst
  pointwise
  have h : ∀ j : Fin 384, IntOp.cmpi .sge (BitVec.ofNat 32 j.val) 128#32 = BitVec.ofBool (decide (128 ≤ j.val)) := by
    decide +kernel
  rw [h, Scalar.select_decide, named_neg_inf]

theorem maskLast_apply (s : FVec Ideal S384x384 .f32) (i j : Fin 384) :
    maskLast s (ix2 i j) = if j.val < 256 then s (ix2 i j) else ⊥ := by
  unfold maskLast
  pointwise
  have h : ∀ j : Fin 384, IntOp.cmpi .slt (BitVec.ofNat 32 j.val) 256#32 = BitVec.ofBool (decide (j.val < 256)) := by
    decide +kernel
  rw [h, Scalar.select_decide, named_neg_inf]

/-- The head of each row of the stacked queries, as the kernel divides it out of the row. -/
theorem member_word : ∀ i : Fin 384, (Scalar.select
          (IntOp.andi
            (IntOp.cmpi CmpIPredicate.ne
              (IntOp.subi (BitVec.setWidth 32 (IntOp.cmpi CmpIPredicate.sgt (BitVec.ofNat 32 i.val) 0#32))
                (BitVec.setWidth 32 (IntOp.cmpi CmpIPredicate.slt (BitVec.ofNat 32 i.val) 0#32)))
              (Scalar.subi 1#32 0#32))
            (IntOp.cmpi CmpIPredicate.ne (IntOp.remsi ArithUnit.vector (BitVec.ofNat 32 i.val) 128#32) 0#32))
          (IntOp.subi (IntOp.divsi ArithUnit.vector (BitVec.ofNat 32 i.val) 128#32) 1#32)
          (IntOp.divsi ArithUnit.vector (BitVec.ofNat 32 i.val) 128#32)) = BitVec.ofNat 32 (i.val / 128) := by decide +kernel

/-- The column of sinks of the first key head: each row's is its head's. -/
theorem sink_apply0 (a b c : Elt Ideal .f32) (g : Fin 3) (r : Fin 128) :
    k0_pay39 (F := Ideal) (iota Kind.tc S384x1 32 [0] iota_S384x1_d0_w32) 128#32 k0_pay36 k0_pay37 1#32 0#32 a b c
      (ix2 (brow g r) 0) = ![a, b, c] g := by
  unfold k0_pay39 k0_pay38 k0_pay36 k0_pay37
  pointwise
  have h2 : (brow g r).val / 128 = g.val := by simp only [brow]; omega
  simp only [member_word (brow g r), h2]
  fin_cases g <;> rfl

/-- The column of sinks of the second key head: each row's is its head's. -/
theorem sink_apply1 (a b c : Elt Ideal .f32) (g : Fin 3) (r : Fin 128) :
    k0_pay40 (F := Ideal) (iota Kind.tc S384x1 32 [0] iota_S384x1_d0_w32) 128#32 k0_pay36 k0_pay37 1#32 0#32 a b c
      (ix2 (brow g r) 0) = ![a, b, c] g := by
  unfold k0_pay40 k0_pay38 k0_pay36 k0_pay37
  pointwise
  have h2 : (brow g r).val / 128 = g.val := by simp only [brow]; omega
  simp only [member_word (brow g r), h2]
  fin_cases g <;> rfl

/-- A tile of the Fourier mixer's output: the two tables' rows against the two halves of the scratch. -/
theorem fourierTile_apply (a : Vec Ideal S128x2048 .bf16) (p : Vec Ideal S2048x256 .bf16) (a' : Vec Ideal S128x2048 .bf16)
    (p' : Vec Ideal S2048x256 .bf16) (r : Fin 128) (c : Fin 256) :
    k0_pay48 (F := Ideal) a p a' p' (ix3 0 r c) = ∑ x, a (ix2 r x) * p (ix2 x c) + ∑ x, a' (ix2 r x) * p' (ix2 x c) := by
  unfold k0_pay48
  pointwise

/-- A half of the Fourier mixer's scratch: the input against the product of a table and the heads' weights. -/
theorem scratch_apply (x : Vec Ideal S1x2048x256 .bf16) (t w : Vec Ideal S256x256 .bf16) (r : Fin 2048) (c : Fin 256) :
    k0_pay27 (F := Ideal) x t w (ix2 r c) = ∑ i, x (ix3 0 r i) * ∑ j, t (ix2 i j) * w (ix2 j c) := by
  unfold k0_pay27 k0_pay26
  pointwise

/-- The other half of the scratch is the same function of its operands. -/
theorem scratch_eq (x : Vec Ideal S1x2048x256 .bf16) (t w : Vec Ideal S256x256 .bf16) :
    k0_pay28 (F := Ideal) x t w = k0_pay27 x t w := rfl

/-- The kernel's printed copies of the block, each the one function of its operands. -/
theorem first_eq (q : Vec Ideal S1x128x384 .bf16) (k v : Vec Ideal S384x128 .bf16) (b0 b1 : Vec Ideal S1x384x384 .f32)
    (u0 u1 : FVec Ideal S384x1 .f32) :
    k0_pay60 (F := Ideal) v
        (k0_pay53 (k0_pay43 (iota Kind.tc S384x384 32 [1] iota_S384x384_d1_w32) (k0_pay41 q) k b0)
          (k0_pay49 u0 (k0_pay43 (iota Kind.tc S384x384 32 [1] iota_S384x384_d1_w32) (k0_pay41 q) k b0)))
        (k0_pay54 (k0_pay44 (iota Kind.tc S384x384 32 [1] iota_S384x384_d1_w32) (k0_pay41 q) k b1)
          (k0_pay50 u1 (k0_pay44 (iota Kind.tc S384x384 32 [1] iota_S384x384_d1_w32) (k0_pay41 q) k b1)))
        (k0_pay58 u0 (k0_pay43 (iota Kind.tc S384x384 32 [1] iota_S384x384_d1_w32) (k0_pay41 q) k b0)
          (k0_pay49 u0 (k0_pay43 (iota Kind.tc S384x384 32 [1] iota_S384x384_d1_w32) (k0_pay41 q) k b0)))
        (k0_pay59 u1 (k0_pay44 (iota Kind.tc S384x384 32 [1] iota_S384x384_d1_w32) (k0_pay41 q) k b1)
          (k0_pay50 u1 (k0_pay44 (iota Kind.tc S384x384 32 [1] iota_S384x384_d1_w32) (k0_pay41 q) k b1)))
      = outBlk (maskFirst (k0_pay9 (k0_pay41 q) k b0)) (maskFirst (k0_pay10 (k0_pay41 q) k b1)) u0 u1 v := rfl

theorem last_eq (q : Vec Ideal S1x128x384 .bf16) (k v : Vec Ideal S384x128 .bf16) (b0 b1 : Vec Ideal S1x384x384 .f32)
    (u0 u1 : FVec Ideal S384x1 .f32) :
    k0_pay1 (F := Ideal) (k0_pay61 u0 u1 v
        (k0_pay51 u0 (k0_pay46 (iota Kind.tc S384x384 32 [1] iota_S384x384_d1_w32) (k0_pay45 (k0_pay42 q) k b0)))
        (k0_pay52 u1 (k0_pay47 (iota Kind.tc S384x384 32 [1] iota_S384x384_d1_w32) (k0_pay42 q) k b1))
        (k0_pay55 u0 (k0_pay46 (iota Kind.tc S384x384 32 [1] iota_S384x384_d1_w32) (k0_pay45 (k0_pay42 q) k b0)))
        (k0_pay56 u1 (k0_pay47 (iota Kind.tc S384x384 32 [1] iota_S384x384_d1_w32) (k0_pay42 q) k b1)))
      = outBlk (maskLast (k0_pay9 (k0_pay41 q) k b0)) (maskLast (k0_pay10 (k0_pay41 q) k b1)) u0 u1 v := rfl

end Cert.KernelIdeal.Att

end
-- ==== Proof.Pieces.lean ====
/- What the kernel's stores hold: every stored block of the attention's output, and every stored tile of the Fourier mixer's,
   is a block of one function of the operands' contents. -/
module

public import proofs.«01_k».proof.Proof.Block
public import proofs.«01_k».proof.Proof.Gen.KernelIdeal.Loops
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem

/-- Row `128 * n + r` of the sequence. -/
abbrev srow (n : Fin 16) (r : Fin 128) : Fin 2048 := ⟨128 * n.val + r.val, by omega⟩

/-- Row `128 * n + j` of the padded keys and values. -/
abbrev prow (n : Fin 16) (j : Fin 384) : Fin 2304 := ⟨128 * n.val + j.val, by omega⟩

/-- Whether key `j` of block `n`'s span lies in the sequence. -/
abbrev inSeq (n : Fin 16) (j : Fin 384) : Prop := 128 ≤ 128 * n.val + j.val ∧ 128 * n.val + j.val < 2176

/-- The scores of one query against its span, from the queries, the padded keys and the table of biases. -/
def scoreAt (q : Vec Ideal S1x2048x384 .bf16) (kp : Vec Ideal S2304x128 .bf16) (b : Vec Ideal S2x384x384 .f32)
    (n : Fin 16) (r : Fin 128) (kh : Fin 2) (g : Fin 3) (j : Fin 384) : EReal :=
  if inSeq n j then ∑ e : Fin 64, q (ix3 0 (srow n r) (qcol kh g e)) * kp (ix2 (prow n j) (kcol kh e)) + b (ix3 kh (brow g r) j)
  else ⊥

/-- One entry of the attention's output. -/
def attAt (q : Vec Ideal S1x2048x384 .bf16) (kp vp : Vec Ideal S2304x128 .bf16) (b : Vec Ideal S2x384x384 .f32)
    (sink : Fin 2 → Fin 3 → EReal) (n : Fin 16) (r : Fin 128) (kh : Fin 2) (g : Fin 3) (d : Fin 64) : EReal :=
  attRow (scoreAt q kp b n r kh g) (sink kh g) (fun j => vp (ix2 (prow n j) (kcol kh d)))

/-- The attention's output of one batch. -/
def attG (q : Vec Ideal S1x2048x384 .bf16) (kp vp : Vec Ideal S2304x128 .bf16) (b : Vec Ideal S2x384x384 .f32)
    (sink : Fin 2 → Fin 3 → EReal) : Vec Ideal S1x2048x384 .bf16 := fun y =>
  attAt q kp vp b sink
    ⟨(y 1).val / 128, by have h : (y 1).val < 2048 := (y 1).isLt; omega⟩
    ⟨(y 1).val % 128, by omega⟩
    ⟨(y 2).val / 192, by have h : (y 2).val < 384 := (y 2).isLt; omega⟩
    ⟨(y 2).val % 192 / 64, by omega⟩ ⟨(y 2).val % 64, by omega⟩

theorem attG_apply (q : Vec Ideal S1x2048x384 .bf16) (kp vp : Vec Ideal S2304x128 .bf16) (b : Vec Ideal S2x384x384 .f32)
    (sink : Fin 2 → Fin 3 → EReal) (n : Fin 16) (r : Fin 128) (kh : Fin 2) (g : Fin 3) (d : Fin 64) :
    attG q kp vp b sink (ix3 0 (srow n r) (qcol kh g d)) = attAt q kp vp b sink n r kh g d := by
  unfold attG
  congr 1 <;> apply Fin.ext <;> (try simp [ix3]) <;> omega

/-- Every entry of a row lies in some head of some key head. -/
theorem qcol_cases (c : Fin 384) : ∃ kh g d, c = qcol kh g d :=
  ⟨⟨c.val / 192, by omega⟩, ⟨c.val % 192 / 64, by omega⟩, ⟨c.val % 64, by omega⟩, Fin.ext (by simp only [qcol]; omega)⟩

/-- A block whose loads are the operands' at block `n` holds the attention's output there. -/
theorem outBlk_eq (q : Vec Ideal S1x2048x384 .bf16) (kp vp : Vec Ideal S2304x128 .bf16) (b : Vec Ideal S2x384x384 .f32)
    (sink : Fin 2 → Fin 3 → EReal) (n : Fin 16)
    (lq : Vec Ideal S1x128x384 .bf16) (lk lv : Vec Ideal S384x128 .bf16) (b0 b1 : Vec Ideal S1x384x384 .f32)
    (u0 u1 : FVec Ideal S384x1 .f32) (m0 m1 : FVec Ideal S384x384 .f32)
    (hq : ∀ r c, lq (ix3 0 r c) = q (ix3 0 (srow n r) c)) (hk : ∀ j c, lk (ix2 j c) = kp (ix2 (prow n j) c))
    (hv : ∀ j c, lv (ix2 j c) = vp (ix2 (prow n j) c))
    (hb0 : ∀ i j, b0 (ix3 0 i j) = b (ix3 0 i j)) (hb1 : ∀ i j, b1 (ix3 0 i j) = b (ix3 1 i j))
    (hu0 : ∀ g r, u0 (ix2 (brow g r) 0) = sink 0 g) (hu1 : ∀ g r, u1 (ix2 (brow g r) 0) = sink 1 g)
    (hm0 : ∀ i j, m0 (ix2 i j) = if inSeq n j then k0_pay9 (F := Ideal) (k0_pay41 lq) lk b0 (ix2 i j) else ⊥)
    (hm1 : ∀ i j, m1 (ix2 i j) = if inSeq n j then k0_pay10 (F := Ideal) (k0_pay41 lq) lk b1 (ix2 i j) else ⊥)
    (r : Fin 128) (kh : Fin 2) (g : Fin 3) (d : Fin 64) :
    outBlk m0 m1 u0 u1 lv (ix3 0 r (qcol kh g d)) = attAt q kp vp b sink n r kh g d := by
  have e : ∀ r c, k0_pay41 (F := Ideal) lq (ix2 r c) = q (ix3 0 (srow n r) c) := fun r c => by
    rw [← hq]; unfold k0_pay41; pointwise
  unfold attAt
  fin_cases kh
  · refine (outBlk_apply0 m0 m1 u0 u1 lv g r d).trans ?_
    simp only [hv, hu0]
    congr 1
    funext j
    rw [hm0, score0_apply]
    simp only [e, hk, hb0]
    rfl
  · refine (outBlk_apply1 m0 m1 u0 u1 lv g r d).trans ?_
    simp only [hv, hu1]
    congr 1
    funext j
    rw [hm1, score1_apply]
    simp only [e, hk, hb1]
    rfl

section Loads

variable {κ : Kind} {sp : Space}

theorem load_q (v : View sig κ sp S1x2048x384 .bf16) (X : v.ty.Contents (Elt Ideal)) (n : Fin 16) (off : Fin 3 → ℕ)
    (h : off = ![0, 128 * n.val, 0]) (inb) (r : Fin 128) (c : Fin 384) :
    v.readAt (Elt Ideal) (Rect.unit (s := S1x2048x384) off S1x128x384.size inb).toLoadRect X (ix3 0 r c)
      = v.read (Elt Ideal) X (ix3 0 (srow n r) c) := by
  subst h
  rw [View.readAt_apply]
  congr 1
  funext a
  fin_cases a <;> apply Fin.ext <;> simp [LoadRect.idx, Rect.toLoadRect, Rect.unit, ix3]

theorem load_k (v : View sig κ sp S2304x128 .bf16) (X : v.ty.Contents (Elt Ideal)) (n : Fin 16) (off : Fin 2 → ℕ)
    (h : off = ![128 * n.val, 0]) (inb) (j : Fin 384) (c : Fin 128) :
    v.readAt (Elt Ideal) (Rect.unit (s := S2304x128) off S384x128.size inb).toLoadRect X (ix2 j c)
      = v.read (Elt Ideal) X (ix2 (prow n j) c) := by
  subst h
  rw [View.readAt_apply]
  congr 1
  funext a
  fin_cases a <;> apply Fin.ext <;> simp [LoadRect.idx, Rect.toLoadRect, Rect.unit, ix2]

theorem load_b (v : View sig κ sp S2x384x384 .f32) (X : v.ty.Contents (Elt Ideal)) (kh : Fin 2) (off : Fin 3 → ℕ)
    (h : off = ![kh.val, 0, 0]) (inb) (i j : Fin 384) :
    v.readAt (Elt Ideal) (Rect.unit (s := S2x384x384) off S1x384x384.size inb).toLoadRect X (ix3 0 i j)
      = v.read (Elt Ideal) X (ix3 kh i j) := by
  subst h
  rw [View.readAt_apply]
  congr 1
  funext a
  fin_cases a <;> apply Fin.ext <;> simp [LoadRect.idx, Rect.toLoadRect, Rect.unit, ix3]

end Loads

/-- The stored block's place in the output. -/
theorem emb_out (n : Fin 16) (off : Fin 3 → ℕ) (h : off = ![0, 128 * n.val, 0]) (inb) (r : Fin 128) (c : Fin 384) :
    (Rect.unit (s := S1x2048x384) off S1x128x384.size inb).emb (ix3 0 r c) = ix3 0 (srow n r) c := by
  subst h
  funext a
  fin_cases a <;> apply Fin.ext <;> simp [Rect.emb, Rect.unit, ix3]

/-- A block stored at block `n`'s rows is a block of the attention's output, if it is so entry by entry. -/
theorem piece_of_apply (G : Vec Ideal S1x2048x384 .bf16) (n : Fin 16) (off : Fin 3 → ℕ) (h : off = ![0, 128 * n.val, 0]) (inb)
    (w : FVec Ideal S1x128x384 .bf16)
    (hw : ∀ r kh g d, w (ix3 0 r (qcol kh g d)) = G (ix3 0 (srow n r) (qcol kh g d)))
    (x : (Rect.unit (s := S1x2048x384) off S1x128x384.size inb).shape.Idx) :
    w x = G ((Rect.unit (s := S1x2048x384) off S1x128x384.size inb).emb x) := by
  obtain ⟨a, r, c, rfl⟩ : ∃ (a : Fin 1) (r : Fin 128) (c : Fin 384), x = ix3 a r c := ⟨x 0, x 1, x 2, eq_ix3 x⟩
  obtain rfl : a = 0 := Subsingleton.elim _ _
  obtain ⟨kh, g, d, rfl⟩ := qcol_cases c
  rw [emb_out n off h inb]
  exact hw r kh g d

/-- A trip of the loop: its two stored blocks are blocks of the attention's output. -/
theorem trip_out (𝒱 : Variants) (c : Dev nD) (bd : Option 𝒱.V) (i : grid0.Coords) (arg1 : Memref sig .tc .smem S6 .f32) (harg1 : arg1.IsWhole) (arg2 : Memref sig .tc .vmem S1x2048x384 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x384x384 .f32) (harg5 : arg5.IsWhole) (arg6 : Memref sig .tc .vmem S1x2048x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S1x2048x384 .bf16) (harg12 : arg12.IsWhole) (arg13 : Memref sig .tc .vmem S1x2048x256 .bf16) (harg13 : arg13.IsWhole) (arg14 : Memref sig .tc .vmem S2304x128 .bf16) (harg14 : arg14.IsWhole) (arg15 : Memref sig .tc .vmem S2304x128 .bf16) (harg15 : arg15.IsWhole) (arg16 : Memref sig .tc .vmem S4096x256 .bf16) (harg16 : arg16.IsWhole) (v87 : FVec Ideal S384x1 .f32) (v99 : FVec Ideal S384x1 .f32) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg14 : BufTy.Contents (Elt Ideal) arg14.view.ty) (X_arg15 : BufTy.Contents (Elt Ideal) arg15.view.ty) (X_arg16 : BufTy.Contents (Elt Ideal) arg16.view.ty) (k : Fin k0_t1_loop.trips)
    (sink : Fin 2 → Fin 3 → EReal) (hu0 : ∀ g r, v87 (ix2 (brow g r) 0) = sink 0 g) (hu1 : ∀ g r, v99 (ix2 (brow g r) 0) = sink 1 g) :
    View.PiecesOf (attG (arg2.view.read (Elt Ideal) X_arg2) (arg14.view.read (Elt Ideal) X_arg14) (arg15.view.read (Elt Ideal) X_arg15)
      (arg5.view.read (Elt Ideal) X_arg5) sink) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v87 v99 X_arg2 X_arg5 X_arg10 X_arg11 X_arg14 X_arg15 X_arg16 k).1 := by
  have hk : k.val < 7 := Nat.lt_of_lt_of_le k.isLt k0_t1_abs.2.1
  have hoff1 : ∀ w : Fin 2, k0_off1 k (BitVec.ofNat 32 (1 + w.val)) = ![0, 128 * (2 * k.val + (1 + w.val)), 0] := fun w => by
    rw [k0_off1_eq]; congr 2; omega
  have hoff2 : ∀ w : Fin 2, k0_off2 k (BitVec.ofNat 32 (1 + w.val)) = ![128 * (2 * k.val + (1 + w.val)), 0] := fun w => by
    rw [k0_off2_eq]; congr 1; omega
  unfold trip_k0_t1
  exact ⟨fun x => piece_of_apply _ ⟨2 * k.val + 2, by omega⟩ _ (hoff1 ⟨1, by decide⟩) (k0_off1_inb k ⟨1, by decide⟩)
      (outBlk
        (k0_pay9 (k0_pay41 (arg2.view.readAt (Elt Ideal) (Rect.unit (s := S1x2048x384) (k0_off1 k 2#32) S1x128x384.size (k0_off1_inb k ⟨1, by decide⟩)).toLoadRect X_arg2))
          (arg14.view.readAt (Elt Ideal) (Rect.unit (s := S2304x128) (k0_off2 k 2#32) S384x128.size (k0_off2_inb k ⟨1, by decide⟩)).toLoadRect X_arg14)
          (arg5.view.readAt (Elt Ideal) (Rect.unit (s := S2x384x384) ![0, 0, 0] S1x384x384.size inb_S2x384x384_S1x384x384_0_0_0).toLoadRect X_arg5))
        (k0_pay10 (k0_pay41 (arg2.view.readAt (Elt Ideal) (Rect.unit (s := S1x2048x384) (k0_off1 k 2#32) S1x128x384.size (k0_off1_inb k ⟨1, by decide⟩)).toLoadRect X_arg2))
          (arg14.view.readAt (Elt Ideal) (Rect.unit (s := S2304x128) (k0_off2 k 2#32) S384x128.size (k0_off2_inb k ⟨1, by decide⟩)).toLoadRect X_arg14)
          (arg5.view.readAt (Elt Ideal) (Rect.unit (s := S2x384x384) ![1, 0, 0] S1x384x384.size inb_S2x384x384_S1x384x384_1_0_0).toLoadRect X_arg5))
        v87 v99
        (arg15.view.readAt (Elt Ideal) (Rect.unit (s := S2304x128) (k0_off2 k 2#32) S384x128.size (k0_off2_inb k ⟨1, by decide⟩)).toLoadRect X_arg15))
      (fun r kh g d => (outBlk_eq _ _ _ _ sink ⟨2 * k.val + 2, by omega⟩ _ _ _ _ _ v87 v99 _ _
        (load_q _ _ _ _ (hoff1 ⟨1, by decide⟩) _) (load_k _ _ _ _ (hoff2 ⟨1, by decide⟩) _) (load_k _ _ _ _ (hoff2 ⟨1, by decide⟩) _)
        (load_b _ _ 0 _ rfl _) (load_b _ _ 1 _ rfl _) hu0 hu1
        (fun i j => (if_pos (by dsimp only [inSeq]; omega)).symm) (fun i j => (if_pos (by dsimp only [inSeq]; omega)).symm) r kh g d).trans
        (attG_apply _ _ _ _ _ _ _ _ _ _).symm) x,
    fun x => piece_of_apply _ ⟨2 * k.val + 1, by omega⟩ _ (hoff1 ⟨0, by decide⟩) (k0_off1_inb k ⟨0, by decide⟩)
      (outBlk
        (k0_pay9 (k0_pay41 (arg2.view.readAt (Elt Ideal) (Rect.unit (s := S1x2048x384) (k0_off1 k 1#32) S1x128x384.size (k0_off1_inb k ⟨0, by decide⟩)).toLoadRect X_arg2))
          (arg14.view.readAt (Elt Ideal) (Rect.unit (s := S2304x128) (k0_off2 k 1#32) S384x128.size (k0_off2_inb k ⟨0, by decide⟩)).toLoadRect X_arg14)
          (arg5.view.readAt (Elt Ideal) (Rect.unit (s := S2x384x384) ![0, 0, 0] S1x384x384.size inb_S2x384x384_S1x384x384_0_0_0).toLoadRect X_arg5))
        (k0_pay10 (k0_pay41 (arg2.view.readAt (Elt Ideal) (Rect.unit (s := S1x2048x384) (k0_off1 k 1#32) S1x128x384.size (k0_off1_inb k ⟨0, by decide⟩)).toLoadRect X_arg2))
          (arg14.view.readAt (Elt Ideal) (Rect.unit (s := S2304x128) (k0_off2 k 1#32) S384x128.size (k0_off2_inb k ⟨0, by decide⟩)).toLoadRect X_arg14)
          (arg5.view.readAt (Elt Ideal) (Rect.unit (s := S2x384x384) ![1, 0, 0] S1x384x384.size inb_S2x384x384_S1x384x384_1_0_0).toLoadRect X_arg5))
        v87 v99
        (arg15.view.readAt (Elt Ideal) (Rect.unit (s := S2304x128) (k0_off2 k 1#32) S384x128.size (k0_off2_inb k ⟨0, by decide⟩)).toLoadRect X_arg15))
      (fun r kh g d => (outBlk_eq _ _ _ _ sink ⟨2 * k.val + 1, by omega⟩ _ _ _ _ _ v87 v99 _ _
        (load_q _ _ _ _ (hoff1 ⟨0, by decide⟩) _) (load_k _ _ _ _ (hoff2 ⟨0, by decide⟩) _) (load_k _ _ _ _ (hoff2 ⟨0, by decide⟩) _)
        (load_b _ _ 0 _ rfl _) (load_b _ _ 1 _ rfl _) hu0 hu1
        (fun i j => (if_pos (by dsimp only [inSeq]; omega)).symm) (fun i j => (if_pos (by dsimp only [inSeq]; omega)).symm) r kh g d).trans
        (attG_apply _ _ _ _ _ _ _ _ _ _).symm) x, trivial⟩

/-- One entry of the Fourier mixer's output: a row of each table against a column of each half of the scratch. -/
def fourAt (cs ns : Vec Ideal S2048x2048 .bf16) (p : Vec Ideal S4096x256 .bf16) (t : Fin 2048) (c : Fin 256) : EReal :=
  ∑ x : Fin 2048, cs (ix2 t x) * p (ix2 ⟨x.val, by omega⟩ c) + ∑ x : Fin 2048, ns (ix2 t x) * p (ix2 ⟨2048 + x.val, by omega⟩ c)

/-- The Fourier mixer's output of one batch. -/
def fourG (cs ns : Vec Ideal S2048x2048 .bf16) (p : Vec Ideal S4096x256 .bf16) : Vec Ideal S1x2048x256 .bf16 := fun y =>
  fourAt cs ns p (y 1) (y 2)

section Loads

variable {κ : Kind} {sp : Space}

theorem load_c (v : View sig κ sp S2048x2048 .bf16) (X : v.ty.Contents (Elt Ideal)) (n : Fin 16) (off : Fin 2 → ℕ)
    (h : off = ![128 * n.val, 0]) (inb) (r : Fin 128) (x : Fin 2048) :
    v.readAt (Elt Ideal) (Rect.unit (s := S2048x2048) off S128x2048.size inb).toLoadRect X (ix2 r x)
      = v.read (Elt Ideal) X (ix2 (srow n r) x) := by
  subst h
  rw [View.readAt_apply]
  congr 1
  funext a
  fin_cases a <;> apply Fin.ext <;> simp [LoadRect.idx, Rect.toLoadRect, Rect.unit, ix2]

theorem load_p0 (v : View sig κ sp S4096x256 .bf16) (X : v.ty.Contents (Elt Ideal)) (inb) (x : Fin 2048) (c : Fin 256) :
    v.readAt (Elt Ideal) (Rect.unit (s := S4096x256) ![0, 0] S2048x256.size inb).toLoadRect X (ix2 x c)
      = v.read (Elt Ideal) X (ix2 ⟨x.val, by omega⟩ c) := by
  rw [View.readAt_apply]
  congr 1
  funext a
  fin_cases a <;> apply Fin.ext <;> simp [LoadRect.idx, Rect.toLoadRect, Rect.unit, ix2]

theorem load_p1 (v : View sig κ sp S4096x256 .bf16) (X : v.ty.Contents (Elt Ideal)) (inb) (x : Fin 2048) (c : Fin 256) :
    v.readAt (Elt Ideal) (Rect.unit (s := S4096x256) ![2048, 0] S2048x256.size inb).toLoadRect X (ix2 x c)
      = v.read (Elt Ideal) X (ix2 ⟨2048 + x.val, by omega⟩ c) := by
  rw [View.readAt_apply]
  congr 1
  funext a
  fin_cases a <;> apply Fin.ext <;> simp [LoadRect.idx, Rect.toLoadRect, Rect.unit, ix2]

end Loads

/-- A tile whose loads are rows of the tables and the two halves of the scratch is a tile of the Fourier mixer's output. -/
theorem piece_four (cs ns : Vec Ideal S2048x2048 .bf16) (p : Vec Ideal S4096x256 .bf16) (n : Fin 16) (off : Fin 3 → ℕ)
    (h : off = ![0, 128 * n.val, 0]) (inb) (a a' : Vec Ideal S128x2048 .bf16) (w w' : Vec Ideal S2048x256 .bf16)
    (ha : ∀ r x, a (ix2 r x) = cs (ix2 (srow n r) x)) (ha' : ∀ r x, a' (ix2 r x) = ns (ix2 (srow n r) x))
    (hw : ∀ x c, w (ix2 x c) = p (ix2 ⟨x.val, by omega⟩ c)) (hw' : ∀ x c, w' (ix2 x c) = p (ix2 ⟨2048 + x.val, by omega⟩ c))
    (x : (Rect.unit (s := S1x2048x256) off S1x128x256.size inb).shape.Idx) :
    k0_pay48 (F := Ideal) a w a' w' x = fourG cs ns p ((Rect.unit (s := S1x2048x256) off S1x128x256.size inb).emb x) := by
  obtain ⟨z, r, c, rfl⟩ : ∃ (z : Fin 1) (r : Fin 128) (c : Fin 256), x = ix3 z r c := ⟨x 0, x 1, x 2, eq_ix3 x⟩
  obtain rfl : z = 0 := Subsingleton.elim _ _
  have he : (Rect.unit (s := S1x2048x256) off S1x128x256.size inb).emb (ix3 0 r c) = ix3 0 (srow n r) c := by
    subst h
    funext a
    fin_cases a <;> apply Fin.ext <;> simp [Rect.emb, Rect.unit, ix3]
  rw [he]
  refine (fourierTile_apply a w a' w' r c).trans ?_
  simp only [ha, ha', hw, hw']
  rfl

/-- A trip of the loop: its two stored tiles are tiles of the Fourier mixer's output. -/
theorem trip_four (𝒱 : Variants) (c : Dev nD) (bd : Option 𝒱.V) (i : grid0.Coords) (arg1 : Memref sig .tc .smem S6 .f32) (harg1 : arg1.IsWhole) (arg2 : Memref sig .tc .vmem S1x2048x384 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x384x384 .f32) (harg5 : arg5.IsWhole) (arg6 : Memref sig .tc .vmem S1x2048x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S1x2048x384 .bf16) (harg12 : arg12.IsWhole) (arg13 : Memref sig .tc .vmem S1x2048x256 .bf16) (harg13 : arg13.IsWhole) (arg14 : Memref sig .tc .vmem S2304x128 .bf16) (harg14 : arg14.IsWhole) (arg15 : Memref sig .tc .vmem S2304x128 .bf16) (harg15 : arg15.IsWhole) (arg16 : Memref sig .tc .vmem S4096x256 .bf16) (harg16 : arg16.IsWhole) (v87 : FVec Ideal S384x1 .f32) (v99 : FVec Ideal S384x1 .f32) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg14 : BufTy.Contents (Elt Ideal) arg14.view.ty) (X_arg15 : BufTy.Contents (Elt Ideal) arg15.view.ty) (X_arg16 : BufTy.Contents (Elt Ideal) arg16.view.ty) (k : Fin k0_t1_loop.trips) :
    View.PiecesOf (fourG (arg10.view.read (Elt Ideal) X_arg10) (arg11.view.read (Elt Ideal) X_arg11)
      (arg16.view.read (Elt Ideal) X_arg16)) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v87 v99 X_arg2 X_arg5 X_arg10 X_arg11 X_arg14 X_arg15 X_arg16 k).2.1 := by
  have hk : k.val < 7 := Nat.lt_of_lt_of_le k.isLt k0_t1_abs.2.1
  have hoff3 : ∀ w : Fin 2, k0_off3 k (BitVec.ofNat 32 (128 * w.val)) = ![128 * (2 * k.val + (2 + w.val)), 0] := fun w => by
    rw [k0_off3_eq]; congr 1; omega
  have hoff4 : ∀ w : Fin 2, k0_off4 k (BitVec.ofNat 32 (128 * w.val)) = ![0, 128 * (2 * k.val + (2 + w.val)), 0] := fun w => by
    rw [k0_off4_eq]; congr 2; omega
  unfold trip_k0_t1
  exact ⟨fun x => piece_four _ _ _ ⟨2 * k.val + 3, by omega⟩ _ (hoff4 ⟨1, by decide⟩) (k0_off4_inb k ⟨1, by decide⟩)
      (arg10.view.readAt (Elt Ideal) (Rect.unit (s := S2048x2048) (k0_off3 k 128#32) S128x2048.size (k0_off3_inb k ⟨1, by decide⟩)).toLoadRect X_arg10)
      (arg11.view.readAt (Elt Ideal) (Rect.unit (s := S2048x2048) (k0_off3 k 128#32) S128x2048.size (k0_off3_inb k ⟨1, by decide⟩)).toLoadRect X_arg11)
      (arg16.view.readAt (Elt Ideal) (Rect.unit (s := S4096x256) ![0, 0] S2048x256.size inb_S4096x256_S2048x256_0_0).toLoadRect X_arg16)
      (arg16.view.readAt (Elt Ideal) (Rect.unit (s := S4096x256) ![2048, 0] S2048x256.size inb_S4096x256_S2048x256_2048_0).toLoadRect X_arg16)
      (load_c _ _ _ _ (hoff3 ⟨1, by decide⟩) _) (load_c _ _ _ _ (hoff3 ⟨1, by decide⟩) _) (load_p0 _ _ _) (load_p1 _ _ _) x,
    fun x => piece_four _ _ _ ⟨2 * k.val + 2, by omega⟩ _ (hoff4 ⟨0, by decide⟩) (k0_off4_inb k ⟨0, by decide⟩)
      (arg10.view.readAt (Elt Ideal) (Rect.unit (s := S2048x2048) (k0_off3 k 0#32) S128x2048.size (k0_off3_inb k ⟨0, by decide⟩)).toLoadRect X_arg10)
      (arg11.view.readAt (Elt Ideal) (Rect.unit (s := S2048x2048) (k0_off3 k 0#32) S128x2048.size (k0_off3_inb k ⟨0, by decide⟩)).toLoadRect X_arg11)
      (arg16.view.readAt (Elt Ideal) (Rect.unit (s := S4096x256) ![0, 0] S2048x256.size inb_S4096x256_S2048x256_0_0).toLoadRect X_arg16)
      (arg16.view.readAt (Elt Ideal) (Rect.unit (s := S4096x256) ![2048, 0] S2048x256.size inb_S4096x256_S2048x256_2048_0).toLoadRect X_arg16)
      (load_c _ _ _ _ (hoff3 ⟨0, by decide⟩) _) (load_c _ _ _ _ (hoff3 ⟨0, by decide⟩) _) (load_p0 _ _ _) (load_p1 _ _ _) x, trivial⟩

/-- Every block that the loop's trips store is a block of the attention's output. -/
theorem loop_out (𝒱 : Variants) (c : Dev nD) (bd : Option 𝒱.V) (i : grid0.Coords) (arg1 : Memref sig .tc .smem S6 .f32) (harg1 : arg1.IsWhole) (arg2 : Memref sig .tc .vmem S1x2048x384 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x384x384 .f32) (harg5 : arg5.IsWhole) (arg6 : Memref sig .tc .vmem S1x2048x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S1x2048x384 .bf16) (harg12 : arg12.IsWhole) (arg13 : Memref sig .tc .vmem S1x2048x256 .bf16) (harg13 : arg13.IsWhole) (arg14 : Memref sig .tc .vmem S2304x128 .bf16) (harg14 : arg14.IsWhole) (arg15 : Memref sig .tc .vmem S2304x128 .bf16) (harg15 : arg15.IsWhole) (arg16 : Memref sig .tc .vmem S4096x256 .bf16) (harg16 : arg16.IsWhole) (v87 : FVec Ideal S384x1 .f32) (v99 : FVec Ideal S384x1 .f32) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg14 : BufTy.Contents (Elt Ideal) arg14.view.ty) (X_arg15 : BufTy.Contents (Elt Ideal) arg15.view.ty) (X_arg16 : BufTy.Contents (Elt Ideal) arg16.view.ty)
    (sink : Fin 2 → Fin 3 → EReal) (hu0 : ∀ g r, v87 (ix2 (brow g r) 0) = sink 0 g) (hu1 : ∀ g r, v99 (ix2 (brow g r) 0) = sink 1 g) :
    ∀ n, n ≤ k0_t1_loop.trips → ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v87 v99 X_arg2 X_arg5 X_arg10 X_arg11 X_arg14 X_arg15 X_arg16 n).1, ∀ x : p.1.shape.Idx,
      p.2 x = attG (arg2.view.read (Elt Ideal) X_arg2) (arg14.view.read (Elt Ideal) X_arg14) (arg15.view.read (Elt Ideal) X_arg15)
        (arg5.view.read (Elt Ideal) X_arg5) sink (p.1.emb x) := by
  intro n
  induction n with
  | zero => intro _ p hp; exact absurd hp List.not_mem_nil
  | succ n ih =>
    intro hn p hp
    have e := congrArg Prod.fst (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v87 v99 X_arg2 X_arg5 X_arg10 X_arg11 X_arg14 X_arg15 X_arg16 ⟨n, hn⟩)
    rw [e] at hp
    rcases List.mem_append.mp hp with hp | hp
    · exact (trip_out 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v87 v99 X_arg2 X_arg5 X_arg10 X_arg11 X_arg14 X_arg15 X_arg16 ⟨n, hn⟩ sink hu0 hu1).mem p hp
    · exact ih (Nat.le_of_lt hn) p hp

/-- Every tile that the loop's trips store is a tile of the Fourier mixer's output. -/
theorem loop_four (𝒱 : Variants) (c : Dev nD) (bd : Option 𝒱.V) (i : grid0.Coords) (arg1 : Memref sig .tc .smem S6 .f32) (harg1 : arg1.IsWhole) (arg2 : Memref sig .tc .vmem S1x2048x384 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x384x384 .f32) (harg5 : arg5.IsWhole) (arg6 : Memref sig .tc .vmem S1x2048x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S1x2048x384 .bf16) (harg12 : arg12.IsWhole) (arg13 : Memref sig .tc .vmem S1x2048x256 .bf16) (harg13 : arg13.IsWhole) (arg14 : Memref sig .tc .vmem S2304x128 .bf16) (harg14 : arg14.IsWhole) (arg15 : Memref sig .tc .vmem S2304x128 .bf16) (harg15 : arg15.IsWhole) (arg16 : Memref sig .tc .vmem S4096x256 .bf16) (harg16 : arg16.IsWhole) (v87 : FVec Ideal S384x1 .f32) (v99 : FVec Ideal S384x1 .f32) (X_arg2 : BufTy.Contents (Elt Ideal) arg2.view.ty) (X_arg5 : BufTy.Contents (Elt Ideal) arg5.view.ty) (X_arg10 : BufTy.Contents (Elt Ideal) arg10.view.ty) (X_arg11 : BufTy.Contents (Elt Ideal) arg11.view.ty) (X_arg14 : BufTy.Contents (Elt Ideal) arg14.view.ty) (X_arg15 : BufTy.Contents (Elt Ideal) arg15.view.ty) (X_arg16 : BufTy.Contents (Elt Ideal) arg16.view.ty)  :
    ∀ n, n ≤ k0_t1_loop.trips → ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v87 v99 X_arg2 X_arg5 X_arg10 X_arg11 X_arg14 X_arg15 X_arg16 n).2, ∀ x : p.1.shape.Idx,
      p.2 x = fourG (arg10.view.read (Elt Ideal) X_arg10) (arg11.view.read (Elt Ideal) X_arg11) (arg16.view.read (Elt Ideal) X_arg16)
        (p.1.emb x) := by
  intro n
  induction n with
  | zero => intro _ p hp; exact absurd hp List.not_mem_nil
  | succ n ih =>
    intro hn p hp
    have e := congrArg Prod.snd (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v87 v99 X_arg2 X_arg5 X_arg10 X_arg11 X_arg14 X_arg15 X_arg16 ⟨n, hn⟩)
    rw [e] at hp
    rcases List.mem_append.mp hp with hp | hp
    · exact (trip_four 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v87 v99 X_arg2 X_arg5 X_arg10 X_arg11 X_arg14 X_arg15 X_arg16 ⟨n, hn⟩).mem p hp
    · exact ih (Nat.le_of_lt hn) p hp

end Cert.KernelIdeal.Att

end
-- ==== Proof.Out.lean ====
/- What one run of the kernel's body leaves in its two output blocks, as functions of the operand blocks. -/
module

public import proofs.«01_k».proof.Proof.Pieces
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

/-- Keys or values with 128 rows of zeros before and after. -/
def padded (x : Vec Ideal S1x2048x128 .bf16) : Vec Ideal S2304x128 .bf16 := fun y =>
  if h : 128 ≤ (y 0).val ∧ (y 0).val < 2176 then x (ix3 0 ⟨(y 0).val - 128, by omega⟩ (y 1)) else 0

/-- The Fourier mixer's scratch: the batch's rows through each table and the weights. -/
def mixed (x : Vec Ideal S1x2048x256 .bf16) (t s w : Vec Ideal S256x256 .bf16) : Vec Ideal S4096x256 .bf16 := fun y =>
  if h : (y 0).val < 2048 then k0_pay27 (F := Ideal) x t w (ix2 ⟨(y 0).val, h⟩ (y 1))
  else k0_pay27 (F := Ideal) x s w (ix2 ⟨(y 0).val - 2048, by have h' : (y 0).val < 4096 := (y 0).isLt; omega⟩ (y 1))

/-- The sinks of the six heads, by key head and group. -/
def sinkOf (x : Vec Ideal S6 .f32) (kh : Fin 2) (g : Fin 3) : EReal := x (ix1 ⟨3 * kh.val + g.val, by omega⟩)

theorem pad_cover (w0 : Vec Ideal S2048x128 .bf16) (w1 w2 : Vec Ideal S128x128 .bf16) (y : S2304x128.Idx) :
    ∃ p ∈ ([⟨Rect.unit (s := S2304x128) ![128, 0] S2048x128.size inb_S2304x128_S2048x128_128_0, w0⟩,
       ⟨Rect.unit (s := S2304x128) ![2176, 0] S128x128.size inb_S2304x128_S128x128_2176_0, w1⟩,
       ⟨Rect.unit (s := S2304x128) ![0, 0] S128x128.size inb_S2304x128_S128x128_0_0, w2⟩] : List (View.Piece (Elt Ideal) S2304x128 .bf16)),
      y ∈ p.1.set := by
  have h0 : (y 0).val < 2304 := (y 0).isLt
  have h1 : (y 1).val < 128 := (y 1).isLt
  by_cases ha : (y 0).val < 128
  · refine ⟨_, List.mem_cons_of_mem _ (List.mem_cons_of_mem _ List.mem_cons_self), ?_⟩; exact (Rect.mem_set_unit (inb := inb_S2304x128_S128x128_0_0)).mpr fun a => by fin_cases a <;> simp <;> omega
  by_cases hb : (y 0).val < 2176
  · refine ⟨_, List.mem_cons_self, ?_⟩; exact (Rect.mem_set_unit (inb := inb_S2304x128_S2048x128_128_0)).mpr fun a => by fin_cases a <;> simp <;> omega
  · refine ⟨_, List.mem_cons_of_mem _ List.mem_cons_self, ?_⟩; exact (Rect.mem_set_unit (inb := inb_S2304x128_S128x128_2176_0)).mpr fun a => by fin_cases a <;> simp <;> omega

theorem mix_cover (w0 w1 : Vec Ideal S2048x256 .bf16) (y : S4096x256.Idx) :
    ∃ p ∈ ([⟨Rect.unit (s := S4096x256) ![2048, 0] S2048x256.size inb_S4096x256_S2048x256_2048_0, w0⟩,
       ⟨Rect.unit (s := S4096x256) ![0, 0] S2048x256.size inb_S4096x256_S2048x256_0_0, w1⟩] : List (View.Piece (Elt Ideal) S4096x256 .bf16)),
      y ∈ p.1.set := by
  have h0 : (y 0).val < 4096 := (y 0).isLt
  have h1 : (y 1).val < 256 := (y 1).isLt
  by_cases ha : (y 0).val < 2048
  · refine ⟨_, List.mem_cons_of_mem _ List.mem_cons_self, ?_⟩; exact (Rect.mem_set_unit (inb := inb_S4096x256_S2048x256_0_0)).mpr fun a => by fin_cases a <;> simp <;> omega
  · refine ⟨_, List.mem_cons_self, ?_⟩; exact (Rect.mem_set_unit (inb := inb_S4096x256_S2048x256_2048_0)).mpr fun a => by fin_cases a <;> simp <;> omega

theorem scratch_k {κ : Kind} {sp : Space} (v : View sig κ sp S2304x128 .bf16) (x : Vec Ideal S1x2048x128 .bf16) :
    v.read (Elt Ideal) (v.writes (Elt Ideal) v.junk
      [⟨Rect.unit (s := S2304x128) ![128, 0] S2048x128.size inb_S2304x128_S2048x128_128_0, k0_pay34 (F := Ideal) x⟩,
       ⟨Rect.unit (s := S2304x128) ![2176, 0] S128x128.size inb_S2304x128_S128x128_2176_0, (k0_pay31 (F := Ideal) k0_pay30)⟩,
       ⟨Rect.unit (s := S2304x128) ![0, 0] S128x128.size inb_S2304x128_S128x128_0_0, k0_pay29 (F := Ideal)⟩]) = padded x := by
  rw [View.read_writes_junk_eq_canon]
  funext y
  refine View.canon_append_of_piecesOf (padded x) []
      [⟨Rect.unit (s := S2304x128) ![128, 0] S2048x128.size inb_S2304x128_S2048x128_128_0, k0_pay34 (F := Ideal) x⟩,
       ⟨Rect.unit (s := S2304x128) ![2176, 0] S128x128.size inb_S2304x128_S128x128_2176_0, (k0_pay31 (F := Ideal) k0_pay30)⟩,
       ⟨Rect.unit (s := S2304x128) ![0, 0] S128x128.size inb_S2304x128_S128x128_0_0, k0_pay29 (F := Ideal)⟩] ⟨fun z => ?_, fun z => ?_, fun z => ?_, trivial⟩ y (pad_cover _ _ _ y)
  · obtain ⟨r, e, rfl⟩ : ∃ (r : Fin 2048) (e : Fin 128), z = ix2 r e := ⟨z 0, z 1, eq_ix2 z⟩
    have hr := r.isLt
    unfold padded k0_pay34
    rw [dif_pos (by simp [Rect.emb, Rect.unit, ix2] <;> omega)]
    pointwise
    congr 1
    funext a
    fin_cases a <;> apply Fin.ext <;> simp [Rect.emb, Rect.unit, ix3, ix2]
  · obtain ⟨r, e, rfl⟩ : ∃ (r : Fin 128) (e : Fin 128), z = ix2 r e := ⟨z 0, z 1, eq_ix2 z⟩
    have hr := r.isLt
    unfold padded k0_pay31 k0_pay30
    rw [dif_neg (by simp [Rect.emb, Rect.unit, ix2] <;> omega)]
    pointwise
  · obtain ⟨r, e, rfl⟩ : ∃ (r : Fin 128) (e : Fin 128), z = ix2 r e := ⟨z 0, z 1, eq_ix2 z⟩
    have hr := r.isLt
    unfold padded k0_pay29
    rw [dif_neg (by simp [Rect.emb, Rect.unit, ix2] <;> omega)]
    pointwise

theorem scratch_v {κ : Kind} {sp : Space} (v : View sig κ sp S2304x128 .bf16) (x : Vec Ideal S1x2048x128 .bf16) :
    v.read (Elt Ideal) (v.writes (Elt Ideal) v.junk
      [⟨Rect.unit (s := S2304x128) ![128, 0] S2048x128.size inb_S2304x128_S2048x128_128_0, k0_pay35 (F := Ideal) x⟩,
       ⟨Rect.unit (s := S2304x128) ![2176, 0] S128x128.size inb_S2304x128_S128x128_2176_0, (k0_pay33 (F := Ideal))⟩,
       ⟨Rect.unit (s := S2304x128) ![0, 0] S128x128.size inb_S2304x128_S128x128_0_0, k0_pay32 (F := Ideal)⟩]) = padded x := by
  rw [View.read_writes_junk_eq_canon]
  funext y
  refine View.canon_append_of_piecesOf (padded x) []
      [⟨Rect.unit (s := S2304x128) ![128, 0] S2048x128.size inb_S2304x128_S2048x128_128_0, k0_pay35 (F := Ideal) x⟩,
       ⟨Rect.unit (s := S2304x128) ![2176, 0] S128x128.size inb_S2304x128_S128x128_2176_0, (k0_pay33 (F := Ideal))⟩,
       ⟨Rect.unit (s := S2304x128) ![0, 0] S128x128.size inb_S2304x128_S128x128_0_0, k0_pay32 (F := Ideal)⟩] ⟨fun z => ?_, fun z => ?_, fun z => ?_, trivial⟩ y (pad_cover _ _ _ y)
  · obtain ⟨r, e, rfl⟩ : ∃ (r : Fin 2048) (e : Fin 128), z = ix2 r e := ⟨z 0, z 1, eq_ix2 z⟩
    have hr := r.isLt
    unfold padded k0_pay35
    rw [dif_pos (by simp [Rect.emb, Rect.unit, ix2] <;> omega)]
    pointwise
    congr 1
    funext a
    fin_cases a <;> apply Fin.ext <;> simp [Rect.emb, Rect.unit, ix3, ix2]
  · obtain ⟨r, e, rfl⟩ : ∃ (r : Fin 128) (e : Fin 128), z = ix2 r e := ⟨z 0, z 1, eq_ix2 z⟩
    have hr := r.isLt
    unfold padded k0_pay33
    rw [dif_neg (by simp [Rect.emb, Rect.unit, ix2] <;> omega)]
    pointwise
  · obtain ⟨r, e, rfl⟩ : ∃ (r : Fin 128) (e : Fin 128), z = ix2 r e := ⟨z 0, z 1, eq_ix2 z⟩
    have hr := r.isLt
    unfold padded k0_pay32
    rw [dif_neg (by simp [Rect.emb, Rect.unit, ix2] <;> omega)]
    pointwise

theorem scratch_p {κ : Kind} {sp : Space} (v : View sig κ sp S4096x256 .bf16) (x : Vec Ideal S1x2048x256 .bf16) (t s w : Vec Ideal S256x256 .bf16) :
    v.read (Elt Ideal) (v.writes (Elt Ideal) v.junk
      [⟨Rect.unit (s := S4096x256) ![2048, 0] S2048x256.size inb_S4096x256_S2048x256_2048_0, k0_pay28 (F := Ideal) x s w⟩,
       ⟨Rect.unit (s := S4096x256) ![0, 0] S2048x256.size inb_S4096x256_S2048x256_0_0, k0_pay27 (F := Ideal) x t w⟩]) = mixed x t s w := by
  rw [View.read_writes_junk_eq_canon, scratch_eq]
  funext y
  refine View.canon_append_of_piecesOf (mixed x t s w) []
      [⟨Rect.unit (s := S4096x256) ![2048, 0] S2048x256.size inb_S4096x256_S2048x256_2048_0, k0_pay27 (F := Ideal) x s w⟩,
       ⟨Rect.unit (s := S4096x256) ![0, 0] S2048x256.size inb_S4096x256_S2048x256_0_0, k0_pay27 (F := Ideal) x t w⟩] ⟨fun z => ?_, fun z => ?_, trivial⟩ y (mix_cover _ _ y)
  · have hr : (z 0).val < 2048 := (z 0).isLt
    unfold mixed
    rw [dif_neg (by simp [Rect.emb, Rect.unit] <;> omega)]
    refine congrArg (k0_pay27 (F := Ideal) x s w) (funext fun a => ?_)
    fin_cases a <;> apply Fin.ext <;> simp [Rect.emb, Rect.unit, ix2]
  · have hr : (z 0).val < 2048 := (z 0).isLt
    unfold mixed
    rw [dif_pos (by simp [Rect.emb, Rect.unit] <;> omega)]
    refine congrArg (k0_pay27 (F := Ideal) x t w) (funext fun a => ?_)
    fin_cases a <;> apply Fin.ext <;> simp [Rect.emb, Rect.unit, ix2]

theorem whole_kv {κ : Kind} {sp : Space} {m : Memref sig κ sp S1x2048x128 .bf16} (h : m.IsWhole) (X : Vec Ideal S1x2048x128 .bf16) :
    m.view.readAt (Elt Ideal) (Rect.unit (s := S1x2048x128) ![0, 0, 0] S1x2048x128.size inb_S1x2048x128_S1x2048x128_0_0_0).toLoadRect (h.unread X) = X := by
  rw [View.readAt_eq_ld, h.read_unread]
  exact View.ld_unit_lit' _ _ (by decide)

theorem whole_f {κ : Kind} {sp : Space} {m : Memref sig κ sp S1x2048x256 .bf16} (h : m.IsWhole) (X : Vec Ideal S1x2048x256 .bf16) :
    m.view.readAt (Elt Ideal) (Rect.unit (s := S1x2048x256) ![0, 0, 0] S1x2048x256.size inb_S1x2048x256_S1x2048x256_0_0_0).toLoadRect (h.unread X) = X := by
  rw [View.readAt_eq_ld, h.read_unread]
  exact View.ld_unit_lit' _ _ (by decide)

theorem whole_w {κ : Kind} {sp : Space} {m : Memref sig κ sp S256x256 .bf16} (h : m.IsWhole) (X : Vec Ideal S256x256 .bf16) :
    m.view.readAt (Elt Ideal) (Rect.unit (s := S256x256) ![0, 0] S256x256.size inb_S256x256_S256x256_0_0).toLoadRect (h.unread X) = X := by
  rw [View.readAt_eq_ld, h.read_unread]
  exact View.ld_unit_lit' _ _ (by decide)

theorem sinks0 {κ : Kind} {sp : Space} {m : Memref sig κ sp S6 .f32} (h : m.IsWhole) (X : Vec Ideal S6 .f32) (g : Fin 3) :
    (![m.view.readAt (Elt Ideal) (Rect.unit (s := S6) ![0] S1.size inb_S6_S1_0).toLoadRect (h.unread X) (Shape.Idx.first (by decide)), m.view.readAt (Elt Ideal) (Rect.unit (s := S6) ![1] S1.size inb_S6_S1_1).toLoadRect (h.unread X) (Shape.Idx.first (by decide)), m.view.readAt (Elt Ideal) (Rect.unit (s := S6) ![2] S1.size inb_S6_S1_2).toLoadRect (h.unread X) (Shape.Idx.first (by decide))] : Fin 3 → EReal) g
      = sinkOf X 0 g := by
  simp only [View.readAt_eq_ld, h.read_unread]
  unfold sinkOf
  fin_cases g <;> exact congrArg X (funext fun a => by fin_cases a; rfl)

theorem sinks1 {κ : Kind} {sp : Space} {m : Memref sig κ sp S6 .f32} (h : m.IsWhole) (X : Vec Ideal S6 .f32) (g : Fin 3) :
    (![m.view.readAt (Elt Ideal) (Rect.unit (s := S6) ![3] S1.size inb_S6_S1_3).toLoadRect (h.unread X) (Shape.Idx.first (by decide)), m.view.readAt (Elt Ideal) (Rect.unit (s := S6) ![4] S1.size inb_S6_S1_4).toLoadRect (h.unread X) (Shape.Idx.first (by decide)), m.view.readAt (Elt Ideal) (Rect.unit (s := S6) ![5] S1.size inb_S6_S1_5).toLoadRect (h.unread X) (Shape.Idx.first (by decide))] : Fin 3 → EReal) g
      = sinkOf X 1 g := by
  simp only [View.readAt_eq_ld, h.read_unread]
  unfold sinkOf
  fin_cases g <;> exact congrArg X (funext fun a => by fin_cases a; rfl)

/-- The block of the first rows, whose mask hides the keys before the sequence. -/
theorem piece_first (q : Vec Ideal S1x2048x384 .bf16) (kp vp : Vec Ideal S2304x128 .bf16) (b : Vec Ideal S2x384x384 .f32)
    (sink : Fin 2 → Fin 3 → EReal) (inb)
    (lq : Vec Ideal S1x128x384 .bf16) (lk lv : Vec Ideal S384x128 .bf16) (b0 b1 : Vec Ideal S1x384x384 .f32)
    (u0 u1 : FVec Ideal S384x1 .f32)
    (hq : ∀ r c, lq (ix3 0 r c) = q (ix3 0 (srow 0 r) c)) (hk : ∀ j c, lk (ix2 j c) = kp (ix2 (prow 0 j) c))
    (hv : ∀ j c, lv (ix2 j c) = vp (ix2 (prow 0 j) c))
    (hb0 : ∀ i j, b0 (ix3 0 i j) = b (ix3 0 i j)) (hb1 : ∀ i j, b1 (ix3 0 i j) = b (ix3 1 i j))
    (hu0 : ∀ g r, u0 (ix2 (brow g r) 0) = sink 0 g) (hu1 : ∀ g r, u1 (ix2 (brow g r) 0) = sink 1 g)
    (x : (Rect.unit (s := S1x2048x384) ![0, 0, 0] S1x128x384.size inb).shape.Idx) :
    outBlk (maskFirst (k0_pay9 (k0_pay41 lq) lk b0)) (maskFirst (k0_pay10 (k0_pay41 lq) lk b1)) u0 u1 lv x
      = attG q kp vp b sink ((Rect.unit (s := S1x2048x384) ![0, 0, 0] S1x128x384.size inb).emb x) :=
  piece_of_apply _ 0 _ rfl inb _ (fun r kh g d => (outBlk_eq q kp vp b sink 0 lq lk lv b0 b1 u0 u1 _ _ hq hk hv hb0 hb1 hu0 hu1
    (fun i j => (maskFirst_apply _ i j).trans (if_congr (by simp only [inSeq]; have hj := j.isLt; have h0 : (0 : Fin 16).val = 0 := rfl; omega) rfl rfl))
    (fun i j => (maskFirst_apply _ i j).trans (if_congr (by simp only [inSeq]; have hj := j.isLt; have h0 : (0 : Fin 16).val = 0 := rfl; omega) rfl rfl)) r kh g d).trans
    (attG_apply q kp vp b sink 0 r kh g d).symm) x

/-- The block of the last rows, whose mask hides the keys after the sequence. -/
theorem piece_last (q : Vec Ideal S1x2048x384 .bf16) (kp vp : Vec Ideal S2304x128 .bf16) (b : Vec Ideal S2x384x384 .f32)
    (sink : Fin 2 → Fin 3 → EReal) (inb)
    (lq : Vec Ideal S1x128x384 .bf16) (lk lv : Vec Ideal S384x128 .bf16) (b0 b1 : Vec Ideal S1x384x384 .f32)
    (u0 u1 : FVec Ideal S384x1 .f32)
    (hq : ∀ r c, lq (ix3 0 r c) = q (ix3 0 (srow 15 r) c)) (hk : ∀ j c, lk (ix2 j c) = kp (ix2 (prow 15 j) c))
    (hv : ∀ j c, lv (ix2 j c) = vp (ix2 (prow 15 j) c))
    (hb0 : ∀ i j, b0 (ix3 0 i j) = b (ix3 0 i j)) (hb1 : ∀ i j, b1 (ix3 0 i j) = b (ix3 1 i j))
    (hu0 : ∀ g r, u0 (ix2 (brow g r) 0) = sink 0 g) (hu1 : ∀ g r, u1 (ix2 (brow g r) 0) = sink 1 g)
    (x : (Rect.unit (s := S1x2048x384) ![0, 1920, 0] S1x128x384.size inb).shape.Idx) :
    outBlk (maskLast (k0_pay9 (k0_pay41 lq) lk b0)) (maskLast (k0_pay10 (k0_pay41 lq) lk b1)) u0 u1 lv x
      = attG q kp vp b sink ((Rect.unit (s := S1x2048x384) ![0, 1920, 0] S1x128x384.size inb).emb x) :=
  piece_of_apply _ 15 _ rfl inb _ (fun r kh g d => (outBlk_eq q kp vp b sink 15 lq lk lv b0 b1 u0 u1 _ _ hq hk hv hb0 hb1 hu0 hu1
    (fun i j => (maskLast_apply _ i j).trans (if_congr (by simp only [inSeq]; have hj := j.isLt; have h0 : (15 : Fin 16).val = 15 := rfl; omega) rfl rfl))
    (fun i j => (maskLast_apply _ i j).trans (if_congr (by simp only [inSeq]; have hj := j.isLt; have h0 : (15 : Fin 16).val = 15 := rfl; omega) rfl rfl)) r kh g d).trans
    (attG_apply q kp vp b sink 15 r kh g d).symm) x

/-- What a run of the body leaves in the attention's output block. -/
theorem out_att (c : Dev nD) (i : grid0.Coords) (arg1 : Memref sig .tc .smem S6 .f32) (harg1 : arg1.IsWhole) (arg2 : Memref sig .tc .vmem S1x2048x384 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x384x384 .f32) (harg5 : arg5.IsWhole) (arg6 : Memref sig .tc .vmem S1x2048x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S1x2048x384 .bf16) (harg12 : arg12.IsWhole) (arg13 : Memref sig .tc .vmem S1x2048x256 .bf16) (harg13 : arg13.IsWhole) (arg14 : Memref sig .tc .vmem S2304x128 .bf16) (harg14 : arg14.IsWhole) (arg15 : Memref sig .tc .vmem S2304x128 .bf16) (harg15 : arg15.IsWhole) (arg16 : Memref sig .tc .vmem S4096x256 .bf16) (harg16 : arg16.IsWhole)
    (x0 : Vec Ideal S6 .f32) (x1 : Vec Ideal S1x2048x384 .bf16) (x2 : Vec Ideal S1x2048x128 .bf16) (x3 : Vec Ideal S1x2048x128 .bf16) (x4 : Vec Ideal S2x384x384 .f32) (x5 : Vec Ideal S1x2048x256 .bf16) (x6 : Vec Ideal S256x256 .bf16) (x7 : Vec Ideal S256x256 .bf16) (x8 : Vec Ideal S256x256 .bf16) (x9 : Vec Ideal S2048x2048 .bf16) (x10 : Vec Ideal S2048x2048 .bf16) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = attG x1 (padded x2) (padded x3) x4 (sinkOf x0) := by
  have hall : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).1, ∀ z : p.1.shape.Idx,
      p.2 z = attG x1 (padded x2) (padded x3) x4 (sinkOf x0) (p.1.emb z) := by
    frame_open
    intro p hp z
    rcases List.mem_append.mp hp with hp | hp
    · refine (loop_out Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ (sinkOf x0)
        (fun g r => (sink_apply0 _ _ _ g r).trans (sinks0 harg1 x0 g)) (fun g r => (sink_apply1 _ _ _ g r).trans (sinks1 harg1 x0 g))
        _ (le_refl _) p hp z).trans ?_
      rw [scratch_k, scratch_v, harg2.read_unread, harg5.read_unread, whole_kv harg3, whole_kv harg4]
    · rcases List.mem_cons.mp hp with rfl | hp
      · refine (piece_last _ _ _ _ (sinkOf x0) inb_S1x2048x384_S1x128x384_0_1920_0
      (arg2.view.readAt (Elt Ideal) (Rect.unit (s := S1x2048x384) ![0, 1920, 0] S1x128x384.size inb_S1x2048x384_S1x128x384_0_1920_0).toLoadRect _)
      (arg14.view.readAt (Elt Ideal) (Rect.unit (s := S2304x128) ![1920, 0] S384x128.size inb_S2304x128_S384x128_1920_0).toLoadRect _)
      (arg15.view.readAt (Elt Ideal) (Rect.unit (s := S2304x128) ![1920, 0] S384x128.size inb_S2304x128_S384x128_1920_0).toLoadRect _)
      (arg5.view.readAt (Elt Ideal) (Rect.unit (s := S2x384x384) ![0, 0, 0] S1x384x384.size inb_S2x384x384_S1x384x384_0_0_0).toLoadRect _) (arg5.view.readAt (Elt Ideal) (Rect.unit (s := S2x384x384) ![1, 0, 0] S1x384x384.size inb_S2x384x384_S1x384x384_1_0_0).toLoadRect _) _ _
      (load_q _ _ 15 _ rfl _) (load_k _ _ 15 _ rfl _) (load_k _ _ 15 _ rfl _) (load_b _ _ 0 _ rfl _) (load_b _ _ 1 _ rfl _)
      (fun g r => (sink_apply0 _ _ _ g r).trans (sinks0 harg1 x0 g)) (fun g r => (sink_apply1 _ _ _ g r).trans (sinks1 harg1 x0 g)) z).trans ?_
        rw [scratch_k, scratch_v, harg2.read_unread, harg5.read_unread, whole_kv harg3, whole_kv harg4]
      · rcases List.mem_cons.mp hp with rfl | hp
        · refine (piece_first _ _ _ _ (sinkOf x0) inb_S1x2048x384_S1x128x384_0_0_0
      (arg2.view.readAt (Elt Ideal) (Rect.unit (s := S1x2048x384) ![0, 0, 0] S1x128x384.size inb_S1x2048x384_S1x128x384_0_0_0).toLoadRect _)
      (arg14.view.readAt (Elt Ideal) (Rect.unit (s := S2304x128) ![0, 0] S384x128.size inb_S2304x128_S384x128_0_0).toLoadRect _)
      (arg15.view.readAt (Elt Ideal) (Rect.unit (s := S2304x128) ![0, 0] S384x128.size inb_S2304x128_S384x128_0_0).toLoadRect _)
      (arg5.view.readAt (Elt Ideal) (Rect.unit (s := S2x384x384) ![0, 0, 0] S1x384x384.size inb_S2x384x384_S1x384x384_0_0_0).toLoadRect _) (arg5.view.readAt (Elt Ideal) (Rect.unit (s := S2x384x384) ![1, 0, 0] S1x384x384.size inb_S2x384x384_S1x384x384_1_0_0).toLoadRect _) _ _
      (load_q _ _ 0 _ rfl _) (load_k _ _ 0 _ rfl _) (load_k _ _ 0 _ rfl _) (load_b _ _ 0 _ rfl _) (load_b _ _ 1 _ rfl _)
      (fun g r => (sink_apply0 _ _ _ g r).trans (sinks0 harg1 x0 g)) (fun g r => (sink_apply1 _ _ _ g r).trans (sinks1 harg1 x0 g)) z).trans ?_
          rw [scratch_k, scratch_v, harg2.read_unread, harg5.read_unread, whole_kv harg3, whole_kv harg4]
        · exact absurd hp List.not_mem_nil
  unfold out0_A_11
  rw [View.read_writes_junk_eq_canon]
  funext y
  rw [← List.append_nil (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).1]
  exact View.canon_append_of_pieces _ [] _ hall y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y)

/-- What a run of the body leaves in the Fourier mixer's output block. -/
theorem out_four (c : Dev nD) (i : grid0.Coords) (arg1 : Memref sig .tc .smem S6 .f32) (harg1 : arg1.IsWhole) (arg2 : Memref sig .tc .vmem S1x2048x384 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x384x384 .f32) (harg5 : arg5.IsWhole) (arg6 : Memref sig .tc .vmem S1x2048x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2048x2048 .bf16) (harg10 : arg10.IsWhole) (arg11 : Memref sig .tc .vmem S2048x2048 .bf16) (harg11 : arg11.IsWhole) (arg12 : Memref sig .tc .vmem S1x2048x384 .bf16) (harg12 : arg12.IsWhole) (arg13 : Memref sig .tc .vmem S1x2048x256 .bf16) (harg13 : arg13.IsWhole) (arg14 : Memref sig .tc .vmem S2304x128 .bf16) (harg14 : arg14.IsWhole) (arg15 : Memref sig .tc .vmem S2304x128 .bf16) (harg15 : arg15.IsWhole) (arg16 : Memref sig .tc .vmem S4096x256 .bf16) (harg16 : arg16.IsWhole)
    (x0 : Vec Ideal S6 .f32) (x1 : Vec Ideal S1x2048x384 .bf16) (x2 : Vec Ideal S1x2048x128 .bf16) (x3 : Vec Ideal S1x2048x128 .bf16) (x4 : Vec Ideal S2x384x384 .f32) (x5 : Vec Ideal S1x2048x256 .bf16) (x6 : Vec Ideal S256x256 .bf16) (x7 : Vec Ideal S256x256 .bf16) (x8 : Vec Ideal S256x256 .bf16) (x9 : Vec Ideal S2048x2048 .bf16) (x10 : Vec Ideal S2048x2048 .bf16) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = fourG x9 x10 (mixed x5 x6 x7 x8) := by
  have hall : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.1, ∀ z : p.1.shape.Idx,
      p.2 z = fourG x9 x10 (mixed x5 x6 x7 x8) (p.1.emb z) := by
    frame_open
    intro p hp z
    rcases List.mem_append.mp hp with hp | hp
    · refine (loop_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ (le_refl _) p hp z).trans ?_
      rw [scratch_p, harg10.read_unread, harg11.read_unread, whole_f harg6, whole_w harg7, whole_w harg8, whole_w harg9]
    · rcases List.mem_cons.mp hp with rfl | hp
      · refine (piece_four _ _ _ 1 _ rfl inb_S1x2048x256_S1x128x256_0_128_0
      (arg10.view.readAt (Elt Ideal) (Rect.unit (s := S2048x2048) ![128, 0] S128x2048.size inb_S2048x2048_S128x2048_128_0).toLoadRect _) (arg11.view.readAt (Elt Ideal) (Rect.unit (s := S2048x2048) ![128, 0] S128x2048.size inb_S2048x2048_S128x2048_128_0).toLoadRect _)
      (arg16.view.readAt (Elt Ideal) (Rect.unit (s := S4096x256) ![0, 0] S2048x256.size inb_S4096x256_S2048x256_0_0).toLoadRect _) (arg16.view.readAt (Elt Ideal) (Rect.unit (s := S4096x256) ![2048, 0] S2048x256.size inb_S4096x256_S2048x256_2048_0).toLoadRect _)
      (load_c _ _ 1 _ rfl _) (load_c _ _ 1 _ rfl _) (load_p0 _ _ _) (load_p1 _ _ _) z).trans ?_
        rw [scratch_p, harg10.read_unread, harg11.read_unread, whole_f harg6, whole_w harg7, whole_w harg8, whole_w harg9]
        rfl
      · rcases List.mem_cons.mp hp with rfl | hp
        · refine (piece_four _ _ _ 0 _ rfl inb_S1x2048x256_S1x128x256_0_0_0
      (arg10.view.readAt (Elt Ideal) (Rect.unit (s := S2048x2048) ![0, 0] S128x2048.size inb_S2048x2048_S128x2048_0_0).toLoadRect _) (arg11.view.readAt (Elt Ideal) (Rect.unit (s := S2048x2048) ![0, 0] S128x2048.size inb_S2048x2048_S128x2048_0_0).toLoadRect _)
      (arg16.view.readAt (Elt Ideal) (Rect.unit (s := S4096x256) ![0, 0] S2048x256.size inb_S4096x256_S2048x256_0_0).toLoadRect _) (arg16.view.readAt (Elt Ideal) (Rect.unit (s := S4096x256) ![2048, 0] S2048x256.size inb_S4096x256_S2048x256_2048_0).toLoadRect _)
      (load_c _ _ 0 _ rfl _) (load_c _ _ 0 _ rfl _) (load_p0 _ _ _) (load_p1 _ _ _) z).trans ?_
          rw [scratch_p, harg10.read_unread, harg11.read_unread, whole_f harg6, whole_w harg7, whole_w harg8, whole_w harg9]
          rfl
        · exact absurd hp List.not_mem_nil
  unfold out0_A_12
  rw [View.read_writes_junk_eq_canon]
  funext y
  rw [← List.append_nil (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10).2.1]
  exact View.canon_append_of_pieces _ [] _ hall y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y)

end Cert.KernelIdeal.Att

end
-- ==== Proof.Trig.lean ====
module

public import Idealize.ShloMosaic.Lib.Pointwise
public import Idealize.ShloMosaic.Lib.Affine
public import Mathlib.Analysis.SpecialFunctions.Trigonometric.Inverse

/-! Words and table entries at the ideal floats: what the integer operations of the index tables give for small numbers, and
the entries of the discrete Fourier transform and of the bias table as real numbers. -/

@[expose] public section

noncomputable section

namespace Cert.Att

open Idealize.ShloMosaic

/-! ## Words -/

theorem word_toInt (a : ℕ) (ha : a < 2 ^ 31) : (BitVec.ofNat 32 a).toInt = (a : ℤ) := by
  have h : (BitVec.ofNat 32 a).toNat = a := by rw [BitVec.toNat_ofNat]; omega
  rw [BitVec.toInt_eq_toNat_of_lt (by omega), h]

theorem word_float (a : ℕ) (ha : a < 2 ^ 31) : (FloatOps.sitofp (F := Ideal) .f32 (BitVec.ofNat 32 a) : EReal) = ((a : ℝ) : EReal) := by
  show (((BitVec.ofNat 32 a).toInt : ℝ) : EReal) = _
  rw [word_toInt a ha]; norm_cast

theorem word_rem (a k : ℕ) (ha : a < 2 ^ 31) (hk : 0 < k) (hk' : k < 2 ^ 31) :
    IntOp.remsi ArithUnit.host (BitVec.ofNat 32 a) (BitVec.ofNat 32 k) = BitVec.ofNat 32 (a % k) := by
  have h : (BitVec.ofNat 32 a).toNat = a := by rw [BitVec.toNat_ofNat]; omega
  apply BitVec.eq_of_toNat_eq
  have := Nat.mod_lt a hk
  rw [IntOp.toNat_remsi _ (by omega) k hk (by omega), h, BitVec.toNat_ofNat]; omega

theorem word_mul (a b : ℕ) : IntOp.muli (BitVec.ofNat 32 a) (BitVec.ofNat 32 b) = BitVec.ofNat 32 (a * b) := by
  rw [IntOp.muli, BitVec.ofNat_mul]

theorem word_add (a b : ℕ) : IntOp.addi (BitVec.ofNat 32 a) (BitVec.ofNat 32 b) = BitVec.ofNat 32 (a + b) := by
  rw [IntOp.addi, BitVec.ofNat_add]

/-- The distance of two positions. -/
def dist (a b : ℕ) : ℕ := (a - b) + (b - a)

theorem word_dist (a b : ℕ) (ha : a < 2 ^ 30) (hb : b < 2 ^ 30) :
    IntOp.absi (IntOp.subi (BitVec.ofNat 32 a) (BitVec.ofNat 32 b)) = BitVec.ofNat 32 (dist a b) := by
  have h : (BitVec.ofNat 32 a).toNat = a := by rw [BitVec.toNat_ofNat]; omega
  have h' : (BitVec.ofNat 32 b).toNat = b := by rw [BitVec.toNat_ofNat]; omega
  have hs : (BitVec.ofNat 32 a - BitVec.ofNat 32 b).toNat = (2 ^ 32 - b + a) % 2 ^ 32 := by rw [BitVec.toNat_sub, h, h']
  apply BitVec.eq_of_toNat_eq
  rw [IntOp.absi, IntOp.subi, BitVec.toNat_ofNat, dist, BitVec.msb_eq_decide, hs]
  split
  · rename_i hm
    have hm := of_decide_eq_true hm
    rw [BitVec.toNat_neg, hs]; omega
  · rename_i hm
    rw [decide_eq_true_eq] at hm
    rw [hs]; omega

theorem word_le (a b : ℕ) (ha : a < 2 ^ 31) (hb : b < 2 ^ 31) {α : Type} (x y : α) :
    Scalar.select (IntOp.cmpi CmpIPredicate.sle (BitVec.ofNat 32 a) (BitVec.ofNat 32 b)) x y = if a ≤ b then x else y := by
  unfold Scalar.select
  refine if_congr ?_ rfl rfl
  show IntOp.cmpi .sle _ _ = 1#1 ↔ _
  rw [IntOp.cmpi_sle, word_toInt a ha, word_toInt b hb]; norm_cast

theorem word_eq (a b : ℕ) (ha : a < 2 ^ 31) (hb : b < 2 ^ 31) {α : Type} (x y : α) :
    Scalar.select (IntOp.cmpi CmpIPredicate.eq (BitVec.ofNat 32 a) (BitVec.ofNat 32 b)) x y = if a = b then x else y := by
  unfold Scalar.select
  refine if_congr ?_ rfl rfl
  show IntOp.cmpi .eq _ _ = 1#1 ↔ _
  rw [IntOp.cmpi_eq, ← BitVec.toNat_inj, BitVec.toNat_ofNat, BitVec.toNat_ofNat]; omega

/-! ## Literals -/

theorem lit_two : Ideal.ofBits .f32 0x40000000#32 = ((2 : ℝ) : EReal) := by
  simp [Ideal.ofBits, Ideal.ieee, -EReal.coe_mul]; norm_num

theorem lit_neg_one : Ideal.ofBits .f32 0xBF800000#32 = ((-1 : ℝ) : EReal) := by
  simp [Ideal.ofBits, Ideal.ieee, -EReal.coe_mul, -EReal.coe_neg]; norm_num

theorem lit_2048 : Ideal.ofBits .f32 1157627904#32 = ((2048 : ℝ) : EReal) := by
  simp [Ideal.ofBits, Ideal.ieee, -EReal.coe_mul]; norm_num

theorem lit_64 : Ideal.ofBits .f32 1115684864#32 = ((64 : ℝ) : EReal) := by
  simp [Ideal.ofBits, Ideal.ieee, -EReal.coe_mul]; norm_num

theorem lit_8 : Ideal.ofBits .f32 1090519040#32 = ((8 : ℝ) : EReal) := by
  simp [Ideal.ofBits, Ideal.ieee, -EReal.coe_mul]; norm_num

theorem lit_eighth : Ideal.ofBits .f32 1040187392#32 = ((1 / 8 : ℝ) : EReal) := by
  simp [Ideal.ofBits, Ideal.ieee, -EReal.coe_mul]; norm_num

theorem lit_6 : Ideal.ofBits .f32 1086324736#32 = ((6 : ℝ) : EReal) := by
  simp [Ideal.ofBits, Ideal.ieee, -EReal.coe_mul]; norm_num

theorem lit_neg_8 : Ideal.ofBits .f32 3238002688#32 = ((-8 : ℝ) : EReal) := by
  simp [Ideal.ofBits, Ideal.ieee, -EReal.coe_mul, -EReal.coe_neg]; norm_num

/-- The square root of 2048 as the two programs write it. -/
def root2048 : ℝ := 11863283 / 262144

theorem lit_root : Ideal.ofBits .f32 1110770931#32 = ((root2048 : ℝ) : EReal) := by
  unfold root2048
  simp [Ideal.ofBits, Ideal.ieee, -EReal.coe_mul]; norm_num

/-- The natural logarithm of two as the two programs write it. -/
def ln2 : ℝ := 11629080 / 16777216

theorem lit_ln2 : Ideal.ofBits .f32 1060205080#32 = ((ln2 : ℝ) : EReal) := by
  unfold ln2
  simp [Ideal.ofBits, Ideal.ieee, -EReal.coe_mul]; norm_num

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-! ## The tables -/

/-- A cosine entry of the transform of size `n`, divided by `r`. -/
def cosT (n r : ℝ) (k : ℕ) : ℝ := Real.cos (2 * Real.pi * k / n) / r
/-- A sine entry of the transform of size `n`, divided by `r`. -/
def sinT (n r : ℝ) (k : ℕ) : ℝ := Real.sin (2 * Real.pi * k / n) / r

theorem turn (n : ℕ) (hn : 0 < n) (k : ℕ) :
    2 * Real.pi * (k : ℝ) / n = 2 * Real.pi * ((k % n : ℕ) : ℝ) / n + ((k / n : ℕ) : ℝ) * (2 * Real.pi) := by
  have h : (k : ℝ) = ((k % n : ℕ) : ℝ) + n * ((k / n : ℕ) : ℝ) := by exact_mod_cast (Nat.mod_add_div k n).symm
  have hn' : (n : ℝ) ≠ 0 := by positivity
  rw [h]; field_simp

theorem cosT_mod (n : ℕ) (hn : 0 < n) (r : ℝ) (k : ℕ) : cosT n r (k % n) = cosT n r k := by
  unfold cosT; rw [turn n hn k, Real.cos_add_nat_mul_two_pi]

theorem sinT_mod (n : ℕ) (hn : 0 < n) (r : ℝ) (k : ℕ) : sinT n r (k % n) = sinT n r k := by
  unfold sinT; rw [turn n hn k, Real.sin_add_nat_mul_two_pi]

theorem pi_lit : Ideal.acos (Ideal.ofBits .f32 0xBF800000#32) = ((Real.pi : ℝ) : EReal) := by
  rw [lit_neg_one]
  show (if (-1 : ℝ) ≤ -1 ∧ (-1 : ℝ) ≤ 1 then ((Real.arccos (-1) : ℝ) : EReal) else ⊥) = _
  rw [if_pos (by norm_num), Real.arccos_neg_one]

theorem cos_entry (k : ℕ) (hk : k < 2 ^ 31) (n r : ℝ) (hn : n ≠ 0) (hr : r ≠ 0) (N R : EReal) (hN : N = (n : EReal)) (hR : R = (r : EReal)) :
    Ideal.div (Ideal.cos (Ideal.div (Ideal.ofBits .f32 0x40000000#32 * Ideal.acos (Ideal.ofBits .f32 0xBF800000#32)
      * (FloatOps.sitofp (F := Ideal) .f32 (BitVec.ofNat 32 k) : EReal)) N)) R = ((cosT n r k : ℝ) : EReal) := by
  rw [pi_lit, lit_two, word_float k hk, hN, hR, ← EReal.coe_mul, ← EReal.coe_mul, div_coe _ _ hn]
  show Ideal.div ((Real.cos _ : ℝ) : EReal) _ = _
  rw [div_coe _ _ hr, cosT]

theorem sin_entry (k : ℕ) (hk : k < 2 ^ 31) (n r : ℝ) (hn : n ≠ 0) (hr : r ≠ 0) (N R : EReal) (hN : N = (n : EReal)) (hR : R = (r : EReal)) :
    Ideal.div (Ideal.sin (Ideal.div (Ideal.ofBits .f32 0x40000000#32 * Ideal.acos (Ideal.ofBits .f32 0xBF800000#32)
      * (FloatOps.sitofp (F := Ideal) .f32 (BitVec.ofNat 32 k) : EReal)) N)) R = ((sinT n r k : ℝ) : EReal) := by
  rw [pi_lit, lit_two, word_float k hk, hN, hR, ← EReal.coe_mul, ← EReal.coe_mul, div_coe _ _ hn]
  show Ideal.div ((Real.sin _ : ℝ) : EReal) _ = _
  rw [div_coe _ _ hr, sinT]

/-- The bias of query head `h` (counted from zero) at distance `d`. -/
def slope (h : ℕ) : ℝ := Real.exp (ln2 * (-8 * ((h + 1 : ℕ) : ℝ) / 6))

theorem slope_entry (h : ℕ) (w : EReal) (hw : w = (((h + 1 : ℕ) : ℝ) : EReal)) :
    Ideal.exp (Ideal.ofBits .f32 1060205080#32 * Ideal.div (Ideal.ofBits .f32 3238002688#32 * w) (Ideal.ofBits .f32 1086324736#32)) = ((slope h : ℝ) : EReal) := by
  rw [lit_ln2, lit_neg_8, lit_6, hw, ← EReal.coe_mul, div_coe _ _ (by norm_num), ← EReal.coe_mul]
  rfl

end Cert.Att
-- ==== Proof.Host.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Tactic.CleanTypes

public import proofs.«01_k».proof.Proof.Trig

/-! The operands the host prepares for the call, read at an index. -/

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Contents of all buffers of a device. -/
abbrev Env := Valuation τ sig (Elt Ideal)

/-! ## The block-diagonal weight -/

theorem row_read (σ : Env) : (StableHlo.after hostOps0_5 σ (Proc.devRef .tc main_v66) : Vec Ideal S256x256 .f32)
    = concatenate S256x256 0 [⟨S64x256, (pad S64x256 ![0, 0] ![0, 192] ![0, 0] (σ (Proc.devRef .tc main_v59) : Vec Ideal S64x64 .f32) (constant (F := Ideal) S_ .f32 0x00000000#32 : FVec Ideal S_ .f32) pads_S64x64_S64x256_000_01920 h_S_ : Vec Ideal S64x256 .f32)⟩,
      ⟨S64x256, (pad S64x256 ![0, 64] ![0, 128] ![0, 0] (σ (Proc.devRef .tc main_v61) : Vec Ideal S64x64 .f32) (constant (F := Ideal) S_ .f32 0x00000000#32 : FVec Ideal S_ .f32) pads_S64x64_S64x256_000_641280 h_S_ : Vec Ideal S64x256 .f32)⟩,
      ⟨S64x256, (pad S64x256 ![0, 128] ![0, 64] ![0, 0] (σ (Proc.devRef .tc main_v63) : Vec Ideal S64x64 .f32) (constant (F := Ideal) S_ .f32 0x00000000#32 : FVec Ideal S_ .f32) pads_S64x64_S64x256_000_128640 h_S_ : Vec Ideal S64x256 .f32)⟩,
      ⟨S64x256, (pad S64x256 ![0, 192] ![0, 0] ![0, 0] (σ (Proc.devRef .tc main_v65) : Vec Ideal S64x64 .f32) (constant (F := Ideal) S_ .f32 0x00000000#32 : FVec Ideal S_ .f32) pads_S64x64_S64x256_000_19200 h_S_ : Vec Ideal S64x256 .f32)⟩]
      concatenates_S64x256_S64x256_S64x256_S64x256_S256x256_d0 := by
  rfl

/-- One 64×64 matrix with zeros on its left and right, entrywise. -/
theorem pad_at (lo hi : ℕ) (h : Shape.Pads S64x64 ![0, lo] ![0, hi] ![0, 0] S64x256) (A : Vec Ideal S64x64 .f32) (i : Fin 64) (y : Fin 256) :
    (pad S64x256 ![0, lo] ![0, hi] ![0, 0] A (constant (F := Ideal) S_ .f32 0x00000000#32 : FVec Ideal S_ .f32) h h_S_ : Vec Ideal S64x256 .f32) (ix2 i y)
      = if h : lo ≤ y.val ∧ y.val - lo < 64 then A (ix2 i (⟨y.val - lo, h.2⟩ : Fin 64)) else (0 : EReal) := by
  pointwise

theorem rows_at (P0 P1 P2 P3 : Vec Ideal S64x256 .f32) (x y : Fin 256) :
    (concatenate S256x256 0 [⟨S64x256, P0⟩, ⟨S64x256, P1⟩, ⟨S64x256, P2⟩, ⟨S64x256, P3⟩]
      concatenates_S64x256_S64x256_S64x256_S64x256_S256x256_d0 : Vec Ideal S256x256 .f32) (ix2 x y)
      = (![P0, P1, P2, P3] ⟨x.val / 64, by omega⟩) (ix2 (⟨x.val % 64, by omega⟩ : Fin 64) y) := by
  pointwise
  obtain ⟨x, hx⟩ := x
  have hxe : x / 64 = 0 ∨ x / 64 = 1 ∨ x / 64 = 2 ∨ x / 64 = 3 := by omega
  rcases hxe with h | h | h | h <;> simp only [h]
  · rw [dif_pos (by omega)]
    exact congrArg P0 (by congr 2; omega)
  · rw [dif_neg (by omega), dif_pos (by omega)]
    exact congrArg P1 (by congr 2; omega)
  · rw [dif_neg (by omega), dif_neg (by omega), dif_pos (by omega)]
    exact congrArg P2 (by congr 2; omega)
  · rw [dif_neg (by omega), dif_neg (by omega), dif_neg (by omega)]
    exact congrArg P3 (by congr 2; omega)

/-- Four 64×64 matrices along the diagonal, entrywise. -/
theorem diag_at (A0 A1 A2 A3 : Vec Ideal S64x64 .f32) (x y : Fin 256) :
    (concatenate S256x256 0 [⟨S64x256, (pad S64x256 ![0, 0] ![0, 192] ![0, 0] A0 (constant (F := Ideal) S_ .f32 0x00000000#32 : FVec Ideal S_ .f32) pads_S64x64_S64x256_000_01920 h_S_ : Vec Ideal S64x256 .f32)⟩,
      ⟨S64x256, (pad S64x256 ![0, 64] ![0, 128] ![0, 0] A1 (constant (F := Ideal) S_ .f32 0x00000000#32 : FVec Ideal S_ .f32) pads_S64x64_S64x256_000_641280 h_S_ : Vec Ideal S64x256 .f32)⟩,
      ⟨S64x256, (pad S64x256 ![0, 128] ![0, 64] ![0, 0] A2 (constant (F := Ideal) S_ .f32 0x00000000#32 : FVec Ideal S_ .f32) pads_S64x64_S64x256_000_128640 h_S_ : Vec Ideal S64x256 .f32)⟩,
      ⟨S64x256, (pad S64x256 ![0, 192] ![0, 0] ![0, 0] A3 (constant (F := Ideal) S_ .f32 0x00000000#32 : FVec Ideal S_ .f32) pads_S64x64_S64x256_000_19200 h_S_ : Vec Ideal S64x256 .f32)⟩]
      concatenates_S64x256_S64x256_S64x256_S64x256_S256x256_d0 : Vec Ideal S256x256 .f32) (ix2 x y)
      = if x.val / 64 = y.val / 64 then (![A0, A1, A2, A3] ⟨x.val / 64, by omega⟩) (ix2 (⟨x.val % 64, by omega⟩ : Fin 64) (⟨y.val % 64, by omega⟩ : Fin 64)) else (0 : EReal) := by
  rw [rows_at]
  obtain ⟨x, hx⟩ := x
  obtain ⟨y, hy⟩ := y
  have hxe : x / 64 = 0 ∨ x / 64 = 1 ∨ x / 64 = 2 ∨ x / 64 = 3 := by omega
  rcases hxe with h | h | h | h <;> simp only [h]
  · refine (pad_at 0 192 pads_S64x64_S64x256_000_01920 A0 _ _).trans ?_
    by_cases hy : 0 = y / 64
    · rw [dif_pos (by constructor <;> simp only <;> omega), if_pos hy]
      exact congrArg A0 (by congr 2; simp only; omega)
    · rw [dif_neg (by simp only; omega), if_neg hy]
  · refine (pad_at 64 128 pads_S64x64_S64x256_000_641280 A1 _ _).trans ?_
    by_cases hy : 1 = y / 64
    · rw [dif_pos (by constructor <;> simp only <;> omega), if_pos hy]
      exact congrArg A1 (by congr 2; simp only; omega)
    · rw [dif_neg (by simp only; omega), if_neg hy]
  · refine (pad_at 128 64 pads_S64x64_S64x256_000_128640 A2 _ _).trans ?_
    by_cases hy : 2 = y / 64
    · rw [dif_pos (by constructor <;> simp only <;> omega), if_pos hy]
      exact congrArg A2 (by congr 2; simp only; omega)
    · rw [dif_neg (by simp only; omega), if_neg hy]
  · refine (pad_at 192 0 pads_S64x64_S64x256_000_19200 A3 _ _).trans ?_
    by_cases hy : 3 = y / 64
    · rw [dif_pos (by constructor <;> simp only <;> omega), if_pos hy]
      exact congrArg A3 (by congr 2; simp only; omega)
    · rw [dif_neg (by simp only; omega), if_neg hy]

theorem tail_read (σ : Env) : StableHlo.after hostOps0_7 (StableHlo.after hostOps0_6 σ) (Proc.devRef .tc main_v67)
    = (truncf (F := Ideal) .bf16 (σ (Proc.devRef .tc main_v66) : FVec Ideal S256x256 .f32) bitsLt_bf16_f32 : FVec Ideal S256x256 .bf16) := by
  simp only [hostOps0_6, hostOps0_7]
  entry_read
  rfl

theorem piece0_read (σ : Env) (i j : Fin 64) :
    (StableHlo.after hostOps0_4 σ (Proc.devRef .tc main_v59) : Vec Ideal S64x64 .f32) (ix2 i j)
      = (σ (Proc.devRef .tc main_arg5) : Vec Ideal S4x64x64 .f32) (ix3 (0 : Fin 4) i j) := by
  simp only [hostOps0_4]
  entry_read
  clean_types
  pointwise

theorem piece1_read (σ : Env) (i j : Fin 64) :
    (StableHlo.after hostOps0_4 σ (Proc.devRef .tc main_v61) : Vec Ideal S64x64 .f32) (ix2 i j)
      = (σ (Proc.devRef .tc main_arg5) : Vec Ideal S4x64x64 .f32) (ix3 (1 : Fin 4) i j) := by
  simp only [hostOps0_4]
  entry_read
  clean_types
  pointwise

theorem piece2_read (σ : Env) (i j : Fin 64) :
    (StableHlo.after hostOps0_4 σ (Proc.devRef .tc main_v63) : Vec Ideal S64x64 .f32) (ix2 i j)
      = (σ (Proc.devRef .tc main_arg5) : Vec Ideal S4x64x64 .f32) (ix3 (2 : Fin 4) i j) := by
  simp only [hostOps0_4]
  entry_read
  clean_types
  pointwise

theorem piece3_read (σ : Env) (i j : Fin 64) :
    (StableHlo.after hostOps0_4 σ (Proc.devRef .tc main_v65) : Vec Ideal S64x64 .f32) (ix2 i j)
      = (σ (Proc.devRef .tc main_arg5) : Vec Ideal S4x64x64 .f32) (ix3 (3 : Fin 4) i j) := by
  simp only [hostOps0_4]
  entry_read
  clean_types
  pointwise

theorem arg5_read : StableHlo.after hostOps0_3 (StableHlo.after hostOps0_2 (StableHlo.after hostOps0_1 (StableHlo.after hostOps0 (fun b => m (c, b)))))
    (Proc.devRef .tc main_arg5) = m (c, Proc.devRef .tc main_arg5) := by
  simp only [hostOps0, hostOps0_1, hostOps0_2, hostOps0_3]
  entry_read
  rfl

theorem v67_read : V m c main_v67 = StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 (fun b => m (c, b))))))))) (Proc.devRef .tc main_v67) := by
  simp only [V, List.flatten_cons, List.flatten_nil, List.append_nil, StableHlo.after_append]

/-- The block-diagonal weight. -/
theorem w_at (x y : Fin 256) : (V m c main_v67 : Vec Ideal S256x256 .bf16) (ix2 x y)
    = if x.val / 64 = y.val / 64 then (m (c, Proc.devRef .tc main_arg5) : Vec Ideal S4x64x64 .f32)
        (ix3 (⟨x.val / 64, by omega⟩ : Fin 4) (⟨x.val % 64, by omega⟩ : Fin 64) (⟨y.val % 64, by omega⟩ : Fin 64)) else (0 : EReal) := by
  rw [v67_read, tail_read, row_read]
  refine (diag_at _ _ _ _ x y).trans ?_
  refine if_congr Iff.rfl ?_ rfl
  rw [← arg5_read m c]
  obtain ⟨x, hx⟩ := x
  have hxe : x / 64 = 0 ∨ x / 64 = 1 ∨ x / 64 = 2 ∨ x / 64 = 3 := by omega
  rcases hxe with h | h | h | h <;> simp only [h]
  · exact piece0_read _ _ _
  · exact piece1_read _ _ _
  · exact piece2_read _ _ _
  · exact piece3_read _ _ _

/-! ## The other operands -/

theorem q_at (b : Fin 16) (t : Fin 2048) (e : Fin 384) : (V m c main_v2 : Vec Ideal S16x2048x384 .bf16) (ix3 b t e)
    = @HMul.hMul EReal EReal EReal _ ((m (c, Proc.devRef .tc main_arg0) : Vec Ideal S16x2048x384 .f32) (ix3 b t e)) ((1 / 8 : ℝ) : EReal) := by
  simp only [V, hostOps0, hostOps0_1, hostOps0_2, hostOps0_3, hostOps0_4, hostOps0_5, hostOps0_6, hostOps0_7, List.flatten_cons,
    List.flatten_nil, List.append_nil, List.cons_append, List.nil_append]
  entry_read
  rw [← Cert.Att.lit_eighth]
  pointwise

theorem k_at (b : Fin 16) (t : Fin 2048) (e : Fin 128) : (V m c main_v3 : Vec Ideal S16x2048x128 .bf16) (ix3 b t e)
    = ((m (c, Proc.devRef .tc main_arg1) : Vec Ideal S16x2048x128 .f32) (ix3 b t e) : EReal) := by
  simp only [V, hostOps0, hostOps0_1, hostOps0_2, hostOps0_3, hostOps0_4, hostOps0_5, hostOps0_6, hostOps0_7, List.flatten_cons,
    List.flatten_nil, List.append_nil, List.cons_append, List.nil_append]
  entry_read
  pointwise

theorem v_at (b : Fin 16) (t : Fin 2048) (e : Fin 128) : (V m c main_v4 : Vec Ideal S16x2048x128 .bf16) (ix3 b t e)
    = ((m (c, Proc.devRef .tc main_arg2) : Vec Ideal S16x2048x128 .f32) (ix3 b t e) : EReal) := by
  simp only [V, hostOps0, hostOps0_1, hostOps0_2, hostOps0_3, hostOps0_4, hostOps0_5, hostOps0_6, hostOps0_7, List.flatten_cons,
    List.flatten_nil, List.append_nil, List.cons_append, List.nil_append]
  entry_read
  pointwise

theorem f_at (b : Fin 16) (t : Fin 2048) (e : Fin 256) : (V m c main_v5 : Vec Ideal S16x2048x256 .bf16) (ix3 b t e)
    = ((m (c, Proc.devRef .tc main_arg4) : Vec Ideal S16x2048x256 .f32) (ix3 b t e) : EReal) := by
  simp only [V, hostOps0, hostOps0_1, hostOps0_2, hostOps0_3, hostOps0_4, hostOps0_5, hostOps0_6, hostOps0_7, List.flatten_cons,
    List.flatten_nil, List.append_nil, List.cons_append, List.nil_append]
  entry_read
  pointwise

theorem sink_at (e : Fin 6) : (V m c main_arg3 : Vec Ideal S6 .f32) (ix1 e) = ((m (c, Proc.devRef .tc main_arg3) : Vec Ideal S6 .f32) (ix1 e) : EReal) := by
  simp only [V, hostOps0, hostOps0_1, hostOps0_2, hostOps0_3, hostOps0_4, hostOps0_5, hostOps0_6, hostOps0_7, List.flatten_cons,
    List.flatten_nil, List.append_nil, List.cons_append, List.nil_append]
  entry_read
  rfl

theorem cs_at (x y : Fin 2048) : (V m c main_v53 : Vec Ideal S2048x2048 .bf16) (ix2 x y)
    = ((Cert.Att.cosT 2048 Cert.Att.root2048 (x.val * y.val) : ℝ) : EReal) := by
  simp only [V, hostOps0, hostOps0_1, hostOps0_2, hostOps0_3, hostOps0_4, hostOps0_5, hostOps0_6, hostOps0_7, List.flatten_cons,
    List.flatten_nil, List.append_nil, List.cons_append, List.nil_append]
  entry_read
  pointwise
  have := Nat.mod_lt (x.val * y.val) (show 0 < 2048 by norm_num)
  have hb : x.val * y.val < 2048 * 2048 := Nat.mul_lt_mul'' x.isLt y.isLt
  rw [Cert.Att.word_mul, Cert.Att.word_rem _ 2048 (by omega) (by norm_num) (by norm_num),
    Cert.Att.cos_entry _ (by omega) 2048 Cert.Att.root2048 (by norm_num) (by norm_num [Cert.Att.root2048]) _ _ Cert.Att.lit_2048 Cert.Att.lit_root]
  exact congrArg _ (by exact_mod_cast Cert.Att.cosT_mod 2048 (by norm_num) _ _)

theorem ns_at (x y : Fin 2048) : (V m c main_v55 : Vec Ideal S2048x2048 .bf16) (ix2 x y)
    = ((-Cert.Att.sinT 2048 Cert.Att.root2048 (x.val * y.val) : ℝ) : EReal) := by
  simp only [V, hostOps0, hostOps0_1, hostOps0_2, hostOps0_3, hostOps0_4, hostOps0_5, hostOps0_6, hostOps0_7, List.flatten_cons,
    List.flatten_nil, List.append_nil, List.cons_append, List.nil_append]
  entry_read
  pointwise
  have := Nat.mod_lt (x.val * y.val) (show 0 < 2048 by norm_num)
  have hb : x.val * y.val < 2048 * 2048 := Nat.mul_lt_mul'' x.isLt y.isLt
  rw [Cert.Att.word_mul, Cert.Att.word_rem _ 2048 (by omega) (by norm_num) (by norm_num),
    Cert.Att.sin_entry _ (by omega) 2048 Cert.Att.root2048 (by norm_num) (by norm_num [Cert.Att.root2048]) _ _ Cert.Att.lit_2048 Cert.Att.lit_root, ← EReal.coe_neg]
  exact congrArg (fun r : ℝ => ((-r : ℝ) : EReal)) (by exact_mod_cast Cert.Att.sinT_mod 2048 (by norm_num) _ _)

theorem div64 : ∀ x : Fin 256, IntOp.divsi ArithUnit.host (BitVec.ofNat 32 x.val) 64#32 = BitVec.ofNat 32 (x.val / 64) := by decide +kernel
theorem div128 : ∀ x : Fin 384, IntOp.divsi ArithUnit.host (BitVec.ofNat 32 x.val) 128#32 = BitVec.ofNat 32 (x.val / 128) := by decide +kernel

theorem cd_at (x y : Fin 256) : (V m c main_v56 : Vec Ideal S256x256 .bf16) (ix2 x y)
    = if x.val / 64 = y.val / 64 then ((Cert.Att.cosT 64 8 (x.val % 64 * (y.val % 64)) : ℝ) : EReal) else 0 := by
  simp only [V, hostOps0, hostOps0_1, hostOps0_2, hostOps0_3, hostOps0_4, hostOps0_5, hostOps0_6, hostOps0_7, List.flatten_cons,
    List.flatten_nil, List.append_nil, List.cons_append, List.nil_append]
  entry_read
  simp only [StableHlo.TRef.toBuf, StableHlo.TRef.ofBuf, cast_eq]
  clean_types
  pointwise
  have hx := x.isLt
  have hy := y.isLt
  have hb : x.val % 64 * (y.val % 64) < 64 * 64 := Nat.mul_lt_mul'' (Nat.mod_lt _ (by norm_num)) (Nat.mod_lt _ (by norm_num))
  have := Nat.mod_lt (x.val % 64 * (y.val % 64)) (show 0 < 64 by norm_num)
  rw [div64, div64, Cert.Att.word_eq _ _ (by omega) (by omega), Cert.Att.word_rem x.val 64 (by omega) (by norm_num) (by norm_num),
    Cert.Att.word_rem y.val 64 (by omega) (by norm_num) (by norm_num), Cert.Att.word_mul, Cert.Att.word_rem _ 64 (by omega) (by norm_num) (by norm_num),
    Cert.Att.cos_entry _ (by omega) 64 8 (by norm_num) (by norm_num) _ _ Cert.Att.lit_64 Cert.Att.lit_8]
  refine if_congr Iff.rfl (congrArg _ ?_) rfl
  exact_mod_cast Cert.Att.cosT_mod 64 (by norm_num) _ _

theorem sd_at (x y : Fin 256) : (V m c main_v57 : Vec Ideal S256x256 .bf16) (ix2 x y)
    = if x.val / 64 = y.val / 64 then ((Cert.Att.sinT 64 8 (x.val % 64 * (y.val % 64)) : ℝ) : EReal) else 0 := by
  simp only [V, hostOps0, hostOps0_1, hostOps0_2, hostOps0_3, hostOps0_4, hostOps0_5, hostOps0_6, hostOps0_7, List.flatten_cons,
    List.flatten_nil, List.append_nil, List.cons_append, List.nil_append]
  entry_read
  simp only [StableHlo.TRef.toBuf, StableHlo.TRef.ofBuf, cast_eq]
  clean_types
  pointwise
  have hx := x.isLt
  have hy := y.isLt
  have hb : x.val % 64 * (y.val % 64) < 64 * 64 := Nat.mul_lt_mul'' (Nat.mod_lt _ (by norm_num)) (Nat.mod_lt _ (by norm_num))
  have := Nat.mod_lt (x.val % 64 * (y.val % 64)) (show 0 < 64 by norm_num)
  rw [div64, div64, Cert.Att.word_eq _ _ (by omega) (by omega), Cert.Att.word_rem x.val 64 (by omega) (by norm_num) (by norm_num),
    Cert.Att.word_rem y.val 64 (by omega) (by norm_num) (by norm_num), Cert.Att.word_mul, Cert.Att.word_rem _ 64 (by omega) (by norm_num) (by norm_num),
    Cert.Att.sin_entry _ (by omega) 64 8 (by norm_num) (by norm_num) _ _ Cert.Att.lit_64 Cert.Att.lit_8]
  refine if_congr Iff.rfl (congrArg _ ?_) rfl
  exact_mod_cast Cert.Att.sinT_mod 64 (by norm_num) _ _

theorem bias_at (k : Fin 2) (r j : Fin 384) : (V m c main_v97 : Vec Ideal S2x384x384 .f32) (ix3 k r j)
    = if Cert.Att.dist (r.val % 128 + 128) j.val ≤ 128 then
        ((-Cert.Att.slope (k.val * 3 + r.val / 128) * (Cert.Att.dist (r.val % 128 + 128) j.val : ℕ) : ℝ) : EReal) else ⊥ := by
  simp only [V, hostOps0, hostOps0_1, hostOps0_2, hostOps0_3, hostOps0_4, hostOps0_5, hostOps0_6, hostOps0_7, List.flatten_cons,
    List.flatten_nil, List.append_nil, List.cons_append, List.nil_append]
  entry_read
  simp only [StableHlo.TRef.toBuf, StableHlo.TRef.ofBuf, cast_eq]
  clean_types
  pointwise
  have hr := r.isLt
  have hj := j.isLt
  have hk := k.isLt
  have hd : Cert.Att.dist (r.val % 128 + 128) j.val < 2 ^ 30 := by unfold Cert.Att.dist; omega
  rw [div128, Cert.Att.word_rem r.val 128 (by omega) (by norm_num) (by norm_num), Cert.Att.word_add, Cert.Att.word_dist _ _ (by omega) (by omega),
    Cert.Att.word_le _ _ (by omega) (by norm_num), Cert.Att.word_mul, Cert.Att.word_add, Cert.Att.word_add,
    Cert.Att.word_float _ (by omega), Cert.Att.word_float _ (by omega), Cert.Att.slope_entry (k.val * 3 + r.val / 128) _ rfl, ← EReal.coe_neg, ← EReal.coe_mul]
  exact if_congr Iff.rfl rfl (by simp [Ideal.ofBits, Ideal.ieee])

end Cert.KernelIdeal.Att
-- ==== Proof.Arr.lean ====
module

public import proofs.«01_k».proof.Proof.Out
public import proofs.«01_k».proof.Proof.Host

/-! The two arrays the call leaves, as functions of the operands the host prepares: point `t` of the grid writes batch `t`. -/

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Batch `b` of the queries. -/
def batQ (x : Vec Ideal S16x2048x384 .bf16) (b : Fin 16) : Vec Ideal S1x2048x384 .bf16 := fun z => x (ix3 b (z 1) (z 2))
/-- Batch `b` of the keys or values. -/
def batK (x : Vec Ideal S16x2048x128 .bf16) (b : Fin 16) : Vec Ideal S1x2048x128 .bf16 := fun z => x (ix3 b (z 1) (z 2))
/-- Batch `b` of the mixer's input. -/
def batF (x : Vec Ideal S16x2048x256 .bf16) (b : Fin 16) : Vec Ideal S1x2048x256 .bf16 := fun z => x (ix3 b (z 1) (z 2))

theorem idx : ∀ t : Fin cfg0.N, win0_0.index t 0 = 0 ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = 0 ∧ win0_4.index t 1 = 0 ∧ win0_4.index t 2 = 0)
    ∧ (win0_5.index t 0 = t.val ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0)
    ∧ (win0_11.index t 0 = t.val ∧ win0_11.index t 1 = 0 ∧ win0_11.index t 2 = 0)
    ∧ (win0_12.index t 0 = t.val ∧ win0_12.index t 1 = 0 ∧ win0_12.index t 2 = 0) := by decide +kernel

theorem count : cfg0.N = 16 := rfl

/-- The batch of a grid point. -/
abbrev bat (t : Fin cfg0.N) : Fin 16 := ⟨t.val, count ▸ t.isLt⟩

theorem blk_sink (t : Fin cfg0.N) : iblk m c 0 t = (V m c main_arg3 : Vec Ideal S6 .f32) := by
  funext z
  idx_vars z
  show _ = (V m c main_arg3 : Vec Ideal S6 .f32) (ix1 _)
  blk_simp [iblk]
  exact congrArg (V m c main_arg3 : Vec Ideal S6 .f32) (by blk_ext [idx t])

theorem blk_q (t : Fin cfg0.N) : iblk m c 1 t = batQ (V m c main_v2) (bat t) := by
  funext z
  idx_vars z
  show _ = (V m c main_v2 : Vec Ideal S16x2048x384 .bf16) (ix3 _ _ _)
  blk_simp [iblk]
  exact congrArg (V m c main_v2 : Vec Ideal S16x2048x384 .bf16) (by blk_ext [idx t])

theorem blk_k (t : Fin cfg0.N) : iblk m c 2 t = batK (V m c main_v3) (bat t) := by
  funext z
  idx_vars z
  show _ = (V m c main_v3 : Vec Ideal S16x2048x128 .bf16) (ix3 _ _ _)
  blk_simp [iblk]
  exact congrArg (V m c main_v3 : Vec Ideal S16x2048x128 .bf16) (by blk_ext [idx t])

theorem blk_v (t : Fin cfg0.N) : iblk m c 3 t = batK (V m c main_v4) (bat t) := by
  funext z
  idx_vars z
  show _ = (V m c main_v4 : Vec Ideal S16x2048x128 .bf16) (ix3 _ _ _)
  blk_simp [iblk]
  exact congrArg (V m c main_v4 : Vec Ideal S16x2048x128 .bf16) (by blk_ext [idx t])

theorem blk_bias (t : Fin cfg0.N) : iblk m c 4 t = (V m c main_v97 : Vec Ideal S2x384x384 .f32) := by
  funext z
  idx_vars z
  show _ = (V m c main_v97 : Vec Ideal S2x384x384 .f32) (ix3 _ _ _)
  blk_simp [iblk]
  exact congrArg (V m c main_v97 : Vec Ideal S2x384x384 .f32) (by blk_ext [idx t])

theorem blk_f (t : Fin cfg0.N) : iblk m c 5 t = batF (V m c main_v5) (bat t) := by
  funext z
  idx_vars z
  show _ = (V m c main_v5 : Vec Ideal S16x2048x256 .bf16) (ix3 _ _ _)
  blk_simp [iblk]
  exact congrArg (V m c main_v5 : Vec Ideal S16x2048x256 .bf16) (by blk_ext [idx t])

theorem blk_cd (t : Fin cfg0.N) : iblk m c 6 t = (V m c main_v56 : Vec Ideal S256x256 .bf16) := by
  funext z
  idx_vars z
  show _ = (V m c main_v56 : Vec Ideal S256x256 .bf16) (ix2 _ _)
  blk_simp [iblk]
  exact congrArg (V m c main_v56 : Vec Ideal S256x256 .bf16) (by blk_ext [idx t])

theorem blk_sd (t : Fin cfg0.N) : iblk m c 7 t = (V m c main_v57 : Vec Ideal S256x256 .bf16) := by
  funext z
  idx_vars z
  show _ = (V m c main_v57 : Vec Ideal S256x256 .bf16) (ix2 _ _)
  blk_simp [iblk]
  exact congrArg (V m c main_v57 : Vec Ideal S256x256 .bf16) (by blk_ext [idx t])

theorem blk_w (t : Fin cfg0.N) : iblk m c 8 t = (V m c main_v67 : Vec Ideal S256x256 .bf16) := by
  funext z
  idx_vars z
  show _ = (V m c main_v67 : Vec Ideal S256x256 .bf16) (ix2 _ _)
  blk_simp [iblk]
  exact congrArg (V m c main_v67 : Vec Ideal S256x256 .bf16) (by blk_ext [idx t])

theorem blk_cs (t : Fin cfg0.N) : iblk m c 9 t = (V m c main_v53 : Vec Ideal S2048x2048 .bf16) := by
  funext z
  idx_vars z
  show _ = (V m c main_v53 : Vec Ideal S2048x2048 .bf16) (ix2 _ _)
  blk_simp [iblk]
  exact congrArg (V m c main_v53 : Vec Ideal S2048x2048 .bf16) (by blk_ext [idx t])

theorem blk_ns (t : Fin cfg0.N) : iblk m c 10 t = (V m c main_v55 : Vec Ideal S2048x2048 .bf16) := by
  funext z
  idx_vars z
  show _ = (V m c main_v55 : Vec Ideal S2048x2048 .bf16) (ix2 _ _)
  blk_simp [iblk]
  exact congrArg (V m c main_v55 : Vec Ideal S2048x2048 .bf16) (by blk_ext [idx t])

/-- The attention's array. -/
def attArr (q : Vec Ideal S16x2048x384 .bf16) (k v : Vec Ideal S16x2048x128 .bf16) (b : Vec Ideal S2x384x384 .f32) (s : Vec Ideal S6 .f32) :
    Vec Ideal S16x2048x384 .bf16 := fun y => attG (batQ q (y 0)) (padded (batK k (y 0))) (padded (batK v (y 0))) b (sinkOf s) (ix3 (0 : Fin 1) (y 1) (y 2))

/-- The Fourier mixer's array. -/
def fourArr (f : Vec Ideal S16x2048x256 .bf16) (cd sd w : Vec Ideal S256x256 .bf16) (cs ns : Vec Ideal S2048x2048 .bf16) :
    Vec Ideal S16x2048x256 .bf16 := fun y => fourG cs ns (mixed (batF f (y 0)) cd sd w) (ix3 (0 : Fin 1) (y 1) (y 2))

theorem att_place (q : Vec Ideal S16x2048x384 .bf16) (k v : Vec Ideal S16x2048x128 .bf16) (b : Vec Ideal S2x384x384 .f32) (s : Vec Ideal S6 .f32)
    (t : Fin 16) (e : S16x2048x384.Idx) (y : S1x2048x384.Idx) (h0 : (e 0).val = t.val) (h1 : (e 1).val = (y 1).val) (h2 : (e 2).val = (y 2).val) :
    attG (batQ q t) (padded (batK k t)) (padded (batK v t)) b (sinkOf s) y = attArr q k v b s e := by
  have he : e = ix3 t (y 1) (y 2) := by
    funext a; match a with | ⟨0, _⟩ => exact Fin.ext h0 | ⟨1, _⟩ => exact Fin.ext h1 | ⟨2, _⟩ => exact Fin.ext h2
  have hy : y = ix3 (0 : Fin 1) (y 1) (y 2) := by
    funext a; match a with | ⟨0, _⟩ => exact Subsingleton.elim (α := Fin 1) _ _ | ⟨1, _⟩ => rfl | ⟨2, _⟩ => rfl
  subst he
  exact congrArg (attG (batQ q t) (padded (batK k t)) (padded (batK v t)) b (sinkOf s)) hy

theorem four_place (f : Vec Ideal S16x2048x256 .bf16) (cd sd w : Vec Ideal S256x256 .bf16) (cs ns : Vec Ideal S2048x2048 .bf16)
    (t : Fin 16) (e : S16x2048x256.Idx) (y : S1x2048x256.Idx) (h0 : (e 0).val = t.val) (h1 : (e 1).val = (y 1).val) (h2 : (e 2).val = (y 2).val) :
    fourG cs ns (mixed (batF f t) cd sd w) y = fourArr f cd sd w cs ns e := by
  have he : e = ix3 t (y 1) (y 2) := by
    funext a; match a with | ⟨0, _⟩ => exact Fin.ext h0 | ⟨1, _⟩ => exact Fin.ext h1 | ⟨2, _⟩ => exact Fin.ext h2
  have hy : y = ix3 (0 : Fin 1) (y 1) (y 2) := by
    funext a; match a with | ⟨0, _⟩ => exact Subsingleton.elim (α := Fin 1) _ _ | ⟨1, _⟩ => rfl | ⟨2, _⟩ => rfl
  subst he
  exact congrArg (fourG cs ns (mixed (batF f t) cd sd w)) hy

theorem final_att : (dats m 0 c).arrAt 11 cfg0.N
    = attArr (V m c main_v2) (V m c main_v3) (V m c main_v4) (V m c main_v97) (V m c main_arg3) := by
  refine (dats m 0 c).arrAt_eq_of_covers 11 _ (by decide +kernel) fun t hf y => ?_
  blk_simp
  rw [after0_11]
  simp only [outsAt0]
  rw [out_att, blk_q, blk_k, blk_v, blk_bias, blk_sink]
  exact att_place (V m c main_v2) (V m c main_v3) (V m c main_v4) (V m c main_v97) (V m c main_arg3) (bat t) _ y
    (by blk_ext [idx t]) (by blk_ext [idx t]) (by blk_ext [idx t])

theorem final_four : (dats m 0 c).arrAt 12 cfg0.N
    = fourArr (V m c main_v5) (V m c main_v56) (V m c main_v57) (V m c main_v67) (V m c main_v53) (V m c main_v55) := by
  refine (dats m 0 c).arrAt_eq_of_covers 12 _ (by decide +kernel) fun t hf y => ?_
  blk_simp
  rw [after0_12]
  simp only [outsAt0]
  rw [out_four, blk_f, blk_cd, blk_sd, blk_w, blk_cs, blk_ns]
  exact four_place (V m c main_v5) (V m c main_v56) (V m c main_v57) (V m c main_v67) (V m c main_v53) (V m c main_v55) (bat t) _ y
    (by blk_ext [idx t]) (by blk_ext [idx t]) (by blk_ext [idx t])

end Cert.KernelIdeal.Att
-- ==== Proof.RefRed.lean ====
module

public import proofs.«01_k».proof.Proof.Gen.ReferenceIdeal.Run
public import Idealize.ShloMosaic.Lib.Pointwise
public import Idealize.ShloMosaic.Lib.Claim

/-! Reductions of an array of six axes along its last axis, read at an index. -/

@[expose] public section

noncomputable section

namespace Cert.ReferenceIdeal.Att

open Idealize.ShloMosaic

variable {n0 n1 n2 n3 n4 n5 : ℕ}

/-- The indices that lose their last coordinate to a given one. -/
theorem last_fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = (ix5 a b c d e : (⟨5, ![n0, n1, n2, n3, n4]⟩ : Shape).Idx) ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- The sum along the last axis. -/
theorem last_sum (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    Ideal.hostReduceAdd h v init (ix5 a b c d e) = init + ∑ k : Fin n5, v (ix6 a b c d e k) :=
  congrArg (init + ·) (Finset.sum_filter_eq_sum_of_fiber _ (fun k : Fin n5 => ix6 a b c d e k)
    (fun _ _ q => congrFun q 5) (last_fiber h a b c d e) v)

/-- The greatest value along the last axis. -/
theorem last_max (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    (Finset.univ.filter (fun i => h.drop i = ix5 a b c d e)).fold max init v
      = (Finset.univ : Finset (Fin n5)).fold max init fun k => v (ix6 a b c d e k) :=
  Finset.fold_filter_eq_fold_of_fiber max _ (fun k : Fin n5 => ix6 a b c d e k)
    (fun _ _ q => congrFun q 5) (last_fiber h a b c d e) init v

/-- The greatest value along the last axis, of the operation itself. -/
theorem last_reduce {u : Shape} (h : (⟨6, ![n0, n1, n2, n3, n4, n5]⟩ : Shape).ReducesTo [5] ⟨5, ![n0, n1, n2, n3, n4]⟩)
    (v : FVec Ideal (⟨6, ![n0, n1, n2, n3, n4, n5]⟩ : Shape) .f32) (init : FVec Ideal u .f32) (hu : 0 < u.numel)
    (a : Fin n0) (b : Fin n1) (c : Fin n2) (d : Fin n3) (e : Fin n4) :
    Host.reduce (FloatOps.maximumf (F := Ideal) (φ := .f32)) v init h hu (ix5 a b c d e)
      = (Finset.univ : Finset (Fin n5)).fold max (init (Shape.Idx.first hu) : EReal) fun k => (v (ix6 a b c d e k) : EReal) :=
  (Host.reduce_eq_fold (α := EReal) max v init h hu (ix5 a b c d e)).trans (last_max h v _ a b c d e)

/-- The sum along the last axis, of the operation itself. -/
theorem last_add {u : Shape} (h : (⟨6, ![n0, n1, n2, n3, n4, n5]⟩ : Shape).ReducesTo [5] ⟨5, ![n0, n1, n2, n3, n4]⟩)
    (v : FVec Ideal (⟨6, ![n0, n1, n2, n3, n4, n5]⟩ : Shape) .f32) (init : FVec Ideal u .f32) (hu : 0 < u.numel)
    (a : Fin n0) (b : Fin n1) (c : Fin n2) (d : Fin n3) (e : Fin n4) :
    Host.reduceAdd v init h hu (ix5 a b c d e)
      = (init (Shape.Idx.first hu) : EReal) + ∑ k : Fin n5, (v (ix6 a b c d e k) : EReal) :=
  last_sum h v _ a b c d e

end Cert.ReferenceIdeal.Att
-- ==== Proof.RefAtt.lean ====
module

public import proofs.«01_k».proof.Proof.Gen.ReferenceIdeal.Run
public import proofs.«01_k».proof.Proof.Trig
public import proofs.«01_k».proof.Proof.RefRed
public import Idealize.ShloMosaic.Lib.Pointwise
public import Idealize.ShloMosaic.Lib.Claim
public import Idealize.ShloMosaic.Lib.Tactic.CleanTypes

/-! The attention of the reference as a composition of a few parts. -/

@[expose] public section

set_option maxRecDepth 16384

noncomputable section

namespace Cert.ReferenceIdeal.Att

open Cert.ReferenceIdeal Cert.ReferenceIdeal.Gen Idealize.ShloMosaic Idealize.ShloMosaic.TcCoe Idealize.SL.Sem Idealize.ShloMosaic.StableHlo

/-- The keys or values of every block's span. -/
def band (a : FVec Ideal S16x2048x128 .f32) : FVec Ideal S16x16x384x2x64 .f32 :=
  ((concatenate S16x16x384x2x64 2 [⟨S16x16x128x2x64, ((extractStridedSlice S16x16x128x2x64 ![0, 0, 0, 0, 0] (shapeCast _ (pad S16x2304x2x64 ![0, 128, 0, 0] ![0, 128, 0, 0] ![0, 0, 0, 0] (shapeCast _ a shapeCasts_S16x2048x128_S16x2048x2x64) (sitofp (F := Ideal) .f32 (constantI S_ 32 0#32) : FVec Ideal S_ .f32) pads_S16x2048x2x64_S16x2304x2x64_000_1281280_000_000 h_S_) shapeCasts_S16x2304x2x64_S16x18x128x2x64) slices_S16x18x128x2x64_S16x16x128x2x64_0_0_0_0_0) : FVec Ideal S16x16x128x2x64 .f32)⟩, ⟨S16x16x128x2x64, ((extractStridedSlice S16x16x128x2x64 ![0, 1, 0, 0, 0] (shapeCast _ (pad S16x2304x2x64 ![0, 128, 0, 0] ![0, 128, 0, 0] ![0, 0, 0, 0] (shapeCast _ a shapeCasts_S16x2048x128_S16x2048x2x64) (sitofp (F := Ideal) .f32 (constantI S_ 32 0#32) : FVec Ideal S_ .f32) pads_S16x2048x2x64_S16x2304x2x64_000_1281280_000_000 h_S_) shapeCasts_S16x2304x2x64_S16x18x128x2x64) slices_S16x18x128x2x64_S16x16x128x2x64_0_1_0_0_0) : FVec Ideal S16x16x128x2x64 .f32)⟩, ⟨S16x16x128x2x64, ((extractStridedSlice S16x16x128x2x64 ![0, 2, 0, 0, 0] (shapeCast _ (pad S16x2304x2x64 ![0, 128, 0, 0] ![0, 128, 0, 0] ![0, 0, 0, 0] (shapeCast _ a shapeCasts_S16x2048x128_S16x2048x2x64) (sitofp (F := Ideal) .f32 (constantI S_ 32 0#32) : FVec Ideal S_ .f32) pads_S16x2048x2x64_S16x2304x2x64_000_1281280_000_000 h_S_) shapeCasts_S16x2304x2x64_S16x18x128x2x64) slices_S16x18x128x2x64_S16x16x128x2x64_0_2_0_0_0) : FVec Ideal S16x16x128x2x64 .f32)⟩] concatenates_S16x16x128x2x64_S16x16x128x2x64_S16x16x128x2x64_S16x16x384x2x64_d2 : FVec Ideal S16x16x384x2x64 .f32))

/-- The masked scores. -/
def scores (a0 : FVec Ideal S16x2048x384 .f32) (a1 : FVec Ideal S16x2048x128 .f32) : FVec Ideal S16x16x2x3x128x384 .f32 :=
  (select (broadcastInDim S16x16x2x3x128x384 ![0, 1, 2, 3, 4, 5] bcast_S1x16x1x1x128x384_S16x16x2x3x128x384_0_1_2_3_4_5 (broadcastInDim S1x16x1x1x128x384 ![1, 4, 5] bcast_S16x128x384_S1x16x1x1x128x384_1_4_5 (andi (broadcastInDim S16x128x384 ![0, 1, 2] bcast_S1x128x384_S16x128x384_0_1_2 (broadcastInDim S1x128x384 ![1, 2] bcast_S128x384_S1x128x384_1_2 (cmpi .sle (absi (subi (broadcastInDim S128x384 ![0, 1] bcast_S128x1_S128x384_0_1 (addi (broadcastInDim S128x1 ![0] bcast_S128_S128x1_0 (iotaInDim S128 32 0)) (broadcastInDim S128x1 ![] bcast_S_S128x1 (constantI S_ 32 128#32)))) (broadcastInDim S128x384 ![0, 1] bcast_S1x384_S128x384_0_1 (broadcastInDim S1x384 ![1] bcast_S384_S1x384_1 (iotaInDim S384 32 0))))) (broadcastInDim S128x384 ![] bcast_S_S128x384 (constantI S_ 32 128#32))))) (broadcastInDim S16x128x384 ![0, 1, 2] bcast_S16x1x384_S16x128x384_0_1_2 (broadcastInDim S16x1x384 ![0, 2] bcast_S16x384_S16x1x384_0_2 (andi (cmpi .sge (addi (broadcastInDim S16x384 ![0, 1] bcast_S16x1_S16x384_0_1 (subi (muli (broadcastInDim S16x1 ![0] bcast_S16_S16x1_0 (iotaInDim S16 32 0)) (broadcastInDim S16x1 ![] bcast_S_S16x1 (constantI S_ 32 128#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))) (broadcastInDim S16x384 ![] bcast_S_S16x384 (constantI S_ 32 0#32))) (cmpi .slt (addi (broadcastInDim S16x384 ![0, 1] bcast_S16x1_S16x384_0_1 (subi (muli (broadcastInDim S16x1 ![0] bcast_S16_S16x1_0 (iotaInDim S16 32 0)) (broadcastInDim S16x1 ![] bcast_S_S16x1 (constantI S_ 32 128#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))) (broadcastInDim S16x384 ![] bcast_S_S16x384 (constantI S_ 32 2048#32))))))))) (addf (transpose S16x16x2x3x128x384 [0, 1, 2, 5, 4, 3] (Host.dotGeneral dot_S16x16x384x2x64_S16x16x128x2x3x64_S16x16x2x384x128x3_4_5_2_24_013_013 none (band a1) (shapeCast _ (mulf a0 (broadcastInDim S16x2048x384 ![] bcast_S_S16x2048x384 (constant S_ .f32 0x3E000000#32))) shapeCasts_S16x2048x384_S16x16x128x2x3x64)) transposes_S16x16x2x384x128x3_S16x16x2x3x128x384_0_1_2_5_4_3) (broadcastInDim S16x16x2x3x128x384 ![0, 1, 2, 3, 4, 5] bcast_S1x1x2x3x128x384_S16x16x2x3x128x384_0_1_2_3_4_5 (broadcastInDim S1x1x2x3x128x384 ![2, 3, 4, 5] bcast_S2x3x128x384_S1x1x2x3x128x384_2_3_4_5 (mulf (broadcastInDim S2x3x128x384 ![0, 1, 2, 3] bcast_S2x3x1x1_S2x3x128x384_0_1_2_3 (Host.negf (broadcastInDim S2x3x1x1 ![0, 1] bcast_S2x3_S2x3x1x1_0_1 (shapeCast _ (Host.exp (mulf (broadcastInDim S6 ![] bcast_S_S6 (constant S_ .f32 0x3F317218#32)) (Host.divf (mulf (broadcastInDim S6 ![] bcast_S_S6 (constant S_ .f32 0xC1000000#32)) (addf (broadcastInDim S6 ![] bcast_S_S6 (constant S_ .f32 0x3F800000#32)) (sitofp .f32 (iotaInDim S6 32 0)))) (broadcastInDim S6 ![] bcast_S_S6 (constant S_ .f32 0x40C00000#32))))) shapeCasts_S6_S2x3)))) (broadcastInDim S2x3x128x384 ![0, 1, 2, 3] bcast_S1x1x128x384_S2x3x128x384_0_1_2_3 (broadcastInDim S1x1x128x384 ![2, 3] bcast_S128x384_S1x1x128x384_2_3 (sitofp .f32 (absi (subi (broadcastInDim S128x384 ![0, 1] bcast_S128x1_S128x384_0_1 (addi (broadcastInDim S128x1 ![0] bcast_S128_S128x1_0 (iotaInDim S128 32 0)) (broadcastInDim S128x1 ![] bcast_S_S128x1 (constantI S_ 32 128#32)))) (broadcastInDim S128x384 ![0, 1] bcast_S1x384_S128x384_0_1 (broadcastInDim S1x384 ![1] bcast_S384_S1x384_1 (iotaInDim S384 32 0)))))))))))) (broadcastInDim S16x16x2x3x128x384 ![] bcast_S_S16x16x2x3x128x384 (id (constant S_ .f32 0xFF800000#32))))

/-- The greatest score of every row. -/
def tops (s : FVec Ideal S16x16x2x3x128x384 .f32) : FVec Ideal S16x16x2x3x128 .f32 :=
  Host.reduce FloatOps.maximumf s (constant S_ .f32 0xFF800000#32 : FVec Ideal S_ .f32) reducesTo_S16x16x2x3x128x384_S16x16x2x3x128_d5 h_S_

/-- The maxima of the rows, the sinks included, from the greatest scores. -/
def maxes (R : FVec Ideal S16x16x2x3x128 .f32) (a3 : FVec Ideal S6 .f32) : FVec Ideal S16x16x2x3x128x1 .f32 :=
  (maximumf (broadcastInDim S16x16x2x3x128x1 ![0, 1, 2, 3, 4] bcast_S16x16x2x3x128_S16x16x2x3x128x1_0_1_2_3_4 R) (broadcastInDim S16x16x2x3x128x1 ![0, 1, 2, 3, 4, 5] bcast_S1x1x2x3x1x1_S16x16x2x3x128x1_0_1_2_3_4_5 (shapeCast _ a3 shapeCasts_S6_S1x1x2x3x1x1)))

/-- The weights of the keys before the division. -/
def powers (s : FVec Ideal S16x16x2x3x128x384 .f32) (M : FVec Ideal S16x16x2x3x128x1 .f32) : FVec Ideal S16x16x2x3x128x384 .f32 :=
  (Host.exp (subf s (broadcastInDim S16x16x2x3x128x384 ![0, 1, 2, 3, 4, 5] bcast_S16x16x2x3x128x1_S16x16x2x3x128x384_0_1_2_3_4_5 M)))

/-- The sums of the rows. -/
def sums (E : FVec Ideal S16x16x2x3x128x384 .f32) : FVec Ideal S16x16x2x3x128 .f32 :=
  Host.reduceAdd E (constant S_ .f32 0x00000000#32 : FVec Ideal S_ .f32) reducesTo_S16x16x2x3x128x384_S16x16x2x3x128_d5 h_S_

/-- The attention from the weights, their sums, the maxima, the sinks and the values. -/
def mix (E : FVec Ideal S16x16x2x3x128x384 .f32) (D : FVec Ideal S16x16x2x3x128 .f32) (M : FVec Ideal S16x16x2x3x128x1 .f32) (a3 : FVec Ideal S6 .f32) (v : FVec Ideal S16x16x384x2x64 .f32) : FVec Ideal S16x2048x384 .bf16 :=
  truncf .bf16 (shapeCast _ (transpose S16x16x128x2x3x64 [0, 1, 5, 2, 4, 3] (Host.dotGeneral dot_S16x16x384x2x64_S16x16x2x3x128x384_S16x16x2x64x3x128_2_5_4_34_013_012 none v (Host.divf E (broadcastInDim S16x16x2x3x128x384 ![0, 1, 2, 3, 4, 5] bcast_S16x16x2x3x128x1_S16x16x2x3x128x384_0_1_2_3_4_5 (addf (broadcastInDim S16x16x2x3x128x1 ![0, 1, 2, 3, 4] bcast_S16x16x2x3x128_S16x16x2x3x128x1_0_1_2_3_4 D) (Host.exp (subf (broadcastInDim S16x16x2x3x128x1 ![0, 1, 2, 3, 4, 5] bcast_S1x1x2x3x1x1_S16x16x2x3x128x1_0_1_2_3_4_5 (shapeCast _ a3 shapeCasts_S6_S1x1x2x3x1x1)) M)))))) transposes_S16x16x2x64x3x128_S16x16x128x2x3x64_0_1_5_2_4_3) shapeCasts_S16x16x128x2x3x64_S16x2048x384) bitsLt_bf16_f32

/-- The attention from the scores, the sinks and the values. -/
def attOf (s : FVec Ideal S16x16x2x3x128x384 .f32) (a3 : FVec Ideal S6 .f32) (v : FVec Ideal S16x16x384x2x64 .f32) : FVec Ideal S16x2048x384 .bf16 :=
  mix (powers s (maxes (tops s) a3)) (sums (powers s (maxes (tops s) a3))) (maxes (tops s) a3) a3 v

/-- The reference's first result is that composition. -/
theorem att_run (m : (ℓ : Loc nD τ sig) → Buf (Elt Ideal) ℓ) (c : Dev nD) : Cert.ReferenceIdeal.Value.res_main_v92 (F := Ideal) m c
    = attOf (scores (m ((c.tc : Thread nD τ).loc main_arg0)) (m ((c.tc : Thread nD τ).loc main_arg1))) (m ((c.tc : Thread nD τ).loc main_arg3)) (band (m ((c.tc : Thread nD τ).loc main_arg2))) := by
  unfold Cert.ReferenceIdeal.Value.res_main_v92
  rfl

end Cert.ReferenceIdeal.Att
-- ==== Proof.RefAttAt.lean ====
module

public import proofs.«01_k».proof.Proof.Gen.ReferenceIdeal.Run
public import proofs.«01_k».proof.Proof.Trig
public import proofs.«01_k».proof.Proof.RefAtt
public import proofs.«01_k».proof.Proof.RefRed
public import Idealize.ShloMosaic.Lib.Pointwise
public import Idealize.ShloMosaic.Lib.Claim
public import Idealize.ShloMosaic.Lib.Tactic.CleanTypes

/-! The parts of the reference's attention, read at an index. -/

@[expose] public section

set_option maxRecDepth 16384

noncomputable section

namespace Cert.ReferenceIdeal.Att

open Cert.ReferenceIdeal Cert.ReferenceIdeal.Gen Idealize.ShloMosaic Idealize.ShloMosaic.TcCoe Idealize.SL.Sem Idealize.ShloMosaic.StableHlo

theorem low : Ideal.ofBits .f32 4286578688#32 = ⊥ := by simp [Ideal.ofBits, Ideal.ieee]

/-- The span's positions inside the sequence, as the words test them. -/
theorem inside : ∀ n : Fin 16, ∀ j : Fin 384,
    IntOp.andi (IntOp.cmpi .sge (IntOp.addi (IntOp.subi (IntOp.muli (BitVec.ofNat 32 n.val) 128#32) 128#32) (BitVec.ofNat 32 j.val)) 0#32)
      (IntOp.cmpi .slt (IntOp.addi (IntOp.subi (IntOp.muli (BitVec.ofNat 32 n.val) 128#32) 128#32) (BitVec.ofNat 32 j.val)) 2048#32)
      = BitVec.ofBool (decide (128 ≤ 128 * n.val + j.val ∧ 128 * n.val + j.val < 2176)) := by decide +kernel

theorem both (a b : ℕ) (ha : a < 2 ^ 31) (hb : b < 2 ^ 31) (p : Prop) [Decidable p] {α : Type} (x y : α) :
    Scalar.select (IntOp.andi (IntOp.cmpi .sle (BitVec.ofNat 32 a) (BitVec.ofNat 32 b)) (BitVec.ofBool (decide p))) x y
      = if a ≤ b ∧ p then x else y := by
  have h := Cert.Att.word_le a b ha hb x y
  by_cases hp : p
  · rw [decide_eq_true hp, show ∀ w : BitVec 1, IntOp.andi w (BitVec.ofBool true) = w by decide, h]
    simp only [hp, and_true]
  · rw [decide_eq_false hp, show ∀ w : BitVec 1, IntOp.andi w (BitVec.ofBool false) = 0#1 by decide]
    simp only [hp, and_false, if_false]
    rfl

theorem powers_at (s : FVec Ideal S16x16x2x3x128x384 .f32) (M : FVec Ideal S16x16x2x3x128x1 .f32) (b n : Fin 16) (k : Fin 2) (g : Fin 3) (r : Fin 128) (j : Fin 384) :
    powers s M (ix6 b n k g r j) = Ideal.exp ((s (ix6 b n k g r j) : EReal) - M (ix6 b n k g r 0)) := by
  unfold powers
  clean_types
  pointwise

theorem tops_at (s : FVec Ideal S16x16x2x3x128x384 .f32) (b n : Fin 16) (k : Fin 2) (g : Fin 3) (r : Fin 128) :
    tops s (ix5 b n k g r) = (Finset.univ : Finset (Fin 384)).fold max ⊥ fun j => (s (ix6 b n k g r j) : EReal) :=
  (last_reduce _ s _ _ b n k g r).trans (by rw [show (constant S_ .f32 0xFF800000#32 : FVec Ideal S_ .f32) (Shape.Idx.first h_S_) = (⊥ : EReal) from low])

theorem sums_at (E : FVec Ideal S16x16x2x3x128x384 .f32) (b n : Fin 16) (k : Fin 2) (g : Fin 3) (r : Fin 128) :
    sums E (ix5 b n k g r) = ∑ j : Fin 384, (E (ix6 b n k g r j) : EReal) :=
  (last_add _ E _ _ b n k g r).trans (by rw [show (constant S_ .f32 0x00000000#32 : FVec Ideal S_ .f32) (Shape.Idx.first h_S_) = (0 : EReal) from Ideal.ofBits_zero_f32, zero_add])

theorem maxes_at (R : FVec Ideal S16x16x2x3x128 .f32) (a3 : FVec Ideal S6 .f32) (b n : Fin 16) (k : Fin 2) (g : Fin 3) (r : Fin 128) :
    maxes R a3 (ix6 b n k g r 0) = max (R (ix5 b n k g r) : EReal) (a3 (ix1 ⟨(k : ℕ) * 3 + g, by omega⟩)) := by
  unfold maxes
  clean_types
  pointwise

theorem mix_at (E : FVec Ideal S16x16x2x3x128x384 .f32) (D : FVec Ideal S16x16x2x3x128 .f32) (M : FVec Ideal S16x16x2x3x128x1 .f32) (a3 : FVec Ideal S6 .f32) (v : FVec Ideal S16x16x384x2x64 .f32)
    (b n : Fin 16) (r : Fin 128) (k : Fin 2) (g : Fin 3) (d : Fin 64) (t : Fin 2048) (e : Fin 384)
    (ht : (t : ℕ) = 128 * n + r) (he : (e : ℕ) = 192 * k + 64 * g + d) :
    mix E D M a3 v (ix3 b t e) = (∑ x : Fin 384, (v (ix5 b n x k d) : EReal) * Ideal.div (E (ix6 b n k g r x))
      ((D (ix5 b n k g r) : EReal) + Ideal.exp ((a3 (ix1 ⟨(k : ℕ) * 3 + g, by omega⟩) : EReal) - M (ix6 b n k g r 0))) : EReal) := by
  have e1 : (⟨(t : ℕ) / 128, by omega⟩ : Fin 16) = n := Fin.ext (by show (t : ℕ) / 128 = n; omega)
  have e2 : (⟨(t : ℕ) % 128, by omega⟩ : Fin 128) = r := Fin.ext (by show (t : ℕ) % 128 = r; omega)
  have e3 : (⟨(e : ℕ) / 192, by omega⟩ : Fin 2) = k := Fin.ext (by show (e : ℕ) / 192 = k; omega)
  have e4 : (⟨(e : ℕ) / 64 % 3, by omega⟩ : Fin 3) = g := Fin.ext (by show (e : ℕ) / 64 % 3 = g; omega)
  have e5 : (⟨(e : ℕ) % 64, by omega⟩ : Fin 64) = d := Fin.ext (by show (e : ℕ) % 64 = d; omega)
  have e6 : (⟨(e : ℕ) / 192 * 3 + (e : ℕ) / 64 % 3, by omega⟩ : Fin 6) = ⟨(k : ℕ) * 3 + g, by omega⟩ := Fin.ext (by show (e : ℕ) / 192 * 3 + (e : ℕ) / 64 % 3 = (k : ℕ) * 3 + g; omega)
  unfold mix
  clean_types
  pointwise
  simp only [e1, e2, e3, e4, e5, e6]

/-- The greatest of a row's scores and its sink. -/
def top (s : Fin 384 → EReal) (u : EReal) : EReal := max (Finset.univ.fold max ⊥ s) u

/-- One entry of the reference's attention: the values weighted by the quotients of the softmax. -/
theorem attOf_at (s : FVec Ideal S16x16x2x3x128x384 .f32) (a3 : FVec Ideal S6 .f32) (v : FVec Ideal S16x16x384x2x64 .f32)
    (b n : Fin 16) (r : Fin 128) (k : Fin 2) (g : Fin 3) (d : Fin 64) (t : Fin 2048) (e : Fin 384)
    (ht : (t : ℕ) = 128 * n + r) (he : (e : ℕ) = 192 * k + 64 * g + d) (S : Fin 384 → EReal) (hS : ∀ j, s (ix6 b n k g r j) = S j)
    (u : EReal) (hu : a3 (ix1 ⟨(k : ℕ) * 3 + g, by omega⟩) = u) :
    attOf s a3 v (ix3 b t e) = (∑ x : Fin 384, (v (ix5 b n x k d) : EReal) * Ideal.div (Ideal.exp (S x - top S u))
      (∑ j : Fin 384, Ideal.exp (S j - top S u) + Ideal.exp (u - top S u)) : EReal) := by
  unfold attOf
  rw [mix_at _ _ _ _ _ b n r k g d t e ht he]
  simp only [powers_at, sums_at, maxes_at, tops_at, hS, hu]
  rfl

theorem band_at (a : FVec Ideal S16x2048x128 .f32) (b n : Fin 16) (j : Fin 384) (k : Fin 2) (d : Fin 64) :
    band a (ix5 b n j k d) = if h : 128 ≤ 128 * (n : ℕ) + j ∧ 128 * (n : ℕ) + j < 2176
      then (a (ix3 b ⟨128 * (n : ℕ) + j - 128, by omega⟩ ⟨64 * (k : ℕ) + d, by omega⟩) : EReal) else 0 := by
  unfold band
  clean_types
  pointwise
  have e0 : (FloatOps.sitofp (F := Ideal) FTy.f32 0#32 : EReal) = 0 := (Cert.Att.word_float 0 (by omega)).trans (by norm_num)
  have hj := j.isLt
  have hn := n.isLt
  have key : ∀ x : ℕ, x = 128 * (n : ℕ) + j → (if h : 128 ≤ x ∧ x - 128 < 2048 then (a (ix3 b ⟨x - 128, h.2⟩ ⟨(k : ℕ) * 64 + d, by omega⟩) : EReal) else FloatOps.sitofp (F := Ideal) FTy.f32 0#32)
      = if h : 128 ≤ 128 * (n : ℕ) + j ∧ 128 * (n : ℕ) + j < 2176
      then (a (ix3 b ⟨128 * (n : ℕ) + j - 128, by omega⟩ ⟨64 * (k : ℕ) + d, by omega⟩) : EReal) else 0 := by
    rintro x rfl
    by_cases h : 128 ≤ 128 * (n : ℕ) + j ∧ 128 * (n : ℕ) + j < 2176
    · rw [dif_pos h, dif_pos ⟨h.1, by omega⟩]
      congr 2
      exact Fin.ext (by show (k : ℕ) * 64 + d = 64 * (k : ℕ) + d; omega)
    · rw [dif_neg h, dif_neg (by omega), e0]
  split
  · exact key _ (by omega)
  · split
    · exact key _ (by omega)
    · exact key _ (by omega)

theorem scores_at (a0 : FVec Ideal S16x2048x384 .f32) (a1 : FVec Ideal S16x2048x128 .f32) (b n : Fin 16) (k : Fin 2) (g : Fin 3) (r : Fin 128) (j : Fin 384) :
    scores a0 a1 (ix6 b n k g r j) = if Cert.Att.dist ((r : ℕ) + 128) j ≤ 128 ∧ (128 ≤ 128 * (n : ℕ) + j ∧ 128 * (n : ℕ) + j < 2176)
      then (∑ x : Fin 64, (band a1 (ix5 b n j k x) : EReal) * ((a0 (ix3 b ⟨(n : ℕ) * 128 + r, by omega⟩ ⟨(k : ℕ) * 192 + (g : ℕ) * 64 + x, by omega⟩) : EReal) * ((1 / 8 : ℝ) : EReal))
        + ((-Cert.Att.slope ((k : ℕ) * 3 + g) * (Cert.Att.dist ((r : ℕ) + 128) j : ℕ) : ℝ) : EReal) : EReal) else ⊥ := by
  unfold scores
  generalize hb : band a1 = w
  clean_types
  pointwise
  have hr := r.isLt
  have hj := j.isLt
  have hk := k.isLt
  have hg := g.isLt
  rw [inside n j]
  rw [show IntOp.addi (BitVec.ofNat 32 r.val) 128#32 = BitVec.ofNat 32 (r.val + 128) from Cert.Att.word_add _ 128,
    Cert.Att.word_dist _ _ (by omega) (by omega), both _ 128 (by unfold Cert.Att.dist; omega) (by omega)]
  refine if_congr Iff.rfl ?_ ?_
  · have e1 : (1 : EReal) + FloatOps.sitofp (F := Ideal) FTy.f32 (BitVec.ofNat 32 ((k : ℕ) * 3 + g)) = (((((k : ℕ) * 3 + g + 1 : ℕ)) : ℝ) : EReal) := by
      rw [Cert.Att.word_float _ (by omega)]; push_cast; exact add_comm _ _
    rw [Cert.Att.slope_entry ((k : ℕ) * 3 + g) _ e1, Cert.Att.lit_eighth, Cert.Att.word_float _ (by unfold Cert.Att.dist; omega),
      ← EReal.coe_neg, ← EReal.coe_mul]
  · exact low

end Cert.ReferenceIdeal.Att
-- ==== Proof.RefFour.lean ====
module

public import proofs.«01_k».proof.Proof.Gen.ReferenceIdeal.Run
public import proofs.«01_k».proof.Proof.Trig
public import Idealize.ShloMosaic.Lib.Pointwise
public import Idealize.ShloMosaic.Lib.Claim
public import Idealize.ShloMosaic.Lib.Tactic.CleanTypes

/-! The reference's Fourier mixer, read at an index. -/

@[expose] public section

set_option maxRecDepth 16384

noncomputable section

namespace Cert.ReferenceIdeal.Att

open Cert.ReferenceIdeal Cert.ReferenceIdeal.Gen Idealize.ShloMosaic Idealize.ShloMosaic.TcCoe Idealize.SL.Sem Idealize.ShloMosaic.StableHlo

/-- The Fourier mixer of the reference. -/
def refFour (a4 : FVec Ideal S16x2048x256 .f32) (a5 : FVec Ideal S4x64x64 .f32) : FVec Ideal S16x2048x256 .bf16 :=
  truncf .bf16 (shapeCast _ (transpose S16x2048x4x64 [2, 3, 0, 1] (Host.dotGeneral dot_S4x64x64_S16x2048x4x64_S4x64x16x2048_1_3_2_01_0_2 none a5 (subf (transpose S16x2048x4x64 [0, 3, 1, 2] (Host.dotGeneral dot_S16x2048x4x64_S2048x2048_S16x4x64x2048_1_1_023_0_n_n none (Host.dotGeneral dot_S16x2048x4x64_S64x64_S16x2048x4x64_3_0_012_1_n_n none (shapeCast _ a4 shapeCasts_S16x2048x256_S16x2048x4x64) (Host.divf (Host.cos (Host.divf (mulf (broadcastInDim S64x64 ![] bcast_S_S64x64 (mulf (constant S_ .f32 0x40000000#32) (Host.acos (constant S_ .f32 0xBF800000#32)))) (sitofp .f32 (muli (iotaInDim S64x64 32 0) (iotaInDim S64x64 32 1)))) (broadcastInDim S64x64 ![] bcast_S_S64x64 (constant S_ .f32 0x42800000#32)))) (broadcastInDim S64x64 ![] bcast_S_S64x64 (constant S_ .f32 0x41000000#32)))) (Host.divf (Host.cos (Host.divf (mulf (broadcastInDim S2048x2048 ![] bcast_S_S2048x2048 (mulf (constant S_ .f32 0x40000000#32) (Host.acos (constant S_ .f32 0xBF800000#32)))) (sitofp .f32 (muli (iotaInDim S2048x2048 32 0) (iotaInDim S2048x2048 32 1)))) (broadcastInDim S2048x2048 ![] bcast_S_S2048x2048 (constant S_ .f32 0x45000000#32)))) (broadcastInDim S2048x2048 ![] bcast_S_S2048x2048 (constant S_ .f32 0x423504F3#32)))) transposes_S16x4x64x2048_S16x2048x4x64_0_3_1_2) (transpose S16x2048x4x64 [0, 3, 1, 2] (Host.dotGeneral dot_S16x2048x4x64_S2048x2048_S16x4x64x2048_1_1_023_0_n_n none (Host.dotGeneral dot_S16x2048x4x64_S64x64_S16x2048x4x64_3_0_012_1_n_n none (shapeCast _ a4 shapeCasts_S16x2048x256_S16x2048x4x64) (Host.divf (Host.negf (Host.sin (Host.divf (mulf (broadcastInDim S64x64 ![] bcast_S_S64x64 (mulf (constant S_ .f32 0x40000000#32) (Host.acos (constant S_ .f32 0xBF800000#32)))) (sitofp .f32 (muli (iotaInDim S64x64 32 0) (iotaInDim S64x64 32 1)))) (broadcastInDim S64x64 ![] bcast_S_S64x64 (constant S_ .f32 0x42800000#32))))) (broadcastInDim S64x64 ![] bcast_S_S64x64 (constant S_ .f32 0x41000000#32)))) (Host.divf (Host.negf (Host.sin (Host.divf (mulf (broadcastInDim S2048x2048 ![] bcast_S_S2048x2048 (mulf (constant S_ .f32 0x40000000#32) (Host.acos (constant S_ .f32 0xBF800000#32)))) (sitofp .f32 (muli (iotaInDim S2048x2048 32 0) (iotaInDim S2048x2048 32 1)))) (broadcastInDim S2048x2048 ![] bcast_S_S2048x2048 (constant S_ .f32 0x45000000#32))))) (broadcastInDim S2048x2048 ![] bcast_S_S2048x2048 (constant S_ .f32 0x423504F3#32)))) transposes_S16x4x64x2048_S16x2048x4x64_0_3_1_2))) transposes_S4x64x16x2048_S16x2048x4x64_2_3_0_1) shapeCasts_S16x2048x4x64_S16x2048x256) bitsLt_bf16_f32

/-- A negated sine entry of a transform's table. -/
theorem neg_sin (k : ℕ) (hk : k < 2 ^ 31) (n r : ℝ) (hn : n ≠ 0) (hr : r ≠ 0) (N R : EReal) (hN : N = (n : EReal)) (hR : R = (r : EReal)) :
    Ideal.div (-Ideal.sin (Ideal.div (Ideal.ofBits .f32 0x40000000#32 * Ideal.acos (Ideal.ofBits .f32 0xBF800000#32)
      * (FloatOps.sitofp (F := Ideal) .f32 (BitVec.ofNat 32 k) : EReal)) N)) R = ((-Cert.Att.sinT n r k : ℝ) : EReal) := by
  rw [Cert.Att.pi_lit, Cert.Att.lit_two, Cert.Att.word_float k hk, hN, hR, ← EReal.coe_mul, ← EReal.coe_mul, Cert.Att.div_coe _ _ hn]
  show Ideal.div (-((Real.sin _ : ℝ) : EReal)) _ = _
  rw [← EReal.coe_neg, Cert.Att.div_coe _ _ hr, Cert.Att.sinT, neg_div]

/-- One entry of the reference's Fourier mixer. -/
theorem refFour_at (a4 : FVec Ideal S16x2048x256 .f32) (a5 : FVec Ideal S4x64x64 .f32) (b : Fin 16) (t : Fin 2048) (e : Fin 256) :
    refFour a4 a5 (ix3 b t e) = (∑ x : Fin 64, (a5 (ix3 ⟨(e : ℕ) / 64, by omega⟩ x ⟨(e : ℕ) % 64, by omega⟩) : EReal) *
      ((∑ y : Fin 2048, (∑ z : Fin 64, (a4 (ix3 b y ⟨(e : ℕ) / 64 * 64 + z, by omega⟩) : EReal) * ((Cert.Att.cosT 64 8 ((z : ℕ) * x) : ℝ) : EReal))
          * ((Cert.Att.cosT 2048 Cert.Att.root2048 ((t : ℕ) * y) : ℝ) : EReal))
        - (∑ y : Fin 2048, (∑ z : Fin 64, (a4 (ix3 b y ⟨(e : ℕ) / 64 * 64 + z, by omega⟩) : EReal) * ((-Cert.Att.sinT 64 8 ((z : ℕ) * x) : ℝ) : EReal))
          * ((-Cert.Att.sinT 2048 Cert.Att.root2048 ((t : ℕ) * y) : ℝ) : EReal))) : EReal) := by
  have c1 : ∀ z x : Fin 64, _ := fun z x => Cert.Att.cos_entry ((z : ℕ) * x) (by have := z.isLt; have := x.isLt; nlinarith) 64 8 (by norm_num) (by norm_num) _ _ Cert.Att.lit_64 Cert.Att.lit_8
  have c2 : ∀ z x : Fin 2048, _ := fun z x => Cert.Att.cos_entry ((z : ℕ) * x) (by have := z.isLt; have := x.isLt; nlinarith) 2048 Cert.Att.root2048 (by norm_num) (by norm_num [Cert.Att.root2048]) _ _ Cert.Att.lit_2048 Cert.Att.lit_root
  have s1 : ∀ z x : Fin 64, _ := fun z x => neg_sin ((z : ℕ) * x) (by have := z.isLt; have := x.isLt; nlinarith) 64 8 (by norm_num) (by norm_num) _ _ Cert.Att.lit_64 Cert.Att.lit_8
  have s2 : ∀ z x : Fin 2048, _ := fun z x => neg_sin ((z : ℕ) * x) (by have := z.isLt; have := x.isLt; nlinarith) 2048 Cert.Att.root2048 (by norm_num) (by norm_num [Cert.Att.root2048]) _ _ Cert.Att.lit_2048 Cert.Att.lit_root
  unfold refFour
  clean_types
  pointwise
  simp only [Cert.Att.word_mul, c1, c2, s1, s2]

end Cert.ReferenceIdeal.Att
-- ==== Proof.Math.lean ====
module

public import Idealize.ShloMosaic.Lib.Pointwise

/-! The two equations between the kernel's order of operations and the reference's: a softmax's row divided after the sum over
the values or before it, and the Fourier mixer with its products associated in two ways. -/

@[expose] public section

noncomputable section

namespace Cert.Att

open Idealize.ShloMosaic

/-- A real number's nonnegative multiples of a sum, taken term by term. -/
theorem sum_scale {ι : Type} (s : Finset ι) (g : ι → EReal) (a : ℝ) (ha : 0 ≤ a) :
    (∑ i ∈ s, g i) * (a : EReal) = ∑ i ∈ s, g i * (a : EReal) := by
  classical
  induction s using Finset.induction_on with
  | empty => simp
  | insert x s hx ih =>
    rw [Finset.sum_insert hx, Finset.sum_insert hx, ← ih]
    exact EReal.right_distrib_of_nonneg_of_ne_top (EReal.coe_nonneg.mpr ha) (EReal.coe_ne_top a) _ _

theorem sum_coe {ι : Type} (s : Finset ι) (g : ι → ℝ) : ∑ i ∈ s, ((g i : ℝ) : EReal) = ((∑ i ∈ s, g i : ℝ) : EReal) := by
  classical
  induction s using Finset.induction_on with
  | empty => simp
  | insert x s hx ih => rw [Finset.sum_insert hx, Finset.sum_insert hx, ih, EReal.coe_add]

theorem exp_real (x : EReal) (hx : x ≠ ⊤) : ∃ r : ℝ, Ideal.exp x = (r : EReal) ∧ 0 ≤ r := by
  induction x using EReal.rec with
  | bot => exact ⟨0, rfl, le_refl 0⟩
  | top => exact absurd rfl hx
  | coe r => exact ⟨Real.exp r, rfl, (Real.exp_pos r).le⟩

/-- A softmax's row against the values: one division at the end, or one at every key. -/
theorem row_eq (S v : Fin 384 → EReal) (u : ℝ) (hS : ∀ j, S j ≠ ⊤) (M : EReal) (hM : M = max (Finset.univ.fold max ⊥ S) (u : EReal)) :
    Ideal.div (∑ j, Ideal.exp (S j - M) * v j) (∑ j, Ideal.exp (S j - M) + Ideal.exp ((u : EReal) - M))
      = ∑ j, v j * Ideal.div (Ideal.exp (S j - M)) (∑ j, Ideal.exp (S j - M) + Ideal.exp ((u : EReal) - M)) := by
  have htop : M ≠ ⊤ := by
    rw [hM]
    refine ne_of_lt (max_lt ?_ (EReal.coe_lt_top u))
    rw [Finset.fold_max_lt]
    exact ⟨bot_lt_top, fun j _ => lt_top_iff_ne_top.mpr (hS j)⟩
  have hbot : M ≠ ⊥ := by
    rw [hM]
    exact ne_of_gt (lt_of_lt_of_le (EReal.bot_lt_coe u) (le_max_right _ _))
  lift M to ℝ using ⟨htop, hbot⟩ with μ
  have hE : ∀ j, ∃ r : ℝ, Ideal.exp (S j - (μ : EReal)) = (r : EReal) ∧ 0 ≤ r := fun j => exp_real _ (by
    have h := hS j
    generalize S j = x at h
    induction x using EReal.rec with
    | bot => simp
    | top => exact absurd rfl h
    | coe r => rw [← EReal.coe_sub]; exact EReal.coe_ne_top _)
  choose e he hpos using hE
  have hu : Ideal.exp ((u : EReal) - (μ : EReal)) = ((Real.exp (u - μ) : ℝ) : EReal) := by rw [← EReal.coe_sub]; rfl
  simp only [he, hu, sum_coe, ← EReal.coe_add]
  have hδ : 0 < ∑ j, e j + Real.exp (u - μ) := add_pos_of_nonneg_of_pos (Finset.sum_nonneg fun j _ => hpos j) (Real.exp_pos _)
  generalize ∑ j, e j + Real.exp (u - μ) = δ at hδ
  have hd : ∀ x : EReal, Ideal.div x (δ : EReal) = x * ((δ⁻¹ : ℝ) : EReal) := fun x => by
    unfold Ideal.div
    rw [if_neg (by exact_mod_cast hδ.ne'), EReal.coe_inv]
  simp only [hd]
  rw [sum_scale _ _ _ (inv_nonneg.mpr hδ.le)]
  exact Finset.sum_congr rfl fun j _ => by rw [mul_comm (e j : EReal), mul_assoc]

/-- A sum over 256 positions of a function that is zero outside one block of 64. -/
theorem block_sum {R : Type} [AddCommMonoid R] (h : Fin 4) (g : Fin 256 → R) (hg : ∀ j : Fin 256, j.val / 64 ≠ h.val → g j = 0) :
    ∑ j, g j = ∑ z : Fin 64, g ⟨h.val * 64 + z.val, by omega⟩ := by
  rw [← (finProdFinEquiv (m := 4) (n := 64)).sum_comp, Fintype.sum_prod_type, Finset.sum_eq_single h]
  · refine Finset.sum_congr rfl fun z _ => congrArg g (Fin.ext ?_)
    show z.val + 64 * h.val = h.val * 64 + z.val
    omega
  · intro i _ hi
    refine Finset.sum_eq_zero fun z _ => hg _ ?_
    show (z.val + 64 * i.val) / 64 ≠ h.val
    have : i.val ≠ h.val := fun q => hi (Fin.ext q)
    omega
  · intro hn; exact absurd (Finset.mem_univ _) hn

/-- One of the mixer's two halves, its products associated in the two ways. -/
theorem half_eq (f : Fin 2048 → Fin 256 → ℝ) (W : Fin 4 → Fin 64 → Fin 64 → ℝ) (T : ℕ → ℝ) (T2 : Fin 2048 → ℝ) (e : Fin 256) :
    ∑ x : Fin 2048, T2 x * ∑ i : Fin 256, f x i * ∑ j : Fin 256, (if i.val / 64 = j.val / 64 then T (i.val % 64 * (j.val % 64)) else 0)
        * (if j.val / 64 = e.val / 64 then W ⟨j.val / 64, by omega⟩ ⟨j.val % 64, by omega⟩ ⟨e.val % 64, by omega⟩ else 0)
      = ∑ x : Fin 64, W ⟨e.val / 64, by omega⟩ x ⟨e.val % 64, by omega⟩ *
          ∑ y : Fin 2048, (∑ z : Fin 64, f y ⟨e.val / 64 * 64 + z.val, by omega⟩ * T (z.val * x.val)) * T2 y := by
  have inner : ∀ i : Fin 256, ∑ j : Fin 256, (if i.val / 64 = j.val / 64 then T (i.val % 64 * (j.val % 64)) else 0)
        * (if j.val / 64 = e.val / 64 then W ⟨j.val / 64, by omega⟩ ⟨j.val % 64, by omega⟩ ⟨e.val % 64, by omega⟩ else 0)
      = if i.val / 64 = e.val / 64 then ∑ x : Fin 64, T (i.val % 64 * x.val) * W ⟨e.val / 64, by omega⟩ x ⟨e.val % 64, by omega⟩ else 0 := by
    intro i
    rw [block_sum ⟨e.val / 64, by omega⟩ _ (fun j hj => by rw [if_neg hj, mul_zero])]
    have hx : ∀ x : Fin 64, (e.val / 64 * 64 + x.val) / 64 = e.val / 64 ∧ (e.val / 64 * 64 + x.val) % 64 = x.val := fun x => by omega
    simp only [(hx _).1, (hx _).2, if_true]
    split
    · rfl
    · simp
  have mid : ∀ x : Fin 2048, ∑ i : Fin 256, f x i * (if i.val / 64 = e.val / 64 then ∑ x : Fin 64, T (i.val % 64 * x.val) * W ⟨e.val / 64, by omega⟩ x ⟨e.val % 64, by omega⟩ else 0)
      = ∑ z : Fin 64, f x ⟨e.val / 64 * 64 + z.val, by omega⟩ * ∑ x : Fin 64, T (z.val * x.val) * W ⟨e.val / 64, by omega⟩ x ⟨e.val % 64, by omega⟩ := by
    intro x
    rw [block_sum ⟨e.val / 64, by omega⟩ _ (fun j hj => by rw [if_neg hj, mul_zero])]
    have hx : ∀ x : Fin 64, (e.val / 64 * 64 + x.val) / 64 = e.val / 64 ∧ (e.val / 64 * 64 + x.val) % 64 = x.val := fun x => by omega
    simp only [(hx _).1, (hx _).2, if_true]
  simp only [inner, mid, Finset.mul_sum, Finset.sum_mul]
  rw [Finset.sum_comm (s := (Finset.univ : Finset (Fin 64))) (t := (Finset.univ : Finset (Fin 2048)))]
  refine Finset.sum_congr rfl fun y _ => ?_
  rw [Finset.sum_comm]
  exact Finset.sum_congr rfl fun x _ => Finset.sum_congr rfl fun z _ => by ring

/-- The mixer's two halves together: the kernel adds the product with the negated sines, the reference subtracts one with both signs turned. -/
theorem four_eq (f : Fin 2048 → Fin 256 → ℝ) (W : Fin 4 → Fin 64 → Fin 64 → ℝ) (C S : ℕ → ℝ) (C2 S2 : Fin 2048 → ℝ) (e : Fin 256) :
    (∑ x : Fin 2048, C2 x * ∑ i : Fin 256, f x i * ∑ j : Fin 256, (if i.val / 64 = j.val / 64 then C (i.val % 64 * (j.val % 64)) else 0)
        * (if j.val / 64 = e.val / 64 then W ⟨j.val / 64, by omega⟩ ⟨j.val % 64, by omega⟩ ⟨e.val % 64, by omega⟩ else 0))
      + (∑ x : Fin 2048, (-S2 x) * ∑ i : Fin 256, f x i * ∑ j : Fin 256, (if i.val / 64 = j.val / 64 then S (i.val % 64 * (j.val % 64)) else 0)
        * (if j.val / 64 = e.val / 64 then W ⟨j.val / 64, by omega⟩ ⟨j.val % 64, by omega⟩ ⟨e.val % 64, by omega⟩ else 0))
      = ∑ x : Fin 64, W ⟨e.val / 64, by omega⟩ x ⟨e.val % 64, by omega⟩ *
          ((∑ y : Fin 2048, (∑ z : Fin 64, f y ⟨e.val / 64 * 64 + z.val, by omega⟩ * C (z.val * x.val)) * C2 y)
            - ∑ y : Fin 2048, (∑ z : Fin 64, f y ⟨e.val / 64 * 64 + z.val, by omega⟩ * (-S (z.val * x.val))) * (-S2 y)) := by
  rw [half_eq f W C C2 e, half_eq f W S (fun x => -S2 x) e, ← Finset.sum_add_distrib]
  refine Finset.sum_congr rfl fun x _ => ?_
  rw [← mul_add, sub_eq_add_neg, ← Finset.sum_neg_distrib]
  refine congrArg (fun r => _ * (_ + r)) (Finset.sum_congr rfl fun y _ => ?_)
  simp only [mul_neg, Finset.sum_neg_distrib, neg_mul, neg_neg]

end Cert.Att
-- ==== Proof.Equal.lean ====
module

public import proofs.«01_k».proof.Proof.Arr
public import proofs.«01_k».proof.Proof.RefAttAt
public import proofs.«01_k».proof.Proof.RefFour
public import proofs.«01_k».proof.Proof.Math

/-! The kernel's two arrays are the reference's two results, entry by entry, when the queries, keys, sinks, the mixer's input and
its weights are real numbers. -/

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD)

theorem row_cases (t : Fin 2048) : ∃ (n : Fin 16) (r : Fin 128), t = srow n r :=
  ⟨⟨t.val / 128, by omega⟩, ⟨t.val % 128, by omega⟩, Fin.ext (by show t.val = 128 * (t.val / 128) + t.val % 128; omega)⟩

theorem pad_entry (x : Vec Ideal S16x2048x128 .bf16) (b n : Fin 16) (j : Fin 384) (k : Fin 2) (d : Fin 64) :
    padded (batK x b) (ix2 (prow n j) (kcol k d)) = if h : inSeq n j then (x (ix3 b ⟨128 * n.val + j.val - 128, by omega⟩ (kcol k d)) : EReal) else 0 := rfl

theorem q_entry (b n : Fin 16) (r : Fin 128) (k : Fin 2) (g : Fin 3) (x : Fin 64) (t : Fin 2048) (e : Fin 384) (ht : t.val = 128 * n.val + r.val)
    (he : e.val = 192 * k.val + 64 * g.val + x.val) :
    batQ (V m c main_v2) b (ix3 0 (srow n r) (qcol k g x))
      = @HMul.hMul EReal EReal EReal _ ((m (c, Proc.devRef .tc main_arg0) : Vec Ideal S16x2048x384 .f32) (ix3 b t e)) ((1 / 8 : ℝ) : EReal) := by
  obtain rfl : t = srow n r := Fin.ext ht
  obtain rfl : e = qcol k g x := Fin.ext he
  exact q_at m c b (srow n r) (qcol k g x)

theorem k_entry (b n : Fin 16) (j : Fin 384) (h : inSeq n j) (k : Fin 2) (x : Fin 64) :
    padded (batK (V m c main_v3) b) (ix2 (prow n j) (kcol k x)) = ((m (c, Proc.devRef .tc main_arg1) : Vec Ideal S16x2048x128 .f32)
      (ix3 b ⟨128 * n.val + j.val - 128, by omega⟩ (kcol k x)) : EReal) := by
  rw [pad_entry, dif_pos h, k_at]

/-- The scores of the two sides agree. -/
theorem score_eq (b n : Fin 16) (r : Fin 128) (k : Fin 2) (g : Fin 3) (j : Fin 384) :
    scoreAt (batQ (V m c main_v2) b) (padded (batK (V m c main_v3) b)) (V m c main_v97) n r k g j
      = Cert.ReferenceIdeal.Att.scores (m (c, Proc.devRef .tc main_arg0)) (m (c, Proc.devRef .tc main_arg1)) (ix6 b n k g r j) := by
  rw [Cert.ReferenceIdeal.Att.scores_at]
  simp only [Cert.ReferenceIdeal.Att.band_at]
  unfold scoreAt
  have hr := r.isLt
  by_cases h : inSeq n j
  · rw [if_pos h, bias_at]
    have e1 : (brow g r).val % 128 = r.val := by unfold brow; show (128 * g.val + r.val) % 128 = r.val; omega
    have e2 : (brow g r).val / 128 = g.val := by unfold brow; show (128 * g.val + r.val) / 128 = g.val; omega
    rw [e1, e2]
    by_cases hd : Cert.Att.dist (r.val + 128) j.val ≤ 128
    · rw [if_pos hd, if_pos ⟨hd, h⟩]
      refine congrArg (fun w : EReal => w + _) (Finset.sum_congr rfl fun x _ => ?_)
      rw [k_entry m c b n j h, dif_pos h, q_entry m c b n r k g x ⟨n.val * 128 + r.val, by omega⟩ ⟨k.val * 192 + g.val * 64 + x.val, by omega⟩
        (by show n.val * 128 + r.val = _; omega) (by show k.val * 192 + g.val * 64 + x.val = _; omega)]
      exact mul_comm _ _
    · rw [if_neg hd, if_neg (fun q => hd q.1), EReal.add_bot]
  · rw [if_neg h, if_neg (fun q => h q.2)]

/-- A score is a real number or minus infinity. -/
theorem score_top (a0 : Vec Ideal S16x2048x384 .f32) (a1 : Vec Ideal S16x2048x128 .f32)
    (h0 : ∀ x y z, ∃ r : ℝ, a0 (ix3 x y z) = (r : EReal)) (h1 : ∀ x y z, ∃ r : ℝ, a1 (ix3 x y z) = (r : EReal))
    (b n : Fin 16) (r : Fin 128) (k : Fin 2) (g : Fin 3) (j : Fin 384) : Cert.ReferenceIdeal.Att.scores a0 a1 (ix6 b n k g r j) ≠ (⊤ : EReal) := by
  rw [Cert.ReferenceIdeal.Att.scores_at]
  split
  · have hq : ∀ x : Fin 64, ∃ w : ℝ, (Cert.ReferenceIdeal.Att.band a1 (ix5 b n j k x) : EReal)
        * ((a0 (ix3 b ⟨n.val * 128 + r.val, by omega⟩ ⟨k.val * 192 + g.val * 64 + x.val, by omega⟩) : EReal) * ((1 / 8 : ℝ) : EReal)) = (w : EReal) := by
      intro x
      rw [Cert.ReferenceIdeal.Att.band_at]
      obtain ⟨w, hw⟩ := h0 b ⟨n.val * 128 + r.val, by omega⟩ ⟨k.val * 192 + g.val * 64 + x.val, by omega⟩
      split
      · obtain ⟨w', hw'⟩ := h1 b ⟨128 * n.val + j.val - 128, by omega⟩ ⟨64 * k.val + x.val, by omega⟩
        exact ⟨w' * (w * (1 / 8)), by rw [EReal.coe_mul, EReal.coe_mul]; exact congrArg₂ (· * ·) hw' (congrArg (· * _) hw)⟩
      · exact ⟨0, by rw [zero_mul, EReal.coe_zero]⟩
    choose w hw using hq
    simp only [hw]
    rw [Cert.Att.sum_coe, ← EReal.coe_add]
    exact EReal.coe_ne_top _
  · exact bot_ne_top

/-- The attention's array is the reference's first result. -/
theorem att_same (h0 : ∀ x y z, ∃ r : ℝ, (m (c, Proc.devRef .tc main_arg0) : Vec Ideal S16x2048x384 .f32) (ix3 x y z) = (r : EReal))
    (h1 : ∀ x y z, ∃ r : ℝ, (m (c, Proc.devRef .tc main_arg1) : Vec Ideal S16x2048x128 .f32) (ix3 x y z) = (r : EReal))
    (h3 : ∀ x, ∃ r : ℝ, (m (c, Proc.devRef .tc main_arg3) : Vec Ideal S6 .f32) (ix1 x) = (r : EReal)) :
    attArr (V m c main_v2) (V m c main_v3) (V m c main_v4) (V m c main_v97) (V m c main_arg3)
      = Cert.ReferenceIdeal.Att.attOf (Cert.ReferenceIdeal.Att.scores (m (c, Proc.devRef .tc main_arg0)) (m (c, Proc.devRef .tc main_arg1)))
          (m (c, Proc.devRef .tc main_arg3)) (Cert.ReferenceIdeal.Att.band (m (c, Proc.devRef .tc main_arg2))) := by
  funext y
  obtain ⟨b, t, e, rfl⟩ : ∃ (b : Fin 16) (t : Fin 2048) (e : Fin 384), y = ix3 b t e := ⟨y 0, y 1, y 2, eq_ix3 y⟩
  obtain ⟨n, r, rfl⟩ := row_cases t
  obtain ⟨k, g, d, rfl⟩ := qcol_cases e
  show attG (batQ (V m c main_v2) b) (padded (batK (V m c main_v3) b)) (padded (batK (V m c main_v4) b)) (V m c main_v97) (sinkOf (V m c main_arg3)) (ix3 0 (srow n r) (qcol k g d)) = _
  rw [attG_apply]
  obtain ⟨u, hu⟩ := h3 ⟨k.val * 3 + g.val, by omega⟩
  have hu' : sinkOf (V m c main_arg3) k g = (u : EReal) := by
    unfold sinkOf
    rw [sink_at, ← hu]
    exact congrArg (m (c, Proc.devRef .tc main_arg3) : Vec Ideal S6 .f32) (congrArg ix1 (Fin.ext (by show 3 * k.val + g.val = k.val * 3 + g.val; omega)))
  refine Eq.trans ?_ (Cert.ReferenceIdeal.Att.attOf_at _ _ _ b n r k g d (srow n r) (qcol k g d) rfl rfl
    (scoreAt (batQ (V m c main_v2) b) (padded (batK (V m c main_v3) b)) (V m c main_v97) n r k g) (fun j => (score_eq m c b n r k g j).symm) (u : EReal) hu).symm
  unfold attAt attRow rowDen
  rw [hu']
  have hv : ∀ j : Fin 384, padded (batK (V m c main_v4) b) (ix2 (prow n j) (kcol k d)) = (Cert.ReferenceIdeal.Att.band (m (c, Proc.devRef .tc main_arg2)) (ix5 b n j k d) : EReal) := by
    intro j
    rw [pad_entry, Cert.ReferenceIdeal.Att.band_at]
    refine dite_congr rfl (fun h => ?_) (fun _ => rfl)
    exact v_at m c b _ _
  simp only [hv]
  exact Cert.Att.row_eq _ _ u (fun j => by rw [score_eq]; exact score_top _ _ h0 h1 b n r k g j) _ rfl

end Cert.KernelIdeal.Att
-- ==== Proof.EqualFour.lean ====
module

public import proofs.«01_k».proof.Proof.Equal
public import proofs.«01_k».proof.Proof.RefFour
public import proofs.«01_k».proof.Proof.Math

/-! The kernel's second array is the reference's second result when the mixer's input and weights are real numbers. -/

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- A row of the scratch's first half. -/
theorem mixed_low (x : Vec Ideal S1x2048x256 .bf16) (t s w : Vec Ideal S256x256 .bf16) (r : Fin 2048) (e : Fin 256) (h : r.val < 4096) :
    mixed x t s w (ix2 ⟨r.val, h⟩ e) = (∑ i : Fin 256, (x (ix3 0 r i) : EReal) * ∑ j : Fin 256, (t (ix2 i j) : EReal) * w (ix2 j e) : EReal) := by
  unfold mixed
  rw [dif_pos (show ((ix2 (⟨r.val, h⟩ : Fin 4096) e : S4096x256.Idx) 0).val < 2048 from r.isLt)]
  exact scratch_apply x t w r e

/-- A row of its second half. -/
theorem mixed_high (x : Vec Ideal S1x2048x256 .bf16) (t s w : Vec Ideal S256x256 .bf16) (r : Fin 2048) (e : Fin 256) (h : 2048 + r.val < 4096) :
    mixed x t s w (ix2 ⟨2048 + r.val, h⟩ e) = (∑ i : Fin 256, (x (ix3 0 r i) : EReal) * ∑ j : Fin 256, (s (ix2 i j) : EReal) * w (ix2 j e) : EReal) := by
  unfold mixed
  rw [dif_neg (show ¬ ((ix2 (⟨2048 + r.val, h⟩ : Fin 4096) e : S4096x256.Idx) 0).val < 2048 from Nat.not_lt.mpr (Nat.le_add_right _ _))]
  refine Eq.trans ?_ (scratch_apply x s w r e)
  exact congrArg (fun z : Fin 2048 => k0_pay27 (F := Ideal) x s w (ix2 z e)) (Fin.ext (Nat.add_sub_cancel_left _ _))

/-- The mixer's array is the reference's second result. -/
theorem four_same (h4 : ∀ x y z, ∃ r : ℝ, (m (c, Proc.devRef .tc main_arg4) : Vec Ideal S16x2048x256 .f32) (ix3 x y z) = (r : EReal))
    (h5 : ∀ x y z, ∃ r : ℝ, (m (c, Proc.devRef .tc main_arg5) : Vec Ideal S4x64x64 .f32) (ix3 x y z) = (r : EReal)) :
    fourArr (V m c main_v5) (V m c main_v56) (V m c main_v57) (V m c main_v67) (V m c main_v53) (V m c main_v55)
      = Cert.ReferenceIdeal.Att.refFour (m (c, Proc.devRef .tc main_arg4)) (m (c, Proc.devRef .tc main_arg5)) := by
  funext y
  obtain ⟨b, t, e, rfl⟩ : ∃ (b : Fin 16) (t : Fin 2048) (e : Fin 256), y = ix3 b t e := ⟨y 0, y 1, y 2, eq_ix3 y⟩
  choose f hf using h4
  choose W hW using h5
  refine Eq.trans ?_ (Cert.ReferenceIdeal.Att.refFour_at _ _ b t e).symm
  show fourAt (V m c main_v53) (V m c main_v55) (mixed (batF (V m c main_v5) b) (V m c main_v56) (V m c main_v57) (V m c main_v67)) t e = _
  unfold fourAt
  have hx : ∀ (r : Fin 2048) (i : Fin 256), (batF (V m c main_v5) b (ix3 0 r i) : EReal) = (f b r i : EReal) := fun r i => (f_at m c b r i).trans (hf b r i)
  have hc : ∀ i j : Fin 256, ((V m c main_v56 : Vec Ideal S256x256 .bf16) (ix2 i j) : EReal)
      = ((if i.val / 64 = j.val / 64 then Cert.Att.cosT 64 8 (i.val % 64 * (j.val % 64)) else 0 : ℝ) : EReal) := fun i j => by
    rw [cd_at]; split <;> rfl
  have hs : ∀ i j : Fin 256, ((V m c main_v57 : Vec Ideal S256x256 .bf16) (ix2 i j) : EReal)
      = ((if i.val / 64 = j.val / 64 then Cert.Att.sinT 64 8 (i.val % 64 * (j.val % 64)) else 0 : ℝ) : EReal) := fun i j => by
    rw [sd_at]; split <;> rfl
  have hw : ∀ i j : Fin 256, ((V m c main_v67 : Vec Ideal S256x256 .bf16) (ix2 i j) : EReal)
      = ((if i.val / 64 = j.val / 64 then W ⟨i.val / 64, by omega⟩ ⟨i.val % 64, by omega⟩ ⟨j.val % 64, by omega⟩ else 0 : ℝ) : EReal) := fun i j => by
    rw [w_at]
    split
    · exact hW _ _ _
    · rfl
  have hC : ∀ x : Fin 2048, ((V m c main_v53 : Vec Ideal S2048x2048 .bf16) (ix2 t x) : EReal)
      = ((Cert.Att.cosT 2048 Cert.Att.root2048 (t.val * x.val) : ℝ) : EReal) := fun x => cs_at m c t x
  have hN : ∀ x : Fin 2048, ((V m c main_v55 : Vec Ideal S2048x2048 .bf16) (ix2 t x) : EReal)
      = ((-Cert.Att.sinT 2048 Cert.Att.root2048 (t.val * x.val) : ℝ) : EReal) := fun x => ns_at m c t x
  simp only [mixed_low, mixed_high, hx, hc, hs, hw, hC, hN]
  simp only [← EReal.coe_mul, Cert.Att.sum_coe, ← EReal.coe_add]
  refine (congrArg (fun r : ℝ => (r : EReal)) (Cert.Att.four_eq (f b) W (Cert.Att.cosT 64 8) (Cert.Att.sinT 64 8)
    (fun y => Cert.Att.cosT 2048 Cert.Att.root2048 (t.val * y.val)) (fun y => Cert.Att.sinT 2048 Cert.Att.root2048 (t.val * y.val)) e)).trans ?_
  have hf' : ∀ (r : Fin 2048) (i : Fin 256), ((m (c, Proc.devRef .tc main_arg4) : Vec Ideal S16x2048x256 .f32) (ix3 b r i) : EReal) = (f b r i : EReal) := fun r i => hf b r i
  have hW' : ∀ (p : Fin 4) (q r : Fin 64), ((m (c, Proc.devRef .tc main_arg5) : Vec Ideal S4x64x64 .f32) (ix3 p q r) : EReal) = (W p q r : EReal) := fun p q r => hW p q r
  simp only [hf', hW', ← EReal.coe_mul, Cert.Att.sum_coe, ← EReal.coe_sub]

end Cert.KernelIdeal.Att
-- ==== Proof.PreAt.lean ====
module

public import proofs.«01_k».proof.Defs
public import proofs.«01_k».proof.Proof.Gen.Pre_finite
public import Idealize.ShloMosaic.Lib.Pointwise

/-! What the precondition says of one entry of an argument. -/

@[expose] public section

set_option maxRecDepth 16384

noncomputable section

namespace Cert.Att

open Cert.Pre_finite Cert.Pre_finite.Gen Idealize.ShloMosaic Idealize.ShloMosaic.TcCoe Idealize.SL.Sem

theorem word_split : ∀ x y : BitVec 1, IntOp.andi x y = 1#1 → x = 1#1 ∧ y = 1#1 := by decide

theorem fold_all {ι : Type} [DecidableEq ι] (g : ι → BitVec 1) (s : Finset ι) : s.fold IntOp.andi 1#1 g = 1#1 → ∀ i ∈ s, g i = 1#1 := by
  induction s using Finset.induction_on with
  | empty => intro _ i hi; exact absurd hi (Finset.notMem_empty i)
  | insert a s ha ih =>
    rw [Finset.fold_insert ha]
    intro h i hi
    obtain ⟨h1, h2⟩ := word_split _ _ h
    rcases Finset.mem_insert.mp hi with rfl | hi
    · exact h1
    · exact ih h2 i hi

/-- An entry whose absolute value is below infinity is a real number. -/
theorem real_of_abs (x : EReal) (h : BitVec.ofBool (decide ((FloatOps.absf (F := Ideal) (φ := .f32) x : EReal) < Ideal.ofBits FTy.f32 2139095040#32)) = 1#1) :
    ∃ r : ℝ, x = (r : EReal) := by
  have e : Ideal.ofBits FTy.f32 2139095040#32 = ⊤ := by simp [Ideal.ofBits, Ideal.ieee]
  have h : (FloatOps.absf (F := Ideal) (φ := .f32) x : EReal) < Ideal.ofBits FTy.f32 2139095040#32 := by
    by_contra hn
    rw [decide_eq_false hn] at h
    exact absurd h (by decide)
  rw [e] at h
  have h : max x (-x) < ⊤ := h
  induction x using EReal.rec with
  | bot => simp at h
  | top => simp at h
  | coe r => exact ⟨r, rfl⟩

theorem all3 {A B C : ℕ} (a : (⟨3, ![A, B, C]⟩ : Shape).Idx → EReal)
    (h : Finset.fold IntOp.andi 1#1 (fun k : Fin A × Fin B × Fin C => BitVec.ofBool (decide ((FloatOps.absf (F := Ideal) (φ := .f32) (a (ix3 k.1 k.2.1 k.2.2)) : EReal) < Ideal.ofBits FTy.f32 2139095040#32))) Finset.univ = 1#1)
    (x : Fin A) (y : Fin B) (z : Fin C) : ∃ r : ℝ, a (ix3 x y z) = (r : EReal) :=
  real_of_abs _ (fold_all _ _ h (x, y, z) (Finset.mem_univ _))

theorem all1 {A : ℕ} (a : (⟨1, ![A]⟩ : Shape).Idx → EReal)
    (h : Finset.fold IntOp.andi 1#1 (fun k : Fin A => BitVec.ofBool (decide ((FloatOps.absf (F := Ideal) (φ := .f32) (a (ix1 k)) : EReal) < Ideal.ofBits FTy.f32 2139095040#32))) Finset.univ = 1#1)
    (x : Fin A) : ∃ r : ℝ, a (ix1 x) = (r : EReal) :=
  real_of_abs _ (fold_all _ _ h x (Finset.mem_univ _))

/-- Under the precondition the queries, the keys, the sinks, the mixer's input and its weights are real numbers. -/
theorem pre_at (a0 : FVec Ideal S16x2048x384 .f32) (a1 a2 : FVec Ideal S16x2048x128 .f32) (a3 : FVec Ideal S6 .f32) (a4 : FVec Ideal S16x2048x256 .f32) (a5 : FVec Ideal S4x64x64 .f32)
    (h : fn (F := Ideal) a0 a1 a2 a3 a4 a5 = fun _ => 1#1) :
    (∀ x y z, ∃ r : ℝ, a0 (ix3 x y z) = (r : EReal)) ∧ (∀ x y z, ∃ r : ℝ, a1 (ix3 x y z) = (r : EReal))
    ∧ (∀ x, ∃ r : ℝ, a3 (ix1 x) = (r : EReal)) ∧ (∀ x y z, ∃ r : ℝ, a4 (ix3 x y z) = (r : EReal))
    ∧ (∀ x y z, ∃ r : ℝ, a5 (ix3 x y z) = (r : EReal)) := by
  have h := congrFun h ix0
  unfold fn fn_part1 at h
  pointwise at h
  obtain ⟨h, h'⟩ := word_split _ _ h
  obtain ⟨h4, h5⟩ := word_split _ _ h'
  obtain ⟨h, h3⟩ := word_split _ _ h
  obtain ⟨h0, h1⟩ := word_split _ _ h
  exact ⟨all3 a0 h0, all3 a1 h1, all1 a3 h3, all3 a4 h4, all3 a5 h5⟩

end Cert.Att
-- ==== Proof.FfnTiles.lean ====
module

public import proofs.«01_k».proof.Proof.Gen.FfnIdeal.Value
public import Idealize.ShloMosaic.Lib.Pipeline.ValueKit
public import Idealize.ShloMosaic.Lib.Pipeline.ReadBack
public import Idealize.ShloMosaic.Lib.Pointwise

/-! The conv-MLP's run, tile by tile. The run names every list of writes; a tile's lists are the same functions of the
    tile's columns at each of the 2 × 11 (half, tile) pairs, said here once and looked up in four tables. -/

@[expose] public section

set_option maxRecDepth 16384

noncomputable section

namespace Cert.FfnIdeal.Conv

open Cert.FfnIdeal Cert.FfnIdeal.Gen Idealize.ShloMosaic Idealize.ShloMosaic.TcCoe Idealize.SL.Sem

/-- What one run of the kernel's body is given: its place in the grid, its buffers and the windows' contents. -/
structure Args where
  c : Dev nD
  i : grid0.Coords
  arg2 : Memref sig .tc .vmem S1x1024x1024 .f32
  harg2 : arg2.IsWhole
  arg3 : Memref sig .tc .vmem S1x16x1024 .f32
  harg3 : arg3.IsWhole
  arg4 : Memref sig .tc .vmem S1x16x1024 .f32
  harg4 : arg4.IsWhole
  arg5 : Memref sig .tc .vmem S1x6x1024 .f32
  harg5 : arg5.IsWhole
  arg6 : Memref sig .tc .vmem S1x1024 .f32
  harg6 : arg6.IsWhole
  arg7 : Memref sig .tc .vmem S1x1024 .f32
  harg7 : arg7.IsWhole
  arg8 : Memref sig .tc .vmem S1024x5632 .bf16
  harg8 : arg8.IsWhole
  arg9 : Memref sig .tc .vmem S4x5632 .f32
  harg9 : arg9.IsWhole
  arg10 : Memref sig .tc .vmem S2816x1024 .bf16
  harg10 : arg10.IsWhole
  arg11 : Memref sig .tc .vmem S1x1024x1024 .f32
  harg11 : arg11.IsWhole
  arg12 : Memref sig .tc .vmem S2x528x1024 .bf16
  harg12 : arg12.IsWhole
  arg13 : Memref sig .tc .vmem S2x544x128 .f32
  harg13 : arg13.IsWhole
  arg14 : Memref sig .tc .vmem S2x544x128 .f32
  harg14 : arg14.IsWhole
  arg15 : Memref sig .tc .vmem S2x544x128 .f32
  harg15 : arg15.IsWhole
  arg16 : Memref sig .tc .vmem S2x544x128 .f32
  harg16 : arg16.IsWhole
  arg17 : Memref sig .tc .vmem S2x512x1024 .f32
  harg17 : arg17.IsWhole
  x0 : Vec Ideal S1x1024x1024 .f32
  x1 : Vec Ideal S1x16x1024 .f32
  x2 : Vec Ideal S1x16x1024 .f32
  x3 : Vec Ideal S1x6x1024 .f32
  x4 : Vec Ideal S1x1024 .f32
  x5 : Vec Ideal S1x1024 .f32
  x6 : Vec Ideal S1024x5632 .bf16
  x7 : Vec Ideal S4x5632 .f32
  x8 : Vec Ideal S2816x1024 .bf16

variable (A : Args)

/-- The first buffer's rows at tile `j` of half `s`, as the run lists them. -/
def gateL (s j : ℕ) : List (View.Piece (Elt Ideal) S2x544x128 .f32) :=
  match s, j with
  | 0, 0 => (kernelRun0_A.sl.HS1_6 A.c A.i A.arg2 A.harg2 A.arg3 A.harg3 A.arg4 A.harg4 A.arg5 A.harg5 A.arg6 A.harg6 A.arg8 A.harg8 A.arg12 A.x0 A.x1 A.x2 A.x3 A.x4 A.x6)
  | 0, 1 => (kernelRun0_A.sl.HS3_6 A.c A.i A.arg2 A.harg2 A.arg3 A.harg3 A.arg4 A.harg4 A.arg5 A.harg5 A.arg6 A.harg6 A.arg8 A.harg8 A.arg12 A.x0 A.x1 A.x2 A.x3 A.x4 A.x6)
  | 0, 2 => (kernelRun0_A.sl.HS1_12 A.c A.i A.arg2 A.harg2 A.arg3 A.harg3 A.arg4 A.harg4 A.arg5 A.harg5 A.arg6 A.harg6 A.arg8 A.harg8 A.arg12 A.x0 A.x1 A.x2 A.x3 A.x4 A.x6)
  | 0, 3 => (kernelRun0_A.sl.HS3_12 A.c A.i A.arg2 A.harg2 A.arg3 A.harg3 A.arg4 A.harg4 A.arg5 A.harg5 A.arg6 A.harg6 A.arg8 A.harg8 A.arg12 A.x0 A.x1 A.x2 A.x3 A.x4 A.x6)
  | 0, 4 => (kernelRun0_A.sl.HS1_18 A.c A.i A.arg2 A.harg2 A.arg3 A.harg3 A.arg4 A.harg4 A.arg5 A.harg5 A.arg6 A.harg6 A.arg8 A.harg8 A.arg12 A.x0 A.x1 A.x2 A.x3 A.x4 A.x6)
  | 0, 5 => (kernelRun0_A.sl.HS3_18 A.c A.i A.arg2 A.harg2 A.arg3 A.harg3 A.arg4 A.harg4 A.arg5 A.harg5 A.arg6 A.harg6 A.arg8 A.harg8 A.arg12 A.x0 A.x1 A.x2 A.x3 A.x4 A.x6)
  | 0, 6 => (kernelRun0_A.sl.HS1_24 A.c A.i A.arg2 A.harg2 A.arg3 A.harg3 A.arg4 A.harg4 A.arg5 A.harg5 A.arg6 A.harg6 A.arg8 A.harg8 A.arg12 A.x0 A.x1 A.x2 A.x3 A.x4 A.x6)
  | 0, 7 => (kernelRun0_A.sl.HS3_24 A.c A.i A.arg2 A.harg2 A.arg3 A.harg3 A.arg4 A.harg4 A.arg5 A.harg5 A.arg6 A.harg6 A.arg8 A.harg8 A.arg12 A.x0 A.x1 A.x2 A.x3 A.x4 A.x6)
  | 0, 8 => (kernelRun0_A.sl.HS1_30 A.c A.i A.arg2 A.harg2 A.arg3 A.harg3 A.arg4 A.harg4 A.arg5 A.harg5 A.arg6 A.harg6 A.arg8 A.harg8 A.arg12 A.x0 A.x1 A.x2 A.x3 A.x4 A.x6)
  | 0, 9 => (kernelRun0_A.sl.HS3_30 A.c A.i A.arg2 A.harg2 A.arg3 A.harg3 A.arg4 A.harg4 A.arg5 A.harg5 A.arg6 A.harg6 A.arg8 A.harg8 A.arg12 A.x0 A.x1 A.x2 A.x3 A.x4 A.x6)
  | 0, 10 => (kernelRun0_A.sl.HS1_36 A.c A.i A.arg2 A.harg2 A.arg3 A.harg3 A.arg4 A.harg4 A.arg5 A.harg5 A.arg6 A.harg6 A.arg8 A.harg8 A.arg12 A.x0 A.x1 A.x2 A.x3 A.x4 A.x6)
  | 1, 0 => (kernelRun0_A.sl.HS3_36 A.c A.i A.arg2 A.harg2 A.arg3 A.harg3 A.arg4 A.harg4 A.arg5 A.harg5 A.arg6 A.harg6 A.arg8 A.harg8 A.arg12 A.x0 A.x1 A.x2 A.x3 A.x4 A.x6)
  | 1, 1 => (kernelRun0_A.sl.HS1_42 A.c A.i A.arg2 A.harg2 A.arg3 A.harg3 A.arg4 A.harg4 A.arg5 A.harg5 A.arg6 A.harg6 A.arg8 A.harg8 A.arg12 A.x0 A.x1 A.x2 A.x3 A.x4 A.x6)
  | 1, 2 => (kernelRun0_A.sl.HS3_42 A.c A.i A.arg2 A.harg2 A.arg3 A.harg3 A.arg4 A.harg4 A.arg5 A.harg5 A.arg6 A.harg6 A.arg8 A.harg8 A.arg12 A.x0 A.x1 A.x2 A.x3 A.x4 A.x6)
  | 1, 3 => (kernelRun0_A.sl.HS1_48 A.c A.i A.arg2 A.harg2 A.arg3 A.harg3 A.arg4 A.harg4 A.arg5 A.harg5 A.arg6 A.harg6 A.arg8 A.harg8 A.arg12 A.x0 A.x1 A.x2 A.x3 A.x4 A.x6)
  | 1, 4 => (kernelRun0_A.sl.HS3_48 A.c A.i A.arg2 A.harg2 A.arg3 A.harg3 A.arg4 A.harg4 A.arg5 A.harg5 A.arg6 A.harg6 A.arg8 A.harg8 A.arg12 A.x0 A.x1 A.x2 A.x3 A.x4 A.x6)
  | 1, 5 => (kernelRun0_A.sl.HS1_54 A.c A.i A.arg2 A.harg2 A.arg3 A.harg3 A.arg4 A.harg4 A.arg5 A.harg5 A.arg6 A.harg6 A.arg8 A.harg8 A.arg12 A.x0 A.x1 A.x2 A.x3 A.x4 A.x6)
  | 1, 6 => (kernelRun0_A.sl.HS3_54 A.c A.i A.arg2 A.harg2 A.arg3 A.harg3 A.arg4 A.harg4 A.arg5 A.harg5 A.arg6 A.harg6 A.arg8 A.harg8 A.arg12 A.x0 A.x1 A.x2 A.x3 A.x4 A.x6)
  | 1, 7 => (kernelRun0_A.sl.HS1_60 A.c A.i A.arg2 A.harg2 A.arg3 A.harg3 A.arg4 A.harg4 A.arg5 A.harg5 A.arg6 A.harg6 A.arg8 A.harg8 A.arg12 A.x0 A.x1 A.x2 A.x3 A.x4 A.x6)
  | 1, 8 => (kernelRun0_A.sl.HS3_60 A.c A.i A.arg2 A.harg2 A.arg3 A.harg3 A.arg4 A.harg4 A.arg5 A.harg5 A.arg6 A.harg6 A.arg8 A.harg8 A.arg12 A.x0 A.x1 A.x2 A.x3 A.x4 A.x6)
  | 1, 9 => (kernelRun0_A.sl.HS1_66 A.c A.i A.arg2 A.harg2 A.arg3 A.harg3 A.arg4 A.harg4 A.arg5 A.harg5 A.arg6 A.harg6 A.arg8 A.harg8 A.arg12 A.x0 A.x1 A.x2 A.x3 A.x4 A.x6)
  | 1, 10 => (kernelRun0_A.sl.HS3_66 A.c A.i A.arg2 A.harg2 A.arg3 A.harg3 A.arg4 A.harg4 A.arg5 A.harg5 A.arg6 A.harg6 A.arg8 A.harg8 A.arg12 A.x0 A.x1 A.x2 A.x3 A.x4 A.x6)
  | _, _ => []

/-- The second buffer's rows at tile `j` of half `s`. -/
def valL (s j : ℕ) : List (View.Piece (Elt Ideal) S2x544x128 .f32) :=
  match s, j with
  | 0, 0 => (kernelRun0_A.sl.HS2_6 A.c A.i A.arg2 A.harg2 A.arg3 A.harg3 A.arg4 A.harg4 A.arg5 A.harg5 A.arg6 A.harg6 A.arg8 A.harg8 A.arg12 A.x0 A.x1 A.x2 A.x3 A.x4 A.x6)
  | 0, 1 => (kernelRun0_A.sl.HS4_6 A.c A.i A.arg2 A.harg2 A.arg3 A.harg3 A.arg4 A.harg4 A.arg5 A.harg5 A.arg6 A.harg6 A.arg8 A.harg8 A.arg12 A.x0 A.x1 A.x2 A.x3 A.x4 A.x6)
  | 0, 2 => (kernelRun0_A.sl.HS2_12 A.c A.i A.arg2 A.harg2 A.arg3 A.harg3 A.arg4 A.harg4 A.arg5 A.harg5 A.arg6 A.harg6 A.arg8 A.harg8 A.arg12 A.x0 A.x1 A.x2 A.x3 A.x4 A.x6)
  | 0, 3 => (kernelRun0_A.sl.HS4_12 A.c A.i A.arg2 A.harg2 A.arg3 A.harg3 A.arg4 A.harg4 A.arg5 A.harg5 A.arg6 A.harg6 A.arg8 A.harg8 A.arg12 A.x0 A.x1 A.x2 A.x3 A.x4 A.x6)
  | 0, 4 => (kernelRun0_A.sl.HS2_18 A.c A.i A.arg2 A.harg2 A.arg3 A.harg3 A.arg4 A.harg4 A.arg5 A.harg5 A.arg6 A.harg6 A.arg8 A.harg8 A.arg12 A.x0 A.x1 A.x2 A.x3 A.x4 A.x6)
  | 0, 5 => (kernelRun0_A.sl.HS4_18 A.c A.i A.arg2 A.harg2 A.arg3 A.harg3 A.arg4 A.harg4 A.arg5 A.harg5 A.arg6 A.harg6 A.arg8 A.harg8 A.arg12 A.x0 A.x1 A.x2 A.x3 A.x4 A.x6)
  | 0, 6 => (kernelRun0_A.sl.HS2_24 A.c A.i A.arg2 A.harg2 A.arg3 A.harg3 A.arg4 A.harg4 A.arg5 A.harg5 A.arg6 A.harg6 A.arg8 A.harg8 A.arg12 A.x0 A.x1 A.x2 A.x3 A.x4 A.x6)
  | 0, 7 => (kernelRun0_A.sl.HS4_24 A.c A.i A.arg2 A.harg2 A.arg3 A.harg3 A.arg4 A.harg4 A.arg5 A.harg5 A.arg6 A.harg6 A.arg8 A.harg8 A.arg12 A.x0 A.x1 A.x2 A.x3 A.x4 A.x6)
  | 0, 8 => (kernelRun0_A.sl.HS2_30 A.c A.i A.arg2 A.harg2 A.arg3 A.harg3 A.arg4 A.harg4 A.arg5 A.harg5 A.arg6 A.harg6 A.arg8 A.harg8 A.arg12 A.x0 A.x1 A.x2 A.x3 A.x4 A.x6)
  | 0, 9 => (kernelRun0_A.sl.HS4_30 A.c A.i A.arg2 A.harg2 A.arg3 A.harg3 A.arg4 A.harg4 A.arg5 A.harg5 A.arg6 A.harg6 A.arg8 A.harg8 A.arg12 A.x0 A.x1 A.x2 A.x3 A.x4 A.x6)
  | 0, 10 => (kernelRun0_A.sl.HS2_36 A.c A.i A.arg2 A.harg2 A.arg3 A.harg3 A.arg4 A.harg4 A.arg5 A.harg5 A.arg6 A.harg6 A.arg8 A.harg8 A.arg12 A.x0 A.x1 A.x2 A.x3 A.x4 A.x6)
  | 1, 0 => (kernelRun0_A.sl.HS4_36 A.c A.i A.arg2 A.harg2 A.arg3 A.harg3 A.arg4 A.harg4 A.arg5 A.harg5 A.arg6 A.harg6 A.arg8 A.harg8 A.arg12 A.x0 A.x1 A.x2 A.x3 A.x4 A.x6)
  | 1, 1 => (kernelRun0_A.sl.HS2_42 A.c A.i A.arg2 A.harg2 A.arg3 A.harg3 A.arg4 A.harg4 A.arg5 A.harg5 A.arg6 A.harg6 A.arg8 A.harg8 A.arg12 A.x0 A.x1 A.x2 A.x3 A.x4 A.x6)
  | 1, 2 => (kernelRun0_A.sl.HS4_42 A.c A.i A.arg2 A.harg2 A.arg3 A.harg3 A.arg4 A.harg4 A.arg5 A.harg5 A.arg6 A.harg6 A.arg8 A.harg8 A.arg12 A.x0 A.x1 A.x2 A.x3 A.x4 A.x6)
  | 1, 3 => (kernelRun0_A.sl.HS2_48 A.c A.i A.arg2 A.harg2 A.arg3 A.harg3 A.arg4 A.harg4 A.arg5 A.harg5 A.arg6 A.harg6 A.arg8 A.harg8 A.arg12 A.x0 A.x1 A.x2 A.x3 A.x4 A.x6)
  | 1, 4 => (kernelRun0_A.sl.HS4_48 A.c A.i A.arg2 A.harg2 A.arg3 A.harg3 A.arg4 A.harg4 A.arg5 A.harg5 A.arg6 A.harg6 A.arg8 A.harg8 A.arg12 A.x0 A.x1 A.x2 A.x3 A.x4 A.x6)
  | 1, 5 => (kernelRun0_A.sl.HS2_54 A.c A.i A.arg2 A.harg2 A.arg3 A.harg3 A.arg4 A.harg4 A.arg5 A.harg5 A.arg6 A.harg6 A.arg8 A.harg8 A.arg12 A.x0 A.x1 A.x2 A.x3 A.x4 A.x6)
  | 1, 6 => (kernelRun0_A.sl.HS4_54 A.c A.i A.arg2 A.harg2 A.arg3 A.harg3 A.arg4 A.harg4 A.arg5 A.harg5 A.arg6 A.harg6 A.arg8 A.harg8 A.arg12 A.x0 A.x1 A.x2 A.x3 A.x4 A.x6)
  | 1, 7 => (kernelRun0_A.sl.HS2_60 A.c A.i A.arg2 A.harg2 A.arg3 A.harg3 A.arg4 A.harg4 A.arg5 A.harg5 A.arg6 A.harg6 A.arg8 A.harg8 A.arg12 A.x0 A.x1 A.x2 A.x3 A.x4 A.x6)
  | 1, 8 => (kernelRun0_A.sl.HS4_60 A.c A.i A.arg2 A.harg2 A.arg3 A.harg3 A.arg4 A.harg4 A.arg5 A.harg5 A.arg6 A.harg6 A.arg8 A.harg8 A.arg12 A.x0 A.x1 A.x2 A.x3 A.x4 A.x6)
  | 1, 9 => (kernelRun0_A.sl.HS2_66 A.c A.i A.arg2 A.harg2 A.arg3 A.harg3 A.arg4 A.harg4 A.arg5 A.harg5 A.arg6 A.harg6 A.arg8 A.harg8 A.arg12 A.x0 A.x1 A.x2 A.x3 A.x4 A.x6)
  | 1, 10 => (kernelRun0_A.sl.HS4_66 A.c A.i A.arg2 A.harg2 A.arg3 A.harg3 A.arg4 A.harg4 A.arg5 A.harg5 A.arg6 A.harg6 A.arg8 A.harg8 A.arg12 A.x0 A.x1 A.x2 A.x3 A.x4 A.x6)
  | _, _ => []

/-- The normalized rows half `s` loads. -/
def hV (s : ℕ) : Vec Ideal S1x528x1024 .bf16 :=
  match s with
  | 0 => (kernelRun0_A.sl.v203 A.c A.i A.arg2 A.harg2 A.arg3 A.harg3 A.arg4 A.harg4 A.arg5 A.harg5 A.arg6 A.harg6 A.arg12 A.x0 A.x1 A.x2 A.x3 A.x4)
  | 1 => (kernelRun0_A.sl.v2098 A.c A.i A.arg2 A.harg2 A.arg3 A.harg3 A.arg4 A.harg4 A.arg5 A.harg5 A.arg6 A.harg6 A.arg12 A.x0 A.x1 A.x2 A.x3 A.x4)
  | _ => fun _ => (0 : EReal)

/-- The accumulator's writes after `n` tiles. -/
def accL (n : ℕ) : List (View.Piece (Elt Ideal) S2x512x1024 .f32) :=
  match n with
  | 1 => (kernelRun0_A.sl.HS5_1 A.c A.i A.arg2 A.harg2 A.arg3 A.harg3 A.arg4 A.harg4 A.arg5 A.harg5 A.arg6 A.harg6 A.arg8 A.harg8 A.arg9 A.harg9 A.arg10 A.harg10 A.arg12 A.arg13 A.arg14 A.x0 A.x1 A.x2 A.x3 A.x4 A.x6 A.x7 A.x8)
  | 2 => (kernelRun0_A.sl.HS5_2 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 3 => (kernelRun0_A.sl.HS5_3 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 4 => (kernelRun0_A.sl.HS5_4 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 5 => (kernelRun0_A.sl.HS5_5 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 6 => (kernelRun0_A.sl.HS5_6 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 7 => (kernelRun0_A.sl.HS5_7 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 8 => (kernelRun0_A.sl.HS5_8 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 9 => (kernelRun0_A.sl.HS5_9 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 10 => (kernelRun0_A.sl.HS5_10 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 11 => (kernelRun0_A.sl.HS5_11 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 12 => (kernelRun0_A.sl.HS5_12 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 13 => (kernelRun0_A.sl.HS5_13 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 14 => (kernelRun0_A.sl.HS5_14 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 15 => (kernelRun0_A.sl.HS5_15 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 16 => (kernelRun0_A.sl.HS5_16 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 17 => (kernelRun0_A.sl.HS5_17 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 18 => (kernelRun0_A.sl.HS5_18 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 19 => (kernelRun0_A.sl.HS5_19 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 20 => (kernelRun0_A.sl.HS5_20 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 21 => (kernelRun0_A.sl.HS5_21 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | 22 => (kernelRun0_A.sl.HS5_22 A.c A.i A.arg2 A.harg2 A.arg3 A.harg3 A.arg4 A.harg4 A.arg5 A.harg5 A.arg6 A.harg6 A.arg8 A.harg8 A.arg9 A.harg9 A.arg10 A.harg10 A.arg12 A.arg13 A.arg14 A.arg15 A.arg16 A.arg17 A.x0 A.x1 A.x2 A.x3 A.x4 A.x6 A.x7 A.x8)
  | _ => []

/-! ## What a tile writes -/

/-- The rows a tile of the up-projection leaves in a buffer: 512 rows from row 16, the row before at 15 and the row
    after at 528, in two lane tiles. -/
def upPieces (h : Vec Ideal S1x528x1024 .bf16) (w : Vec Ideal S1024x256 .bf16)
    (L : List (View.Piece (Elt Ideal) S2x544x128 .f32)) : List (View.Piece (Elt Ideal) S2x544x128 .f32) :=
  ⟨Rect.unit (s := S2x544x128) ![1, 528, 0] S1x1x128.size (by decide), k0_pay23 (k0_pay16 h w)⟩
    :: ⟨Rect.unit (s := S2x544x128) ![1, 15, 0] S1x1x128.size (by decide), k0_pay22 (k0_pay16 h w)⟩
    :: ⟨Rect.unit (s := S2x544x128) ![1, 16, 0] S1x512x128.size (by decide), k0_pay21 (k0_pay16 h w)⟩
    :: ⟨Rect.unit (s := S2x544x128) ![0, 528, 0] S1x1x128.size (by decide), k0_pay20 (k0_pay16 h w)⟩
    :: ⟨Rect.unit (s := S2x544x128) ![0, 15, 0] S1x1x128.size (by decide), k0_pay19 (k0_pay16 h w)⟩
    :: ⟨Rect.unit (s := S2x544x128) ![0, 16, 0] S1x512x128.size (by decide), k0_pay18 (k0_pay17 h w)⟩ :: L

theorem inbUp {k : ℕ} (h : k < 22) : ∀ a, (![0, 256 * k] : Fin 2 → ℕ) a + S1024x256.size a ≤ S1024x5632.size a := by
  intro a; fin_cases a
  · exact Nat.le_refl 1024
  · show 256 * k + 256 ≤ 5632; omega

theorem inbTap {k : ℕ} (h : k < 44) : ∀ a, (![0, 128 * k] : Fin 2 → ℕ) a + S4x128.size a ≤ S4x5632.size a := by
  intro a; fin_cases a
  · exact Nat.le_refl 4
  · show 128 * k + 128 ≤ 5632; omega

theorem inbDn {k : ℕ} (h : k < 11) : ∀ a, (![256 * k, 0] : Fin 2 → ℕ) a + S256x1024.size a ≤ S2816x1024.size a := by
  intro a; fin_cases a
  · show 256 * k + 256 ≤ 2816; omega
  · exact Nat.le_refl 1024

theorem inbAcc {s : ℕ} (h : s < 2) : ∀ a, (![s, 0, 0] : Fin 3 → ℕ) a + S1x512x1024.size a ≤ S2x512x1024.size a := by
  intro a; fin_cases a
  · show s + 1 ≤ 2; omega
  · exact Nat.le_refl 512
  · exact Nat.le_refl 1024

/-- The up-projection's columns of tile `k`. -/
def wUp {k : ℕ} (h : k < 22) : Vec Ideal S1024x256 .bf16 :=
  View.readAt (Elt Ideal) A.arg8.view (Rect.unit (s := S1024x5632) ![0, 256 * k] S1024x256.size (inbUp h)).toLoadRect (A.harg8.unread A.x6)
/-- The taps of lane tile `k`. -/
def tap {k : ℕ} (h : k < 44) : Vec Ideal S4x128 .f32 :=
  View.readAt (Elt Ideal) A.arg9.view (Rect.unit (s := S4x5632) ![0, 128 * k] S4x128.size (inbTap h)).toLoadRect (A.harg9.unread A.x7)
/-- The down-projection's rows of tile `k`. -/
def wDn {k : ℕ} (h : k < 11) : Vec Ideal S256x1024 .bf16 :=
  View.readAt (Elt Ideal) A.arg10.view (Rect.unit (s := S2816x1024) ![256 * k, 0] S256x1024.size (inbDn h)).toLoadRect (A.harg10.unread A.x8)

variable {κ : Kind} (v : View sig κ .vmem S2x544x128 .f32) (L : List (View.Piece (Elt Ideal) S2x544x128 .f32))

/-- 512 rows of a buffer's lane tile `sl`, from row `o`. -/
def ldRows (sl o : ℕ) (h : ∀ a, (![sl, 0, 0] : Fin 3 → ℕ) a + S1x544x128.size a ≤ S2x544x128.size a)
    (h' : ∀ a, (![o, 0] : Fin 2 → ℕ) a + S512x128.size a ≤ S544x128.size a) : Vec Ideal S512x128 .f32 :=
  LoadRect.valAlong (lr := (Rect.unit (s := S544x128) ![o, 0] S512x128.size h').toLoadRect)
    (LoadRect.numel_consLift _ ![1, 544, 128] rfl fun i => by fin_cases i <;> rfl)
    (v.readCov L ((Rect.unit (s := S2x544x128) ![sl, 0, 0] S1x544x128.size h).withinL
      ((Rect.unit (s := S544x128) ![o, 0] S512x128.size h').toLoadRect.consLift ![1, 544, 128] rfl fun i => by fin_cases i <;> rfl)
      fun _ => rfl))

/-- The gate's 256 lanes: the convolution of both lane tiles, through the activation. -/
def gateOf (t t' : Vec Ideal S4x128 .f32) : FVec Ideal S512x256 .f32 :=
  k0_pay53
    (k0_pay50 (k0_pay48 t) (k0_pay49 t (ldRows v L 0 15 (by decide) (by decide))) (ldRows v L 0 16 (by decide) (by decide))
      (ldRows v L 0 17 (by decide) (by decide)))
    (k0_pay51 t')
    (k0_pay52 t' (ldRows v L 1 15 (by decide) (by decide)) (ldRows v L 1 16 (by decide) (by decide)))
    (ldRows v L 1 17 (by decide) (by decide))

/-- A tile's contribution: gate times value, through the down-projection's rows. -/
def partOf (g : FVec Ideal S512x256 .f32) (u u' : Vec Ideal S4x128 .f32) (wd : Vec Ideal S256x1024 .bf16) : FVec Ideal S512x1024 .f32 :=
  k0_pay56 g (k0_pay54 u)
    (k0_pay55 u (ldRows v L 0 15 (by decide) (by decide)) (ldRows v L 0 16 (by decide) (by decide)))
    (ldRows v L 0 17 (by decide) (by decide)) u'
    (ldRows v L 1 15 (by decide) (by decide)) (ldRows v L 1 16 (by decide) (by decide)) (ldRows v L 1 17 (by decide) (by decide)) wd

/-- A contribution added to what the accumulator holds. -/
def addPart (prev : Vec Ideal S1x512x1024 .f32) (p : FVec Ideal S512x1024 .f32) : FVec Ideal S1x512x1024 .f32 :=
  shapeCast S1x512x1024 (addf (shapeCast S512x1024 prev shapeCasts_S1x512x1024_S512x1024) p) shapeCasts_S512x1024_S1x512x1024

/-- The contribution of tile `j` of half `s`, its two buffers seen through `g` and `v`. -/
def tilePart (g v : Memref sig .tc .vmem S2x544x128 .f32) (s : ℕ) {j : ℕ} (hj : j < 11) : FVec Ideal S512x1024 .f32 :=
  partOf v.view (valL A s j) (gateOf g.view (gateL A s j) (tap A (k := 2 * j) (by omega)) (tap A (k := 2 * j + 1) (by omega)))
    (tap A (k := 2 * j + 22) (by omega)) (tap A (k := 2 * j + 23) (by omega)) (wDn A hj)

/-! ## The tables' rows -/

theorem gateL_eq (s j : ℕ) (hs : s < 2) (hj : j < 11) :
    ∃ L, gateL A s j = upPieces (hV A s) (wUp A (k := j) (by omega)) L := by
  interval_cases s <;> interval_cases j <;> exact ⟨_, rfl⟩

theorem valL_eq (s j : ℕ) (hs : s < 2) (hj : j < 11) :
    ∃ L, valL A s j = upPieces (hV A s) (wUp A (k := j + 11) (by omega)) L := by
  interval_cases s <;> interval_cases j <;> exact ⟨_, rfl⟩

theorem acc_first (s : ℕ) (hs : s < 2) : ∃ g v, accL A (11 * s + 1)
    = ⟨Rect.unit (s := S2x512x1024) ![s, 0, 0] S1x512x1024.size (inbAcc hs), k0_pay57 (tilePart A g v s (j := 0) (by omega))⟩ :: accL A (11 * s) := by
  interval_cases s
  · exact ⟨A.arg13, A.arg14, rfl⟩
  · exact ⟨A.arg15, A.arg16, rfl⟩

theorem acc_next (s j : ℕ) (hs : s < 2) (hj : j < 11) (h0 : 0 < j) : ∃ g v, accL A (11 * s + j + 1)
    = ⟨Rect.unit (s := S2x512x1024) ![s, 0, 0] S1x512x1024.size (inbAcc hs),
        addPart (A.arg17.view.readCov (accL A (11 * s + j)) (Rect.unit (s := S2x512x1024) ![s, 0, 0] S1x512x1024.size (inbAcc hs)).toLoadRect)
          (tilePart A g v s hj)⟩ :: accL A (11 * s + j) := by
  interval_cases s <;> interval_cases j
  · exact ⟨A.arg15, A.arg16, rfl⟩
  · exact ⟨A.arg13, A.arg14, rfl⟩
  · exact ⟨A.arg15, A.arg16, rfl⟩
  · exact ⟨A.arg13, A.arg14, rfl⟩
  · exact ⟨A.arg15, A.arg16, rfl⟩
  · exact ⟨A.arg13, A.arg14, rfl⟩
  · exact ⟨A.arg15, A.arg16, rfl⟩
  · exact ⟨A.arg13, A.arg14, rfl⟩
  · exact ⟨A.arg15, A.arg16, rfl⟩
  · exact ⟨A.arg13, A.arg14, rfl⟩
  · exact ⟨A.arg13, A.arg14, rfl⟩
  · exact ⟨A.arg15, A.arg16, rfl⟩
  · exact ⟨A.arg13, A.arg14, rfl⟩
  · exact ⟨A.arg15, A.arg16, rfl⟩
  · exact ⟨A.arg13, A.arg14, rfl⟩
  · exact ⟨A.arg15, A.arg16, rfl⟩
  · exact ⟨A.arg13, A.arg14, rfl⟩
  · exact ⟨A.arg15, A.arg16, rfl⟩
  · exact ⟨A.arg13, A.arg14, rfl⟩
  · exact ⟨A.arg15, A.arg16, rfl⟩

end Cert.FfnIdeal.Conv
-- ==== Proof.FfnRead.lean ====
module

public import proofs.«01_k».proof.Proof.FfnTiles
public import Idealize.ShloMosaic.Lib.Pipeline.ValueKit
public import Idealize.ShloMosaic.Lib.Pointwise
public import Idealize.ShloMosaic.Lib.Tactic.CleanTypes

/-! What the conv-MLP's loads read, entry by entry. -/

@[expose] public section

set_option maxRecDepth 16384

noncomputable section

namespace Cert.FfnIdeal.Conv

open Cert.FfnIdeal Cert.FfnIdeal.Gen Idealize.ShloMosaic Idealize.ShloMosaic.TcCoe Idealize.SL.Sem

/-- An entry of the up-projection of 528 rows by 256 columns. -/
theorem up_apply (h : Vec Ideal S1x528x1024 .bf16) (w : Vec Ideal S1024x256 .bf16) (r : Fin 528) (l : Fin 256) :
    k0_pay16 h w (ix2 r l) = ∑ d : Fin 1024, (h (ix3 0 r d) : EReal) * w (ix2 d l) := by
  unfold k0_pay16
  clean_types
  pointwise

/-- The row of the 528 that a buffer's row `15 + q` holds. -/
def rowIx (q : ℕ) : Fin 528 := ⟨if q = 0 then 512 else if 513 ≤ q then 513 else q - 1, by split_ifs <;> omega⟩

/-- The buffer's contents, as one function of its index. -/
def upG (u : FVec Ideal S528x256 .f32) : S2x544x128.Idx → EReal := fun y =>
  u (ix2 (rowIx ((y 1).val - 15)) ⟨128 * (y 0).val + (y 2).val, by
    have h0 : (y 0).val < 2 := (y 0).isLt
    have h2 : (y 2).val < 128 := (y 2).isLt
    omega⟩)

theorem p18_apply (h : Vec Ideal S1x528x1024 .bf16) (w : Vec Ideal S1024x256 .bf16) (r : Fin 512) (l : Fin 128) :
    k0_pay18 (k0_pay17 h w) (ix3 0 r l) = k0_pay16 h w (ix2 ⟨r.val, by omega⟩ ⟨l.val, by omega⟩) := by
  unfold k0_pay18 k0_pay17; clean_types; pointwise
theorem p19_apply (u : FVec Ideal S528x256 .f32) (l : Fin 128) :
    k0_pay19 u (ix3 0 0 l) = u (ix2 ⟨512, by decide⟩ ⟨l.val, by omega⟩) := by
  unfold k0_pay19; clean_types; pointwise
theorem p20_apply (u : FVec Ideal S528x256 .f32) (l : Fin 128) :
    k0_pay20 u (ix3 0 0 l) = u (ix2 ⟨513, by decide⟩ ⟨l.val, by omega⟩) := by
  unfold k0_pay20; clean_types; pointwise
theorem p21_apply (u : FVec Ideal S528x256 .f32) (r : Fin 512) (l : Fin 128) :
    k0_pay21 u (ix3 0 r l) = u (ix2 ⟨r.val, by omega⟩ ⟨128 + l.val, by omega⟩) := by
  unfold k0_pay21; clean_types; pointwise
theorem p22_apply (u : FVec Ideal S528x256 .f32) (l : Fin 128) :
    k0_pay22 u (ix3 0 0 l) = u (ix2 ⟨512, by decide⟩ ⟨128 + l.val, by omega⟩) := by
  unfold k0_pay22; clean_types; pointwise
theorem p23_apply (u : FVec Ideal S528x256 .f32) (l : Fin 128) :
    k0_pay23 u (ix3 0 0 l) = u (ix2 ⟨513, by decide⟩ ⟨128 + l.val, by omega⟩) := by
  unfold k0_pay23; clean_types; pointwise

theorem upG_of (u : FVec Ideal S528x256 .f32) (y : S2x544x128.Idx) (r : Fin 528) (l : Fin 256)
    (hr : (rowIx ((y 1).val - 15)).val = r.val) (hl : 128 * (y 0).val + (y 2).val = l.val) : u (ix2 r l) = upG u y := by
  unfold upG
  exact congrArg₂ (fun a b => u (ix2 a b)) (Fin.ext hr.symm) (Fin.ext hl.symm)

theorem pieces_of (h : Vec Ideal S1x528x1024 .bf16) (w : Vec Ideal S1024x256 .bf16) :
    View.PiecesOf (upG (k0_pay16 h w)) (upPieces h w []) := by
  unfold upPieces
  refine ⟨fun z => ?_, fun z => ?_, fun z => ?_, fun z => ?_, fun z => ?_, fun z => ?_, trivial⟩
  · obtain ⟨a, b, l, rfl⟩ : ∃ (a b : Fin 1) (l : Fin 128), z = ix3 a b l := ⟨z 0, z 1, z 2, eq_ix3 z⟩
    obtain rfl := Subsingleton.elim a 0; obtain rfl := Subsingleton.elim b 0
    show k0_pay23 (k0_pay16 h w) (ix3 0 0 l) = _
    rw [p23_apply]
    refine upG_of _ _ _ _ rfl ?_
    show 128 * (1 + 1 * 0) + (0 + 1 * l.val) = 128 + l.val; omega
  · obtain ⟨a, b, l, rfl⟩ : ∃ (a b : Fin 1) (l : Fin 128), z = ix3 a b l := ⟨z 0, z 1, z 2, eq_ix3 z⟩
    obtain rfl := Subsingleton.elim a 0; obtain rfl := Subsingleton.elim b 0
    show k0_pay22 (k0_pay16 h w) (ix3 0 0 l) = _
    rw [p22_apply]
    refine upG_of _ _ _ _ rfl ?_
    show 128 * (1 + 1 * 0) + (0 + 1 * l.val) = 128 + l.val; omega
  · obtain ⟨a, r, l, rfl⟩ : ∃ (a : Fin 1) (r : Fin 512) (l : Fin 128), z = ix3 a r l := ⟨z 0, z 1, z 2, eq_ix3 z⟩
    obtain rfl := Subsingleton.elim a 0
    show k0_pay21 (k0_pay16 h w) (ix3 0 r l) = _
    rw [p21_apply]
    refine upG_of _ _ _ _ ?_ ?_
    · show (rowIx ((16 + 1 * r.val) - 15)).val = r.val
      unfold rowIx; dsimp only; rw [if_neg (by omega), if_neg (by omega)]; omega
    · show 128 * (1 + 1 * 0) + (0 + 1 * l.val) = 128 + l.val; omega
  · obtain ⟨a, b, l, rfl⟩ : ∃ (a b : Fin 1) (l : Fin 128), z = ix3 a b l := ⟨z 0, z 1, z 2, eq_ix3 z⟩
    obtain rfl := Subsingleton.elim a 0; obtain rfl := Subsingleton.elim b 0
    show k0_pay20 (k0_pay16 h w) (ix3 0 0 l) = _
    rw [p20_apply]
    refine upG_of _ _ _ _ rfl ?_
    show 128 * (0 + 1 * 0) + (0 + 1 * l.val) = l.val; omega
  · obtain ⟨a, b, l, rfl⟩ : ∃ (a b : Fin 1) (l : Fin 128), z = ix3 a b l := ⟨z 0, z 1, z 2, eq_ix3 z⟩
    obtain rfl := Subsingleton.elim a 0; obtain rfl := Subsingleton.elim b 0
    show k0_pay19 (k0_pay16 h w) (ix3 0 0 l) = _
    rw [p19_apply]
    refine upG_of _ _ _ _ rfl ?_
    show 128 * (0 + 1 * 0) + (0 + 1 * l.val) = l.val; omega
  · obtain ⟨a, r, l, rfl⟩ : ∃ (a : Fin 1) (r : Fin 512) (l : Fin 128), z = ix3 a r l := ⟨z 0, z 1, z 2, eq_ix3 z⟩
    obtain rfl := Subsingleton.elim a 0
    show k0_pay18 (k0_pay17 h w) (ix3 0 r l) = _
    rw [p18_apply]
    refine upG_of _ _ _ _ ?_ ?_
    · show (rowIx ((16 + 1 * r.val) - 15)).val = r.val
      unfold rowIx; dsimp only; rw [if_neg (by omega), if_neg (by omega)]; omega
    · show 128 * (0 + 1 * 0) + (0 + 1 * l.val) = l.val; omega

/-- The buffer's row `15 + q`, in either lane tile, over whatever was there. -/
theorem canon_up (h : Vec Ideal S1x528x1024 .bf16) (w : Vec Ideal S1024x256 .bf16) (L : List (View.Piece (Elt Ideal) S2x544x128 .f32))
    (sl : Fin 2) (q : ℕ) (hq : q < 514) (l : Fin 128) :
    View.canon (upPieces h w L) (ix3 sl ⟨15 + q, by omega⟩ l) = k0_pay16 h w (ix2 (rowIx q) ⟨128 * sl.val + l.val, by omega⟩) := by
  refine (View.canon_append_of_piecesOf (upG (k0_pay16 h w)) L (upPieces h w []) (pieces_of h w) _ ?_).trans
    (upG_of _ _ _ _ ?_ rfl).symm
  · have mem : ∀ (ρ n : ℕ) (hb : ∀ a, (![sl.val, ρ, 0] : Fin 3 → ℕ) a + (![1, n, 128] : Fin 3 → ℕ) a ≤ S2x544x128.size a), ρ ≤ 15 + q → 15 + q < ρ + n →
        (ix3 sl ⟨15 + q, by omega⟩ l : S2x544x128.Idx) ∈ (Rect.unit (s := S2x544x128) ![sl.val, ρ, 0] ![1, n, 128] hb).set := by
      intro ρ n hb h1 h2
      refine Rect.mem_set_unit.mpr fun a => ?_
      fin_cases a
      · exact ⟨le_refl sl.val, Nat.lt_succ_self sl.val⟩
      · exact ⟨h1, h2⟩
      · exact ⟨Nat.zero_le _, by show l.val < 0 + 128; omega⟩
    unfold upPieces
    rcases (by omega : q = 0 ∨ q = 513 ∨ 0 < q ∧ q < 513) with hq' | hq' | hq' <;> fin_cases sl
    · exact ⟨_, .tail _ (.tail _ (.tail _ (.tail _ (.head _)))), mem 15 1 (by decide) (by omega) (by omega)⟩
    · exact ⟨_, .tail _ (.head _), mem 15 1 (by decide) (by omega) (by omega)⟩
    · exact ⟨_, .tail _ (.tail _ (.tail _ (.head _))), mem 528 1 (by decide) (by omega) (by omega)⟩
    · exact ⟨_, .head _, mem 528 1 (by decide) (by omega) (by omega)⟩
    · exact ⟨_, .tail _ (.tail _ (.tail _ (.tail _ (.tail _ (.head _))))), mem 16 512 (by decide) (by omega) (by omega)⟩
    · exact ⟨_, .tail _ (.tail _ (.head _)), mem 16 512 (by decide) (by omega) (by omega)⟩
  · show (rowIx ((15 + q) - 15)).val = (rowIx q).val
    rw [Nat.add_sub_cancel_left]

/-- A load of rows reads the list's contents. -/
theorem ldRows_apply {κ : Kind} (v : View sig κ .vmem S2x544x128 .f32) (L : List (View.Piece (Elt Ideal) S2x544x128 .f32))
    (sl : Fin 2) (o : ℕ) (h : ∀ a, (![sl.val, 0, 0] : Fin 3 → ℕ) a + S1x544x128.size a ≤ S2x544x128.size a)
    (h' : ∀ a, (![o, 0] : Fin 2 → ℕ) a + S512x128.size a ≤ S544x128.size a) (ho : o ≤ 32) (r : Fin 512) (l : Fin 128) :
    ldRows v L sl o h h' (ix2 r l) = View.canon L (ix3 sl ⟨o + r.val, by omega⟩ l) := by
  unfold ldRows
  rw [View.readCov_eq_canon']
  show View.canon L _ = View.canon L _
  refine congrArg (View.canon L) ?_
  rw [Rect.idx_withinL]
  erw [Shape.reshapeEquiv_cons_one]
  funext a
  fin_cases a <;> apply Fin.ext
  · show sl.val + 1 * (0 + 1 * 0) = sl.val; omega
  · show 0 + 1 * (o + 1 * r.val) = o + r.val; omega
  · show 0 + 1 * (0 + 1 * l.val) = l.val; omega

end Cert.FfnIdeal.Conv
-- ==== Proof.FfnConv.lean ====
module

public import proofs.«01_k».proof.Proof.FfnRead
public import Idealize.ShloMosaic.Lib.Pipeline.ValueKit
public import Idealize.ShloMosaic.Lib.Pointwise
public import Idealize.ShloMosaic.Lib.Tactic.CleanTypes

/-! A tile of the conv-MLP at one entry: the three-tap convolution, the activation, the product and its down-projection. -/

@[expose] public section

set_option maxRecDepth 16384

noncomputable section

namespace Cert.FfnIdeal.Conv

open Cert.FfnIdeal Cert.FfnIdeal.Gen Idealize.ShloMosaic Idealize.ShloMosaic.TcCoe Idealize.SL.Sem

/-- Three rows under a lane tile's taps, with its bias. -/
def conv1 (t : Vec Ideal S4x128 .f32) (a b c : Vec Ideal S512x128 .f32) : FVec Ideal S512x128 .f32 :=
  k0_pay50 (k0_pay48 t) (k0_pay49 t a) b c

/-- Two lane tiles side by side. -/
def cat2 (x y : FVec Ideal S512x128 .f32) : FVec Ideal S512x256 .f32 :=
  concatenate S512x256 1 [⟨S512x128, x⟩, ⟨S512x128, y⟩] concatenates_S512x128_S512x128_S512x256_d1

/-- The activation of one number: the tanh form of GELU. -/
def gelu1 (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g))))))

theorem conv1_apply (t : Vec Ideal S4x128 .f32) (a b c : Vec Ideal S512x128 .f32) (r : Fin 512) (l : Fin 128) :
    conv1 t a b c (ix2 r l) = (a (ix2 r l) * t (ix2 0 l) + b (ix2 r l) * t (ix2 1 l) + c (ix2 r l) * t (ix2 2 l) + t (ix2 3 l) : EReal) := by
  unfold conv1 k0_pay50 k0_pay49 k0_pay48
  clean_types
  pointwise

theorem cat2_apply (x y : FVec Ideal S512x128 .f32) (r : Fin 512) (k : Fin 256) :
    cat2 x y (ix2 r k) = if h : k.val < 128 then x (ix2 r ⟨k.val, h⟩) else y (ix2 r ⟨k.val - 128, by omega⟩) := by
  unfold cat2
  clean_types
  pointwise

/-- The activation of a tile. -/
def geluV (z : FVec Ideal S512x256 .f32) : FVec Ideal S512x256 .f32 :=
  mulf z (mulf (broadcast S512x256 (Scalar.ofBits .f32 0x3F000000#32)) (addf (broadcast S512x256 (Scalar.ofBits .f32 0x3F800000#32))
    (tanh (mulf (broadcast S512x256 (Scalar.ofBits .f32 0x3F4C422A#32)) (addf z (mulf (broadcast S512x256 (Scalar.ofBits .f32 0x3D372713#32)) (mulf z (mulf z z))))))))

theorem geluV_apply (z : FVec Ideal S512x256 .f32) (r : Fin 512) (k : Fin 256) : geluV z (ix2 r k) = gelu1 (z (ix2 r k)) := by
  unfold geluV gelu1
  clean_types
  pointwise

/-- The down-projection's 256 terms of a tile. -/
def down (z : FVec Ideal S512x256 .f32) (wd : Vec Ideal S256x1024 .bf16) : FVec Ideal S512x1024 .f32 :=
  matmul dot_S512x256_S256x1024_S512x1024_1_0_0_1_n_n none (truncf .bf16 z bitsLt_bf16_f32 : FVec Ideal S512x256 .bf16)
    (shapeCast S256x1024 wd shapeCasts_S256x1024_S256x1024 : FVec Ideal S256x1024 .bf16) (constant S512x1024 .f32 0x00000000#32)

theorem down_apply (z : FVec Ideal S512x256 .f32) (wd : Vec Ideal S256x1024 .bf16) (r : Fin 512) (d : Fin 1024) :
    down z wd (ix2 r d) = ∑ k : Fin 256, (z (ix2 r k) * wd (ix2 k d) : EReal) := by
  unfold down
  clean_types
  pointwise

theorem addPart_apply (prev : Vec Ideal S1x512x1024 .f32) (p : FVec Ideal S512x1024 .f32) (r : Fin 512) (d : Fin 1024) :
    addPart prev p (ix3 0 r d) = (prev (ix3 0 r d) + p (ix2 r d) : EReal) := by
  unfold addPart
  clean_types
  pointwise

theorem first_apply (p : FVec Ideal S512x1024 .f32) (r : Fin 512) (d : Fin 1024) : k0_pay57 p (ix3 0 r d) = p (ix2 r d) := by
  unfold k0_pay57
  clean_types
  pointwise

section
variable {κ : Kind} (v : View sig κ .vmem S2x544x128 .f32) (L : List (View.Piece (Elt Ideal) S2x544x128 .f32))

/-- A buffer under its taps, both lane tiles. -/
def convOf (t t' : Vec Ideal S4x128 .f32) : FVec Ideal S512x256 .f32 :=
  cat2 (conv1 t (ldRows v L 0 15 (by decide) (by decide)) (ldRows v L 0 16 (by decide) (by decide)) (ldRows v L 0 17 (by decide) (by decide)))
    (conv1 t' (ldRows v L 1 15 (by decide) (by decide)) (ldRows v L 1 16 (by decide) (by decide)) (ldRows v L 1 17 (by decide) (by decide)))

theorem gateOf_eq (t t' : Vec Ideal S4x128 .f32) : gateOf v L t t' = geluV (convOf v L t t') := rfl

theorem partOf_eq (g : FVec Ideal S512x256 .f32) (u u' : Vec Ideal S4x128 .f32) (wd : Vec Ideal S256x1024 .bf16) :
    partOf v L g u u' wd = down (mulf g (convOf v L u u')) wd := rfl
end

end Cert.FfnIdeal.Conv
-- ==== Proof.FfnAcc.lean ====
module

public import proofs.«01_k».proof.Proof.FfnConv
public import Idealize.ShloMosaic.Lib.WholeRead
public import Idealize.ShloMosaic.Lib.Pipeline.ValueKit
public import Idealize.ShloMosaic.Lib.Pointwise

/-! The accumulator after the eleven tiles of a half: the whole down-projection of its rows. -/

@[expose] public section

set_option maxRecDepth 16384

noncomputable section

namespace Cert.FfnIdeal.Conv

open Cert.FfnIdeal Cert.FfnIdeal.Gen Idealize.ShloMosaic Idealize.ShloMosaic.TcCoe Idealize.SL.Sem

variable (A : Args)

theorem wUp_apply {k : ℕ} (h : k < 22) (d : Fin 1024) (l : Fin 256) : wUp A h (ix2 d l) = A.x6 (ix2 d ⟨256 * k + l.val, by omega⟩) := by
  unfold wUp
  rw [Memref.IsWhole.readAt_unread]
  refine congrArg A.x6 (funext fun a => ?_)
  fin_cases a <;> apply Fin.ext
  · show 0 + 1 * d.val = d.val; omega
  · show 256 * k + 1 * l.val = 256 * k + l.val; omega

theorem tap_apply {k : ℕ} (h : k < 44) (a : Fin 4) (l : Fin 128) : tap A h (ix2 a l) = A.x7 (ix2 a ⟨128 * k + l.val, by omega⟩) := by
  unfold tap
  rw [Memref.IsWhole.readAt_unread]
  refine congrArg A.x7 (funext fun a' => ?_)
  fin_cases a' <;> apply Fin.ext
  · show 0 + 1 * a.val = a.val; omega
  · show 128 * k + 1 * l.val = 128 * k + l.val; omega

theorem wDn_apply {k : ℕ} (h : k < 11) (l : Fin 256) (d : Fin 1024) : wDn A h (ix2 l d) = A.x8 (ix2 ⟨256 * k + l.val, by omega⟩ d) := by
  unfold wDn
  rw [Memref.IsWhole.readAt_unread]
  refine congrArg A.x8 (funext fun a => ?_)
  fin_cases a <;> apply Fin.ext
  · show 256 * k + 1 * l.val = 256 * k + l.val; omega
  · show 0 + 1 * d.val = d.val; omega

/-- Row `q` (of 514, its neighbours first and last) of half `s`, projected up to column `f`. -/
def upAt (s : ℕ) (q : ℕ) (f : Fin 5632) : EReal := ∑ d : Fin 1024, (hV A s (ix3 0 (rowIx q) d) : EReal) * A.x6 (ix2 d f)

/-- The three-tap convolution of column `f` at row `r` of half `s`. -/
def cvAt (s : ℕ) (r : ℕ) (f : Fin 5632) : EReal :=
  upAt A s r f * A.x7 (ix2 0 f) + upAt A s (r + 1) f * A.x7 (ix2 1 f) + upAt A s (r + 2) f * A.x7 (ix2 2 f) + A.x7 (ix2 3 f)

/-- The gated activation of feature `f` at row `r` of half `s`. -/
def actAt (s : ℕ) (r : ℕ) (f : Fin 2816) : EReal :=
  gelu1 (cvAt A s r ⟨f.val, by omega⟩) * cvAt A s r ⟨2816 + f.val, by omega⟩

theorem conv1_up {κ : Kind} (v : View sig κ .vmem S2x544x128 .f32) (L : List (View.Piece (Elt Ideal) S2x544x128 .f32)) (s : ℕ)
    {k k' : ℕ} (hk : k < 22) (hk' : k' < 44) (sl : Fin 2) (he : k' = 2 * k + sl.val)
    (h : ∀ a, (![sl.val, 0, 0] : Fin 3 → ℕ) a + S1x544x128.size a ≤ S2x544x128.size a) (r : Fin 512) (l : Fin 128) :
    conv1 (tap A hk') (ldRows v (upPieces (hV A s) (wUp A hk) L) sl 15 h (by decide))
      (ldRows v (upPieces (hV A s) (wUp A hk) L) sl 16 h (by decide)) (ldRows v (upPieces (hV A s) (wUp A hk) L) sl 17 h (by decide)) (ix2 r l)
      = cvAt A s r.val ⟨256 * k + (128 * sl.val + l.val), by omega⟩ := by
  have ld : ∀ (o o' : ℕ) (ho : o < 3) (eo : o' = 15 + o) (h' : ∀ a, (![o', 0] : Fin 2 → ℕ) a + S512x128.size a ≤ S544x128.size a),
      ldRows v (upPieces (hV A s) (wUp A hk) L) sl o' h h' (ix2 r l)
        = upAt A s (r.val + o) ⟨256 * k + (128 * sl.val + l.val), by omega⟩ := by
    intro o o' ho eo h'
    subst eo
    rw [ldRows_apply _ _ _ _ _ _ (by omega)]
    have e : (ix3 sl (⟨15 + o + r.val, by omega⟩ : Fin 544) l : S2x544x128.Idx) = ix3 sl ⟨15 + (r.val + o), by omega⟩ l :=
      congrArg (fun q => ix3 sl q l) (Fin.ext (by show 15 + o + r.val = 15 + (r.val + o); omega))
    rw [e, canon_up _ _ _ _ _ (by omega), up_apply]
    refine Finset.sum_congr rfl fun d _ => ?_
    rw [wUp_apply]
  have ht : ∀ a : Fin 4, tap A hk' (ix2 a l) = A.x7 (ix2 a ⟨256 * k + (128 * sl.val + l.val), by omega⟩) := by
    intro a
    rw [tap_apply]
    refine congrArg (fun q => A.x7 (ix2 a q)) (Fin.ext ?_)
    show 128 * k' + l.val = 256 * k + (128 * sl.val + l.val)
    omega
  rw [conv1_apply, ht, ht, ht, ht]
  rw [ld 0 15 (by omega) rfl, ld 1 16 (by omega) rfl, ld 2 17 (by omega) rfl]
  rfl

theorem convOf_up {κ : Kind} (v : View sig κ .vmem S2x544x128 .f32) (L : List (View.Piece (Elt Ideal) S2x544x128 .f32)) (s : ℕ)
    {k k0 k1 : ℕ} (hk : k < 22) (h0 : k0 < 44) (h1 : k1 < 44) (e0 : k0 = 2 * k) (e1 : k1 = 2 * k + 1) (r : Fin 512) (l : Fin 256) :
    convOf v (upPieces (hV A s) (wUp A hk) L) (tap A h0) (tap A h1) (ix2 r l) = cvAt A s r.val ⟨256 * k + l.val, by omega⟩ := by
  unfold convOf
  rw [cat2_apply]
  split_ifs with h
  · refine (conv1_up A v L s hk h0 0 (by simpa using e0) _ r ⟨l.val, h⟩).trans (congrArg (cvAt A s r.val) (Fin.ext ?_))
    show 256 * k + (128 * 0 + l.val) = 256 * k + l.val
    omega
  · refine (conv1_up A v L s hk h1 1 (by simpa using e1) _ r ⟨l.val - 128, by omega⟩).trans (congrArg (cvAt A s r.val) (Fin.ext ?_))
    show 256 * k + (128 * 1 + (l.val - 128)) = 256 * k + l.val
    omega

theorem tilePart_apply (g v : Memref sig .tc .vmem S2x544x128 .f32) (s : ℕ) (hs : s < 2) {j : ℕ} (hj : j < 11) (r : Fin 512) (d : Fin 1024) :
    tilePart A g v s hj (ix2 r d)
      = ∑ k : Fin 256, actAt A s r.val ⟨256 * j + k.val, by omega⟩ * A.x8 (ix2 ⟨256 * j + k.val, by omega⟩ d) := by
  obtain ⟨Lg, hg⟩ := gateL_eq A s j hs hj
  obtain ⟨Lv, hv⟩ := valL_eq A s j hs hj
  unfold tilePart
  rw [partOf_eq, gateOf_eq, down_apply, hg, hv]
  refine Finset.sum_congr rfl fun k _ => ?_
  rw [wDn_apply]
  refine congrArg (fun w : EReal => w * A.x8 (ix2 ⟨256 * j + k.val, by omega⟩ d)) ?_
  show (geluV _ (ix2 r k) : EReal) * convOf _ _ _ _ (ix2 r k) = _
  rw [geluV_apply, convOf_up A _ _ s (by omega) _ _ (by omega) (by omega), convOf_up A _ _ s (by omega) _ _ (by omega) (by omega)]
  unfold actAt
  refine congrArg (fun w : EReal => gelu1 _ * w) (congrArg (cvAt A s r.val) (Fin.ext ?_))
  show 256 * (j + 11) + k.val = 2816 + (256 * j + k.val)
  omega

/-- What the accumulator's half `s` holds after `n + 1` tiles. -/
def accAt (s : ℕ) (hs : s < 2) (n : ℕ) : Vec Ideal S1x512x1024 .f32 :=
  A.arg17.view.readCov (accL A (11 * s + n)) (Rect.unit (s := S2x512x1024) ![s, 0, 0] S1x512x1024.size (inbAcc hs)).toLoadRect

theorem accAt_apply (s : ℕ) (hs : s < 2) (r : Fin 512) (d : Fin 1024) : ∀ (n : ℕ) (hn : n < 11),
    accAt A s hs (n + 1) (ix3 0 r d)
      = ∑ j : Fin (n + 1), ∑ k : Fin 256, actAt A s r.val ⟨256 * j.val + k.val, by omega⟩ * A.x8 (ix2 ⟨256 * j.val + k.val, by omega⟩ d)
  | 0, hn => by
    obtain ⟨g, v, e⟩ := acc_first A s hs
    unfold accAt
    rw [show 11 * s + (0 + 1) = 11 * s + 1 from rfl, e, View.readCov_cons_toLoadRect, first_apply, tilePart_apply A g v s hs]
    rw [Fin.sum_univ_one]
    rfl
  | n + 1, hn => by
    obtain ⟨g, v, e⟩ := acc_next A s (n + 1) hs hn (by omega)
    have ih := accAt_apply s hs r d n (by omega)
    unfold accAt at ih ⊢
    rw [show 11 * s + (n + 1 + 1) = 11 * s + (n + 1) + 1 from rfl, e, View.readCov_cons_toLoadRect, addPart_apply, ih, tilePart_apply A g v s hs,
      Fin.sum_univ_castSucc (n := n + 1)]
    rfl

/-- After all eleven: the sum over the 2816 features. -/
theorem accAt_all (s : ℕ) (hs : s < 2) (r : Fin 512) (d : Fin 1024) :
    accAt A s hs 11 (ix3 0 r d) = ∑ f : Fin 2816, actAt A s r.val f * A.x8 (ix2 f d) := by
  rw [accAt_apply A s hs r d 10 (by omega)]
  rw [← Fintype.sum_prod_type' (f := fun (j : Fin 11) (k : Fin 256) =>
    actAt A s r.val ⟨256 * j.val + k.val, by omega⟩ * A.x8 (ix2 ⟨256 * j.val + k.val, by omega⟩ d))]
  refine Fintype.sum_equiv (finProdFinEquiv (m := 11) (n := 256)) _ (fun f : Fin 2816 => actAt A s r.val f * A.x8 (ix2 f d)) fun p => ?_
  have e : (⟨256 * p.1.val + p.2.val, by omega⟩ : Fin 2816) = finProdFinEquiv p :=
    Fin.ext (by show 256 * p.1.val + p.2.val = p.2.val + 256 * p.1.val; omega)
  rw [e]

end Cert.FfnIdeal.Conv
-- ==== Proof.FfnRows.lean ====
module

public import proofs.«01_k».proof.Proof.FfnAcc
public import Idealize.ShloMosaic.Lib.Pipeline.ValueKit
public import Idealize.ShloMosaic.Lib.Pointwise
public import Idealize.ShloMosaic.Lib.Tactic.CleanTypes

/-! The rows the conv-MLP normalizes: a sub-layer's input rows before the tiles, and its output rows after them. -/

@[expose] public section

set_option maxRecDepth 16384

noncomputable section

namespace Cert.FfnIdeal.Conv

open Cert.FfnIdeal Cert.FfnIdeal.Gen Idealize.ShloMosaic Idealize.ShloMosaic.TcCoe Idealize.SL.Sem

/-- A row over its root mean square, times a gain. -/
def rms (x g : Fin 1024 → EReal) (d : Fin 1024) : EReal :=
  x d * Ideal.rsqrt (Ideal.div (∑ e, x e * x e) (Ideal.ofBits .f32 0x44800000#32) + Ideal.ofBits .f32 0x358637BD#32) * g d

/-- The normalized row, scaled and shifted by the modulation's rows 4 and 3. -/
def hOf (x g : Fin 1024 → EReal) (m : Fin 6 → Fin 1024 → EReal) (d : Fin 1024) : EReal :=
  rms x g d * (Ideal.ofBits .f32 0x3F800000#32 + m 4 d) + m 3 d

theorem p2_apply (x3 : Vec Ideal S1x6x1024 .f32) (k : Fin 6) (d : Fin 1024) : k0_pay2 x3 (ix2 k d) = x3 (ix3 0 k d) := by
  unfold k0_pay2; clean_types; pointwise

theorem p3_apply (x3 : Vec Ideal S1x6x1024 .f32) (x : Vec Ideal S1x512x1024 .f32) (g : Vec Ideal S1x1024 .f32) (r : Fin 512) (d : Fin 1024) :
    k0_pay3 x3 x g (ix3 0 r d) = hOf (fun e => x (ix3 0 r e)) (fun e => g (ix2 0 e)) (fun k e => x3 (ix3 0 k e)) d := by
  unfold k0_pay3 k0_pay2 hOf rms; clean_types; pointwise

theorem p10_apply (x3 : Vec Ideal S1x6x1024 .f32) (x : Vec Ideal S1x512x1024 .f32) (g : Vec Ideal S1x1024 .f32) (r : Fin 512) (d : Fin 1024) :
    k0_pay10 (k0_pay2 x3) (k0_pay9 (k0_pay2 x3) x g) (ix3 0 r d) = hOf (fun e => x (ix3 0 r e)) (fun e => g (ix2 0 e)) (fun k e => x3 (ix3 0 k e)) d := by
  unfold k0_pay10 k0_pay9 k0_pay2 hOf rms; clean_types; pointwise

theorem p5_apply (x3 : Vec Ideal S1x6x1024 .f32) (b : BitVec 1) (x : Vec Ideal S1x16x1024 .f32) (g : Vec Ideal S1x1024 .f32) (d : Fin 1024) :
    k0_pay5 (k0_pay2 x3) b (k0_pay4 x) g (ix2 0 d)
      = Scalar.select b (0 : EReal) (hOf (fun e => x (ix3 0 15 e)) (fun e => g (ix2 0 e)) (fun k e => x3 (ix3 0 k e)) d) := by
  unfold k0_pay5 k0_pay4 k0_pay2 hOf rms; clean_types; pointwise

theorem p11_apply (x3 : Vec Ideal S1x6x1024 .f32) (x : Vec Ideal S1x16x1024 .f32) (g : Vec Ideal S1x1024 .f32) (d : Fin 1024) :
    k0_pay11 (k0_pay2 x3) x g (ix2 0 d) = hOf (fun e => x (ix3 0 15 e)) (fun e => g (ix2 0 e)) (fun k e => x3 (ix3 0 k e)) d := by
  unfold k0_pay11 k0_pay2 hOf rms; clean_types; pointwise

theorem p8_apply0 (x3 : Vec Ideal S1x6x1024 .f32) (u : FVec Ideal S1x1024 .f32) (x : Vec Ideal S1x16x1024 .f32) (g : Vec Ideal S1x1024 .f32) (d : Fin 1024) :
    k0_pay8 (k0_pay2 x3) (iota .tc S16x1024 32 [0] iota_S16x1024_d0_w32) u (k0_pay6 x g) (k0_pay7 (k0_pay2 x3)) (ix3 0 0 d) = u (ix2 0 d) := by
  unfold k0_pay8; clean_types; pointwise

theorem p8_apply1 (x3 : Vec Ideal S1x6x1024 .f32) (u : FVec Ideal S1x1024 .f32) (x : Vec Ideal S1x16x1024 .f32) (g : Vec Ideal S1x1024 .f32) (d : Fin 1024) :
    k0_pay8 (k0_pay2 x3) (iota .tc S16x1024 32 [0] iota_S16x1024_d0_w32) u (k0_pay6 x g) (k0_pay7 (k0_pay2 x3)) (ix3 0 1 d)
      = hOf (fun e => x (ix3 0 0 e)) (fun e => g (ix2 0 e)) (fun k e => x3 (ix3 0 k e)) d := by
  unfold k0_pay8 k0_pay6 k0_pay7 k0_pay2 hOf rms; clean_types; pointwise; rfl

theorem p15_apply0 (x3 : Vec Ideal S1x6x1024 .f32) (b : BitVec 1) (u : FVec Ideal S1x1024 .f32) (x : Vec Ideal S1x16x1024 .f32) (g : Vec Ideal S1x1024 .f32) (d : Fin 1024) :
    k0_pay15 (k0_pay2 x3) b (iota .tc S16x1024 32 [0] iota_S16x1024_d0_w32) u (k0_pay12 x) (k0_pay13 g) (k0_pay14 x) (ix3 0 0 d) = u (ix2 0 d) := by
  unfold k0_pay15; clean_types; pointwise

theorem p15_apply1 (x3 : Vec Ideal S1x6x1024 .f32) (b : BitVec 1) (u : FVec Ideal S1x1024 .f32) (x : Vec Ideal S1x16x1024 .f32) (g : Vec Ideal S1x1024 .f32) (d : Fin 1024) :
    k0_pay15 (k0_pay2 x3) b (iota .tc S16x1024 32 [0] iota_S16x1024_d0_w32) u (k0_pay12 x) (k0_pay13 g) (k0_pay14 x) (ix3 0 1 d)
      = Scalar.select b (0 : EReal) (hOf (fun e => x (ix3 0 0 e)) (fun e => g (ix2 0 e)) (fun k e => x3 (ix3 0 k e)) d) := by
  unfold k0_pay15 k0_pay12 k0_pay13 k0_pay14 k0_pay12 k0_pay2 hOf rms; clean_types; pointwise; rfl

/-- The first half's output rows: the input plus the scaled, normalized accumulator. -/
theorem p322_apply (x3 : Vec Ideal S1x6x1024 .f32) (x acc : Vec Ideal S1x512x1024 .f32) (g : Vec Ideal S1x1024 .f32) (r : Fin 512) (d : Fin 1024) :
    k0_pay322 (k0_pay321 (k0_pay2 x3) x acc g) (ix3 0 r d)
      = (x (ix3 0 r d) + x3 (ix3 0 5 d) * rms (fun e => acc (ix3 0 r e)) (fun e => g (ix2 0 e)) d : EReal) := by
  unfold k0_pay322 k0_pay321 k0_pay2 rms; clean_types; pointwise

/-- The second half's. -/
theorem p1_apply (x3 : Vec Ideal S1x6x1024 .f32) (x acc : Vec Ideal S1x512x1024 .f32) (g : Vec Ideal S1x1024 .f32) (r : Fin 512) (d : Fin 1024) :
    k0_pay1 (k0_pay564 x) (k0_pay565 (k0_pay2 x3)) (k0_pay566 acc) g (ix3 0 r d)
      = (x (ix3 0 r d) + x3 (ix3 0 5 d) * rms (fun e => acc (ix3 0 r e)) (fun e => g (ix2 0 e)) d : EReal) := by
  unfold k0_pay1 k0_pay564 k0_pay565 k0_pay566 k0_pay2 rms; clean_types; pointwise

/-! ## The scratch of normalized rows -/

section
variable (P15 P8 : Vec Ideal S1x16x1024 .bf16) (P10 P3 : Vec Ideal S1x512x1024 .bf16)

/-- The four writes of the scratch. -/
def rowsL : List (View.Piece (Elt Ideal) S2x528x1024 .bf16) :=
  [⟨Rect.unit (s := S2x528x1024) ![1, 512, 0] S1x16x1024.size (by decide), P15⟩,
   ⟨Rect.unit (s := S2x528x1024) ![1, 0, 0] S1x512x1024.size (by decide), P10⟩,
   ⟨Rect.unit (s := S2x528x1024) ![0, 512, 0] S1x16x1024.size (by decide), P8⟩,
   ⟨Rect.unit (s := S2x528x1024) ![0, 0, 0] S1x512x1024.size (by decide), P3⟩]

theorem canon_skip {off sz : Fin 3 → ℕ} {hb : ∀ a, off a + sz a ≤ S2x528x1024.size a} (w : (Rect.unit (s := S2x528x1024) off sz hb).shape.Idx → EReal)
    (L : List (View.Piece (Elt Ideal) S2x528x1024 .bf16)) (y : S2x528x1024.Idx) (h : y ∉ (Rect.unit (s := S2x528x1024) off sz hb).set) :
    View.canon ((⟨Rect.unit (s := S2x528x1024) off sz hb, w⟩ : View.Piece (Elt Ideal) S2x528x1024 .bf16) :: L) y = View.canon L y :=
  View.canon_cons_of_not_mem ⟨Rect.unit (s := S2x528x1024) off sz hb, w⟩ L h

theorem not_mem_half {off sz : Fin 3 → ℕ} {hb : ∀ a, off a + sz a ≤ S2x528x1024.size a} (s : Fin 2) (r : Fin 528) (d : Fin 1024)
    (h : s.val < off 0) : (ix3 s r d : S2x528x1024.Idx) ∉ (Rect.unit (s := S2x528x1024) off sz hb).set := fun hm => by
  have h1 : off 0 ≤ s.val := (Rect.mem_set_unit.mp hm 0).1
  omega

theorem not_mem_rows {off sz : Fin 3 → ℕ} {hb : ∀ a, off a + sz a ≤ S2x528x1024.size a} (s : Fin 2) (r : Fin 528) (d : Fin 1024)
    (h : r.val < off 1) : (ix3 s r d : S2x528x1024.Idx) ∉ (Rect.unit (s := S2x528x1024) off sz hb).set := fun hm => by
  have h1 : off 1 ≤ r.val := (Rect.mem_set_unit.mp hm 1).1
  omega

theorem emb_row {o n : ℕ} {s : Fin 2} {hb : ∀ a, (![s.val, o, 0] : Fin 3 → ℕ) a + (![1, n, 1024] : Fin 3 → ℕ) a ≤ S2x528x1024.size a}
    (r : Fin n) (d : Fin 1024) (ρ : Fin 528) (h : ρ.val = o + r.val) :
    (ix3 s ρ d : S2x528x1024.Idx) = (Rect.unit (s := S2x528x1024) ![s.val, o, 0] ![1, n, 1024] hb).emb (ix3 0 r d) := by
  funext a
  fin_cases a <;> apply Fin.ext
  · show s.val = s.val + 1 * 0; omega
  · show ρ.val = o + 1 * r.val; omega
  · show d.val = 0 + 1 * d.val; omega

theorem rowsL_15 (r : Fin 16) (d : Fin 1024) (ρ : Fin 528) (h : ρ.val = 512 + r.val) :
    View.canon (rowsL P15 P8 P10 P3) (ix3 1 ρ d) = P15 (ix3 0 r d) := by
  rw [emb_row (o := 512) (s := 1) (hb := by decide) r d ρ h]
  exact View.canon_cons_emb _ _ _ _

theorem rowsL_10 (r : Fin 512) (d : Fin 1024) (ρ : Fin 528) (h : ρ.val = r.val) :
    View.canon (rowsL P15 P8 P10 P3) (ix3 1 ρ d) = P10 (ix3 0 r d) := by
  unfold rowsL
  rw [canon_skip _ _ _ (not_mem_rows (off := ![1, 512, 0]) (sz := S1x16x1024.size) (hb := by decide) 1 ρ d (by show ρ.val < 512; omega))]
  rw [emb_row (o := 0) (s := 1) (hb := by decide) r d ρ (by omega)]
  exact View.canon_cons_emb _ _ _ _

theorem rowsL_8 (r : Fin 16) (d : Fin 1024) (ρ : Fin 528) (h : ρ.val = 512 + r.val) :
    View.canon (rowsL P15 P8 P10 P3) (ix3 0 ρ d) = P8 (ix3 0 r d) := by
  unfold rowsL
  rw [canon_skip _ _ _ (not_mem_half (off := ![1, 512, 0]) (sz := S1x16x1024.size) (hb := by decide) 0 ρ d (by show 0 < 1; omega)),
    canon_skip _ _ _ (not_mem_half (off := ![1, 0, 0]) (sz := S1x512x1024.size) (hb := by decide) 0 ρ d (by show 0 < 1; omega))]
  rw [emb_row (o := 512) (s := 0) (hb := by decide) r d ρ h]
  exact View.canon_cons_emb _ _ _ _

theorem rowsL_3 (r : Fin 512) (d : Fin 1024) (ρ : Fin 528) (h : ρ.val = r.val) :
    View.canon (rowsL P15 P8 P10 P3) (ix3 0 ρ d) = P3 (ix3 0 r d) := by
  unfold rowsL
  rw [canon_skip _ _ _ (not_mem_half (off := ![1, 512, 0]) (sz := S1x16x1024.size) (hb := by decide) 0 ρ d (by show 0 < 1; omega)),
    canon_skip _ _ _ (not_mem_half (off := ![1, 0, 0]) (sz := S1x512x1024.size) (hb := by decide) 0 ρ d (by show 0 < 1; omega))]
  rw [canon_skip _ _ _ (not_mem_rows (off := ![0, 512, 0]) (sz := S1x16x1024.size) (hb := by decide) 0 ρ d (by show ρ.val < 512; omega))]
  rw [emb_row (o := 0) (s := 0) (hb := by decide) r d ρ (by omega)]
  exact View.canon_cons_emb _ _ _ _
end

variable (A : Args)

/-- The modulation, the gains and rows of the block as the run loads them. -/
def ldMod : Vec Ideal S1x6x1024 .f32 :=
  View.readAt (Elt Ideal) A.arg5.view (Rect.unit (s := S1x6x1024) ![0, 0, 0] S1x6x1024.size (by decide)).toLoadRect (A.harg5.unread A.x3)
def ldGpre : Vec Ideal S1x1024 .f32 :=
  View.readAt (Elt Ideal) A.arg6.view (Rect.unit (s := S1x1024) ![0, 0] S1x1024.size (by decide)).toLoadRect (A.harg6.unread A.x4)
def ldGpost : Vec Ideal S1x1024 .f32 :=
  View.readAt (Elt Ideal) A.arg7.view (Rect.unit (s := S1x1024) ![0, 0] S1x1024.size (by decide)).toLoadRect (A.harg7.unread A.x5)
def ldPrev : Vec Ideal S1x16x1024 .f32 :=
  View.readAt (Elt Ideal) A.arg3.view (Rect.unit (s := S1x16x1024) ![0, 0, 0] S1x16x1024.size (by decide)).toLoadRect (A.harg3.unread A.x1)
def ldNext : Vec Ideal S1x16x1024 .f32 :=
  View.readAt (Elt Ideal) A.arg4.view (Rect.unit (s := S1x16x1024) ![0, 0, 0] S1x16x1024.size (by decide)).toLoadRect (A.harg4.unread A.x2)
def ldX (o n : ℕ) (h : ∀ a, (![0, o, 0] : Fin 3 → ℕ) a + (![1, n, 1024] : Fin 3 → ℕ) a ≤ S1x1024x1024.size a) : (⟨3, ![1, n, 1024]⟩ : Shape).Idx → EReal :=
  View.readAt (Elt Ideal) A.arg2.view (Rect.unit (s := S1x1024x1024) ![0, o, 0] ![1, n, 1024] h).toLoadRect (A.harg2.unread A.x0)

/-- The bit that says the block is its sequence's first, and the one that says it is its last. -/
def isFirst : BitVec 1 := Scalar.cmpi .eq (BitVec.ofNat 32 (A.i 1).val) 0#32
def isLast : BitVec 1 := Scalar.cmpi .eq (BitVec.ofNat 32 (A.i 1).val) 1#32

def rowsOf : List (View.Piece (Elt Ideal) S2x528x1024 .bf16) :=
  rowsL
    (k0_pay15 (k0_pay2 (ldMod A)) (isLast A) (iota .tc S16x1024 32 [0] iota_S16x1024_d0_w32)
      (k0_pay11 (k0_pay2 (ldMod A)) (ldX A 496 16 (by decide)) (ldGpre A)) (k0_pay12 (ldNext A)) (k0_pay13 (ldGpre A)) (k0_pay14 (ldNext A)))
    (k0_pay8 (k0_pay2 (ldMod A)) (iota .tc S16x1024 32 [0] iota_S16x1024_d0_w32)
      (k0_pay5 (k0_pay2 (ldMod A)) (isFirst A) (k0_pay4 (ldPrev A)) (ldGpre A)) (k0_pay6 (ldX A 512 16 (by decide)) (ldGpre A)) (k0_pay7 (k0_pay2 (ldMod A))))
    (k0_pay10 (k0_pay2 (ldMod A)) (k0_pay9 (k0_pay2 (ldMod A)) (ldX A 512 512 (by decide)) (ldGpre A)))
    (k0_pay3 (ldMod A) (ldX A 0 512 (by decide)) (ldGpre A))

theorem hV0_eq : hV A 0 = A.arg12.view.readCov (rowsOf A) (Rect.unit (s := S2x528x1024) ![0, 0, 0] S1x528x1024.size (by decide)).toLoadRect := rfl
theorem hV1_eq : hV A 1 = A.arg12.view.readCov (rowsOf A) (Rect.unit (s := S2x528x1024) ![1, 0, 0] S1x528x1024.size (by decide)).toLoadRect := rfl

end Cert.FfnIdeal.Conv
-- ==== Proof.FfnOut.lean ====
module

public import proofs.«01_k».proof.Proof.FfnRows
public import Idealize.ShloMosaic.Lib.WholeRead
public import Idealize.ShloMosaic.Lib.Pipeline.ValueKit
public import Idealize.ShloMosaic.Lib.Pointwise

/-! The block one run of the conv-MLP writes, as one function of the windows' contents. -/

@[expose] public section

set_option maxRecDepth 16384

noncomputable section

namespace Cert.FfnIdeal.Conv

open Cert.FfnIdeal Cert.FfnIdeal.Gen Idealize.ShloMosaic Idealize.ShloMosaic.TcCoe Idealize.SL.Sem

theorem hOf_congr {x x' g g' : Fin 1024 → EReal} {m m' : Fin 6 → Fin 1024 → EReal} (hx : ∀ e, x e = x' e) (hg : ∀ e, g e = g' e)
    (hm : ∀ k e, m k e = m' k e) (d : Fin 1024) : hOf x g m d = hOf x' g' m' d := by
  rw [funext hx, funext hg, show m = m' from funext fun k => funext (hm k)]

variable (A : Args)

theorem ldMod_apply (k : Fin 6) (e : Fin 1024) : ldMod A (ix3 0 k e) = A.x3 (ix3 0 k e) := by
  unfold ldMod
  rw [Memref.IsWhole.readAt_unread]
  refine congrArg A.x3 (funext fun a => ?_)
  fin_cases a <;> apply Fin.ext
  · rfl
  · show 0 + 1 * k.val = k.val; omega
  · show 0 + 1 * e.val = e.val; omega

theorem ldGpre_apply (e : Fin 1024) : ldGpre A (ix2 0 e) = A.x4 (ix2 0 e) := by
  unfold ldGpre
  rw [Memref.IsWhole.readAt_unread]
  refine congrArg A.x4 (funext fun a => ?_)
  fin_cases a <;> apply Fin.ext
  · rfl
  · show 0 + 1 * e.val = e.val; omega

theorem ldGpost_apply (e : Fin 1024) : ldGpost A (ix2 0 e) = A.x5 (ix2 0 e) := by
  unfold ldGpost
  rw [Memref.IsWhole.readAt_unread]
  refine congrArg A.x5 (funext fun a => ?_)
  fin_cases a <;> apply Fin.ext
  · rfl
  · show 0 + 1 * e.val = e.val; omega

theorem ldPrev_apply (r : Fin 16) (e : Fin 1024) : ldPrev A (ix3 0 r e) = A.x1 (ix3 0 r e) := by
  unfold ldPrev
  rw [Memref.IsWhole.readAt_unread]
  refine congrArg A.x1 (funext fun a => ?_)
  fin_cases a <;> apply Fin.ext
  · rfl
  · show 0 + 1 * r.val = r.val; omega
  · show 0 + 1 * e.val = e.val; omega

theorem ldNext_apply (r : Fin 16) (e : Fin 1024) : ldNext A (ix3 0 r e) = A.x2 (ix3 0 r e) := by
  unfold ldNext
  rw [Memref.IsWhole.readAt_unread]
  refine congrArg A.x2 (funext fun a => ?_)
  fin_cases a <;> apply Fin.ext
  · rfl
  · show 0 + 1 * r.val = r.val; omega
  · show 0 + 1 * e.val = e.val; omega

theorem ldX_apply (o n : ℕ) (h : ∀ a, (![0, o, 0] : Fin 3 → ℕ) a + (![1, n, 1024] : Fin 3 → ℕ) a ≤ S1x1024x1024.size a) (r : Fin n) (e : Fin 1024)
    (R : Fin 1024) (hR : R.val = o + r.val) : ldX A o n h (ix3 0 r e) = A.x0 (ix3 0 R e) := by
  unfold ldX
  rw [Memref.IsWhole.readAt_unread]
  refine congrArg A.x0 (funext fun a => ?_)
  fin_cases a <;> apply Fin.ext
  · rfl
  · show o + 1 * r.val = R.val; omega
  · show 0 + 1 * e.val = e.val; omega

/-- A row of the input, normalized and modulated with the block's gain and modulation. -/
def hRow (x : Fin 1024 → EReal) (d : Fin 1024) : EReal := hOf x (fun e => A.x4 (ix2 0 e)) (fun k e => A.x3 (ix3 0 k e)) d

theorem hRow_of {x x' : Fin 1024 → EReal} (hx : ∀ e, x e = x' e) (d : Fin 1024) :
    hOf x (fun e => ldGpre A (ix2 0 e)) (fun k e => ldMod A (ix3 0 k e)) d = hRow A x' d :=
  hOf_congr hx (ldGpre_apply A) (ldMod_apply A) d

/-- Row `ρ - 1` of the block, normalized; row 0 is the row before the block and row 1025 the row after it, zero at the
    sequence's ends. -/
def hx (ρ : ℕ) (d : Fin 1024) : EReal :=
  if ρ = 0 then Scalar.select (isFirst A) (0 : EReal) (hRow A (fun e => A.x1 (ix3 0 15 e)) d)
  else if h : ρ - 1 < 1024 then hRow A (fun e => A.x0 (ix3 0 ⟨ρ - 1, h⟩ e)) d
  else Scalar.select (isLast A) (0 : EReal) (hRow A (fun e => A.x2 (ix3 0 0 e)) d)

theorem hx_mid (ρ : ℕ) (R : Fin 1024) (h : ρ = R.val + 1) (d : Fin 1024) : hx A ρ d = hRow A (fun e => A.x0 (ix3 0 R e)) d := by
  subst h
  unfold hx
  rw [if_neg (by omega), dif_pos (by have := R.isLt; omega)]
  rfl

theorem rd0 (ρ : Fin 528) (d : Fin 1024) : hV A 0 (ix3 0 ρ d) = View.canon (rowsOf A) (ix3 0 ρ d) := by
  rw [hV0_eq, View.readCov_eq_canon']
  refine congrArg (View.canon (rowsOf A)) (funext fun a => ?_)
  fin_cases a <;> apply Fin.ext
  · rfl
  · show 0 + 1 * ρ.val = ρ.val; omega
  · show 0 + 1 * d.val = d.val; omega

theorem rd1 (ρ : Fin 528) (d : Fin 1024) : hV A 1 (ix3 0 ρ d) = View.canon (rowsOf A) (ix3 1 ρ d) := by
  rw [hV1_eq, View.readCov_eq_canon']
  refine congrArg (View.canon (rowsOf A)) (funext fun a => ?_)
  fin_cases a <;> apply Fin.ext
  · rfl
  · show 0 + 1 * ρ.val = ρ.val; omega
  · show 0 + 1 * d.val = d.val; omega

theorem hx_first (d : Fin 1024) : hx A 0 d = Scalar.select (isFirst A) (0 : EReal) (hRow A (fun e => A.x1 (ix3 0 15 e)) d) := by
  unfold hx
  rw [if_pos rfl]

theorem hx_last (d : Fin 1024) : hx A 1025 d = Scalar.select (isLast A) (0 : EReal) (hRow A (fun e => A.x2 (ix3 0 0 e)) d) := by
  unfold hx
  rw [if_neg (by omega), dif_neg (by omega)]

theorem rowIx_mid (q : ℕ) (h0 : 0 < q) (h1 : q < 513) : (rowIx q).val = q - 1 := by
  unfold rowIx; dsimp only; rw [if_neg (by omega), if_neg (by omega)]

theorem hV_first (d : Fin 1024) : hV A 0 (ix3 0 (rowIx 0) d) = hx A 0 d := by
  rw [rd0, hx_first]
  unfold rowsOf
  rw [rowsL_8 _ _ _ _ 0 d _ (by decide), p8_apply0, p5_apply]
  exact congrArg (Scalar.select (isFirst A) (0 : EReal)) (hRow_of A (ldPrev_apply A 15) d)

theorem hV_next (d : Fin 1024) : hV A 0 (ix3 0 (rowIx 513) d) = hx A 513 d := by
  rw [rd0, hx_mid A 513 ⟨512, by omega⟩ rfl]
  unfold rowsOf
  rw [rowsL_8 _ _ _ _ 1 d _ (by decide), p8_apply1]
  exact hRow_of A (fun e => ldX_apply A 512 16 _ 0 e ⟨512, by omega⟩ (by decide)) d

theorem hV_low (q : ℕ) (h0 : 0 < q) (h1 : q < 513) (d : Fin 1024) : hV A 0 (ix3 0 (rowIx q) d) = hx A q d := by
  rw [rd0, hx_mid A q ⟨q - 1, by omega⟩ (by show q = q - 1 + 1; omega)]
  unfold rowsOf
  rw [rowsL_3 _ _ _ _ ⟨q - 1, by omega⟩ d _ (rowIx_mid q h0 h1), p3_apply]
  exact hRow_of A (fun e => ldX_apply A 0 512 _ ⟨q - 1, by omega⟩ e ⟨q - 1, by omega⟩ (by show q - 1 = 0 + (q - 1); omega)) d

theorem hV_prev (d : Fin 1024) : hV A 1 (ix3 0 (rowIx 0) d) = hx A 512 d := by
  rw [rd1, hx_mid A 512 ⟨511, by omega⟩ rfl]
  unfold rowsOf
  rw [rowsL_15 _ _ _ _ 0 d _ (by decide), p15_apply0, p11_apply]
  exact hRow_of A (fun e => ldX_apply A 496 16 _ 15 e ⟨511, by omega⟩ (by decide)) d

theorem hV_last (d : Fin 1024) : hV A 1 (ix3 0 (rowIx 513) d) = hx A 1025 d := by
  rw [rd1, hx_last]
  unfold rowsOf
  rw [rowsL_15 _ _ _ _ 1 d _ (by decide), p15_apply1]
  exact congrArg (Scalar.select (isLast A) (0 : EReal)) (hRow_of A (ldNext_apply A 0) d)

theorem hV_high (q : ℕ) (h0 : 0 < q) (h1 : q < 513) (d : Fin 1024) : hV A 1 (ix3 0 (rowIx q) d) = hx A (512 + q) d := by
  rw [rd1, hx_mid A (512 + q) ⟨512 + (q - 1), by omega⟩ (by show 512 + q = 512 + (q - 1) + 1; omega)]
  unfold rowsOf
  rw [rowsL_10 _ _ _ _ ⟨q - 1, by omega⟩ d _ (rowIx_mid q h0 h1), p10_apply]
  exact hRow_of A (fun e => ldX_apply A 512 512 _ ⟨q - 1, by omega⟩ e ⟨512 + (q - 1), by omega⟩ rfl) d

/-- What a half loads is the block's rows, from row `512 s`. -/
theorem hV_apply (s : ℕ) (hs : s < 2) (q : ℕ) (hq : q < 514) (d : Fin 1024) : hV A s (ix3 0 (rowIx q) d) = hx A (512 * s + q) d := by
  obtain rfl | rfl : s = 0 ∨ s = 1 := by omega
  · rw [Nat.mul_zero, Nat.zero_add]
    rcases (by omega : q = 0 ∨ q = 513 ∨ 0 < q ∧ q < 513) with h | h | h
    · rw [h]; exact hV_first A d
    · rw [h]; exact hV_next A d
    · exact hV_low A q h.1 h.2 d
  · rw [Nat.mul_one]
    rcases (by omega : q = 0 ∨ q = 513 ∨ 0 < q ∧ q < 513) with h | h | h
    · rw [h]; exact hV_prev A d
    · rw [h]; exact hV_last A d
    · exact hV_high A q h.1 h.2 d

/-! ## The block's rows through the tiles -/

/-- Row `ρ` (of 1026) projected up to column `f`. -/
def upX (ρ : ℕ) (f : Fin 5632) : EReal := ∑ d : Fin 1024, hx A ρ d * A.x6 (ix2 d f)
/-- The convolution of column `f` at row `R`. -/
def cvX (R : ℕ) (f : Fin 5632) : EReal :=
  upX A R f * A.x7 (ix2 0 f) + upX A (R + 1) f * A.x7 (ix2 1 f) + upX A (R + 2) f * A.x7 (ix2 2 f) + A.x7 (ix2 3 f)
/-- The gated activation of feature `f` at row `R`. -/
def actX (R : ℕ) (f : Fin 2816) : EReal := gelu1 (cvX A R ⟨f.val, by omega⟩) * cvX A R ⟨2816 + f.val, by omega⟩
/-- The down-projection at row `R`. -/
def yX (R : ℕ) (d : Fin 1024) : EReal := ∑ f : Fin 2816, actX A R f * A.x8 (ix2 f d)
/-- The block's output. -/
def outX : Vec Ideal S1x1024x1024 .f32 := fun z =>
  (A.x0 (ix3 0 (z 1) (z 2)) + A.x3 (ix3 0 5 (z 2)) * rms (yX A (z 1).val) (fun e => A.x5 (ix2 0 e)) (z 2) : EReal)

theorem upAt_eq (s : ℕ) (hs : s < 2) (q : ℕ) (hq : q < 514) (f : Fin 5632) : upAt A s q f = upX A (512 * s + q) f := by
  unfold upAt upX
  exact Finset.sum_congr rfl fun d _ => congrArg (fun w : EReal => w * A.x6 (ix2 d f)) (hV_apply A s hs q hq d)

theorem cvAt_eq (s : ℕ) (hs : s < 2) (r : ℕ) (hr : r < 512) (f : Fin 5632) : cvAt A s r f = cvX A (512 * s + r) f := by
  unfold cvAt cvX
  rw [upAt_eq A s hs r (by omega), upAt_eq A s hs (r + 1) (by omega), upAt_eq A s hs (r + 2) (by omega)]
  rfl

theorem acc_eq (s : ℕ) (hs : s < 2) (r : Fin 512) (d : Fin 1024) : accAt A s hs 11 (ix3 0 r d) = yX A (512 * s + r.val) d := by
  rw [accAt_all]
  unfold yX
  refine Finset.sum_congr rfl fun f _ => congrArg (fun w : EReal => w * A.x8 (ix2 f d)) ?_
  unfold actAt actX
  rw [cvAt_eq A s hs _ r.isLt, cvAt_eq A s hs _ r.isLt]

theorem rms_of {x g g' : Fin 1024 → EReal} {x' : Fin 1024 → EReal} (hx : ∀ e, x e = x' e) (hg : ∀ e, g e = g' e) (d : Fin 1024) :
    rms x g d = rms x' g' d := by
  rw [funext hx, funext hg]

/-- The two writes of the output block. -/
def outL : List (View.Piece (Elt Ideal) S1x1024x1024 .f32) :=
  [⟨Rect.unit (s := S1x1024x1024) ![0, 512, 0] S1x512x1024.size (by decide),
      k0_pay1 (k0_pay564 (ldX A 512 512 (by decide))) (k0_pay565 (k0_pay2 (ldMod A))) (k0_pay566 (accAt A 1 (by decide) 11)) (ldGpost A)⟩,
   ⟨Rect.unit (s := S1x1024x1024) ![0, 0, 0] S1x512x1024.size (by decide),
      k0_pay322 (k0_pay321 (k0_pay2 (ldMod A)) (ldX A 0 512 (by decide)) (accAt A 0 (by decide) 11) (ldGpost A))⟩]

theorem outL_of : View.PiecesOf (outX A) (outL A) := by
  refine ⟨fun z => ?_, fun z => ?_, trivial⟩
  · obtain ⟨a, r, d, rfl⟩ : ∃ (a : Fin 1) (r : Fin 512) (d : Fin 1024), z = ix3 a r d := ⟨z 0, z 1, z 2, eq_ix3 z⟩
    obtain rfl := Subsingleton.elim a 0
    have ez : (Rect.unit (s := S1x1024x1024) ![0, 512, 0] S1x512x1024.size (by decide)).emb (ix3 0 r d) = (ix3 0 ⟨512 + r.val, by omega⟩ d : S1x1024x1024.Idx) := by
      funext a
      fin_cases a <;> apply Fin.ext
      · rfl
      · show 512 + 1 * r.val = 512 + r.val; omega
      · show 0 + 1 * d.val = d.val; omega
    show k0_pay1 (k0_pay564 (ldX A 512 512 (by decide))) (k0_pay565 (k0_pay2 (ldMod A))) (k0_pay566 (accAt A 1 (by decide) 11)) (ldGpost A) (ix3 0 r d) = outX A ((Rect.unit (s := S1x1024x1024) ![0, 512, 0] S1x512x1024.size (by decide)).emb (ix3 0 r d))
    rw [p1_apply, ez]
    show _ = (A.x0 (ix3 0 ⟨512 + r.val, by omega⟩ d) + A.x3 (ix3 0 5 d) * rms (yX A (512 + r.val)) (fun e => A.x5 (ix2 0 e)) d : EReal)
    rw [ldX_apply A 512 512 (by decide) r d ⟨512 + r.val, by omega⟩ rfl, ldMod_apply,
      rms_of (fun e => acc_eq A 1 (by decide) r e) (ldGpost_apply A)]
  · obtain ⟨a, r, d, rfl⟩ : ∃ (a : Fin 1) (r : Fin 512) (d : Fin 1024), z = ix3 a r d := ⟨z 0, z 1, z 2, eq_ix3 z⟩
    obtain rfl := Subsingleton.elim a 0
    have ez : (Rect.unit (s := S1x1024x1024) ![0, 0, 0] S1x512x1024.size (by decide)).emb (ix3 0 r d) = (ix3 0 ⟨r.val, by omega⟩ d : S1x1024x1024.Idx) := by
      funext a
      fin_cases a <;> apply Fin.ext
      · rfl
      · show 0 + 1 * r.val = r.val; omega
      · show 0 + 1 * d.val = d.val; omega
    show k0_pay322 (k0_pay321 (k0_pay2 (ldMod A)) (ldX A 0 512 (by decide)) (accAt A 0 (by decide) 11) (ldGpost A)) (ix3 0 r d) = outX A ((Rect.unit (s := S1x1024x1024) ![0, 0, 0] S1x512x1024.size (by decide)).emb (ix3 0 r d))
    rw [p322_apply, ez]
    show _ = (A.x0 (ix3 0 ⟨r.val, by omega⟩ d) + A.x3 (ix3 0 5 d) * rms (yX A r.val) (fun e => A.x5 (ix2 0 e)) d : EReal)
    rw [ldX_apply A 0 512 (by decide) r d ⟨r.val, by omega⟩ (by show r.val = 0 + r.val; omega), ldMod_apply,
      rms_of (fun e => (acc_eq A 0 (by decide) r e).trans (by rw [Nat.mul_zero, Nat.zero_add])) (ldGpost_apply A)]

/-- What the run leaves in the output's buffer. -/
theorem out_eq : out0_A_9 A.c A.i A.arg2 A.harg2 A.arg3 A.harg3 A.arg4 A.harg4 A.arg5 A.harg5 A.arg6 A.harg6 A.arg7 A.harg7 A.arg8 A.harg8 A.arg9 A.harg9
    A.arg10 A.harg10 A.arg11 A.harg11 A.arg12 A.harg12 A.arg13 A.harg13 A.arg14 A.harg14 A.arg15 A.harg15 A.arg16 A.harg16 A.arg17 A.harg17
    A.x0 A.x1 A.x2 A.x3 A.x4 A.x5 A.x6 A.x7 A.x8 = outX A := by
  have hl : (kernelRun0_A (F := Ideal) A.c A.i A.arg2 A.harg2 A.arg3 A.harg3 A.arg4 A.harg4 A.arg5 A.harg5 A.arg6 A.harg6 A.arg7 A.harg7 A.arg8 A.harg8 A.arg9 A.harg9
    A.arg10 A.harg10 A.arg11 A.harg11 A.arg12 A.harg12 A.arg13 A.harg13 A.arg14 A.harg14 A.arg15 A.harg15 A.arg16 A.harg16 A.arg17 A.harg17
    A.x0 A.x1 A.x2 A.x3 A.x4 A.x5 A.x6 A.x7 A.x8).1 = outL A := rfl
  unfold out0_A_9
  rw [View.read_writes_junk_eq_canon, hl]
  funext y
  refine View.canon_append_of_piecesOf (outX A) [] (outL A) (outL_of A) y ?_
  rw [← hl]
  exact cover0_A_9 A.c A.i A.arg2 A.harg2 A.arg3 A.harg3 A.arg4 A.harg4 A.arg5 A.harg5 A.arg6 A.harg6 A.arg7 A.harg7 A.arg8 A.harg8 A.arg9 A.harg9
    A.arg10 A.harg10 A.arg11 A.harg11 A.arg12 A.harg12 A.arg13 A.harg13 A.arg14 A.harg14 A.arg15 A.harg15 A.arg16 A.harg16 A.arg17 A.harg17
    A.x0 A.x1 A.x2 A.x3 A.x4 A.x5 A.x6 A.x7 A.x8 y

end Cert.FfnIdeal.Conv
-- ==== Proof.FfnArr.lean ====
module

public import proofs.«01_k».proof.Proof.FfnOut
public import proofs.«01_k».proof.Proof.Gen.FfnIdeal.Value
public import Idealize.ShloMosaic.Lib.Pipeline.ValueKit
public import Idealize.ShloMosaic.Lib.Pointwise
public import Idealize.ShloMosaic.Lib.Tactic.CleanTypes

/-! The array the feed-forward call leaves, as a function of the operands the host prepares. Grid point `2 b + i` writes rows
`1024 i … 1024 i + 1023` of batch `b`; the row before and the row after the block come from two further windows of the same array. -/

@[expose] public section

set_option maxRecDepth 16384

noncomputable section

namespace Cert.FfnIdeal.Conv

open Cert.FfnIdeal Cert.FfnIdeal.Gen Idealize.ShloMosaic Idealize.ShloMosaic.TcCoe Idealize.SL.Sem
open Idealize.ShloMosaic.Pipeline (Dat)

/-! ## The sub-layer on one batch -/

/-- What the sub-layer reads of one batch: its rows, the six modulation rows, the two gains, the up-projection, the convolution's
three taps and bias, the down-projection. -/
structure Layer where
  xs : Fin 2048 → Fin 1024 → EReal
  mo : Fin 6 → Fin 1024 → EReal
  g1 : Fin 1024 → EReal
  g2 : Fin 1024 → EReal
  up : Fin 1024 → Fin 5632 → EReal
  tp : Fin 4 → Fin 5632 → EReal
  dn : Fin 2816 → Fin 1024 → EReal

variable (L : Layer)

/-- The normalized rows, counted from 1, with a zero row before the first and after the last. -/
def hS (q : ℕ) (d : Fin 1024) : EReal := if h : 0 < q ∧ q - 1 < 2048 then hOf (L.xs ⟨q - 1, h.2⟩) L.g1 L.mo d else 0
/-- Their up-projection. -/
def upS (q : ℕ) (f : Fin 5632) : EReal := ∑ d : Fin 1024, hS L q d * L.up d f
/-- The convolution along the sequence. -/
def cvS (p : ℕ) (f : Fin 5632) : EReal := upS L p f * L.tp 0 f + upS L (p + 1) f * L.tp 1 f + upS L (p + 2) f * L.tp 2 f + L.tp 3 f
/-- The gated activation. -/
def actS (p : ℕ) (f : Fin 2816) : EReal := gelu1 (cvS L p ⟨f.val, by omega⟩) * cvS L p ⟨2816 + f.val, by omega⟩
/-- The down-projection. -/
def yS (p : ℕ) (d : Fin 1024) : EReal := ∑ f : Fin 2816, actS L p f * L.dn f d
/-- The sub-layer's output. -/
def outS (p : Fin 2048) (d : Fin 1024) : EReal := L.xs p d + L.mo 5 d * rms (yS L p.val) L.g2 d

/-! ## One grid point -/

variable (m : (ℓ : Loc nD τ sig) → Buf (Elt Ideal) ℓ) (c : Dev nD)

/-- What the run of grid point `t` reads. -/
def argsAt (t : Fin cfg0.N) : Args :=
  { c := c, i := grid0.coords t,
    arg2 := ms0_0 t, harg2 := hs0_0 t,
    arg3 := ms0_1 t, harg3 := hs0_1 t,
    arg4 := ms0_2 t, harg4 := hs0_2 t,
    arg5 := ms0_3 t, harg5 := hs0_3 t,
    arg6 := ms0_4 t, harg6 := hs0_4 t,
    arg7 := ms0_5 t, harg7 := hs0_5 t,
    arg8 := ms0_6 t, harg8 := hs0_6 t,
    arg9 := ms0_7 t, harg9 := hs0_7 t,
    arg10 := ms0_8 t, harg10 := hs0_8 t,
    arg11 := ms0_9 t, harg11 := hs0_9 t,
    arg12 := scM0_0, harg12 := Memref.isWhole_whole _,
    arg13 := scM0_1, harg13 := Memref.isWhole_whole _,
    arg14 := scM0_2, harg14 := Memref.isWhole_whole _,
    arg15 := scM0_3, harg15 := Memref.isWhole_whole _,
    arg16 := scM0_4, harg16 := Memref.isWhole_whole _,
    arg17 := scM0_5, harg17 := Memref.isWhole_whole _,
    x0 := iblk m c 0 t,
    x1 := iblk m c 1 t,
    x2 := iblk m c 2 t,
    x3 := iblk m c 3 t,
    x4 := iblk m c 4 t,
    x5 := iblk m c 5 t,
    x6 := iblk m c 6 t,
    x7 := iblk m c 7 t,
    x8 := iblk m c 8 t }

theorem count : cfg0.N = 32 := rfl

/-- The batch of a grid point. -/
abbrev bat (t : Fin cfg0.N) : Fin 16 := ⟨t.val / 2, by have h : t.val < 32 := t.isLt; omega⟩

/-- The place in the sequence of row `r` of a grid point's block. -/
abbrev seqOf (t : Fin cfg0.N) (r : Fin 1024) : Fin 2048 := ⟨1024 * (t.val % 2) + r.val, by omega⟩

theorem idx : ∀ t : Fin cfg0.N, (win0_0.index t 0 = t.val / 2 ∧ win0_0.index t 1 = t.val % 2 ∧ win0_0.index t 2 = 0)
    ∧ (win0_1.index t 0 = t.val / 2 ∧ win0_1.index t 1 = 63 * (t.val % 2) ∧ win0_1.index t 2 = 0)
    ∧ (win0_2.index t 0 = t.val / 2 ∧ win0_2.index t 1 = 64 + 63 * (t.val % 2) ∧ win0_2.index t 2 = 0)
    ∧ (win0_3.index t 0 = t.val / 2 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0)
    ∧ (win0_9.index t 0 = t.val / 2 ∧ win0_9.index t 1 = t.val % 2 ∧ win0_9.index t 2 = 0) := by decide +kernel

theorem coord : ∀ t : Fin cfg0.N, ((grid0.coords t) 1).val = t.val % 2 := by decide +kernel

/-- The sub-layer's reading of batch `b`. -/
def layerAt (b : Fin 16) : Layer where
  xs p e := (V m c main_arg0 : Vec Ideal S16x2048x1024 .f32) (ix3 b p e)
  mo k e := (V m c main_arg1 : Vec Ideal S16x6x1024 .f32) (ix3 b k e)
  g1 e := (V m c main_v2 : Vec Ideal S1x1024 .f32) (ix2 0 e)
  g2 e := (V m c main_v3 : Vec Ideal S1x1024 .f32) (ix2 0 e)
  up d f := (V m c main_v4 : Vec Ideal S1024x5632 .bf16) (ix2 d f)
  tp k f := (V m c main_v1 : Vec Ideal S4x5632 .f32) (ix2 k f)
  dn f d := (V m c main_v5 : Vec Ideal S2816x1024 .bf16) (ix2 f d)

theorem b0 (t : Fin cfg0.N) (r e : Fin 1024) : (argsAt m c t).x0 (ix3 0 r e) = (layerAt m c (bat t)).xs (seqOf t r) e := by
  show iblk m c 0 t (ix3 0 r e) = (V m c main_arg0 : Vec Ideal S16x2048x1024 .f32) (ix3 _ _ _)
  blk_simp [iblk]
  exact congrArg (V m c main_arg0 : Vec Ideal S16x2048x1024 .f32) (by blk_ext [idx t])

theorem b1 (t : Fin cfg0.N) (h : t.val % 2 = 1) (e : Fin 1024) :
    (argsAt m c t).x1 (ix3 0 15 e) = (layerAt m c (bat t)).xs ⟨1023, by omega⟩ e := by
  show iblk m c 1 t (ix3 0 15 e) = (V m c main_arg0 : Vec Ideal S16x2048x1024 .f32) (ix3 _ _ _)
  blk_simp [iblk]
  exact congrArg (V m c main_arg0 : Vec Ideal S16x2048x1024 .f32) (by blk_ext [idx t, h])

theorem b2 (t : Fin cfg0.N) (h : t.val % 2 = 0) (e : Fin 1024) :
    (argsAt m c t).x2 (ix3 0 0 e) = (layerAt m c (bat t)).xs ⟨1024, by omega⟩ e := by
  show iblk m c 2 t (ix3 0 0 e) = (V m c main_arg0 : Vec Ideal S16x2048x1024 .f32) (ix3 _ _ _)
  blk_simp [iblk]
  exact congrArg (V m c main_arg0 : Vec Ideal S16x2048x1024 .f32) (by blk_ext [idx t, h])

theorem b3 (t : Fin cfg0.N) (k : Fin 6) (e : Fin 1024) : (argsAt m c t).x3 (ix3 0 k e) = (layerAt m c (bat t)).mo k e := by
  show iblk m c 3 t (ix3 0 k e) = (V m c main_arg1 : Vec Ideal S16x6x1024 .f32) (ix3 _ _ _)
  blk_simp [iblk]
  exact congrArg (V m c main_arg1 : Vec Ideal S16x6x1024 .f32) (by blk_ext [idx t])

theorem b4 (t : Fin cfg0.N) (e : Fin 1024) : (argsAt m c t).x4 (ix2 0 e) = (layerAt m c (bat t)).g1 e := by
  show iblk m c 4 t (ix2 0 e) = (V m c main_v2 : Vec Ideal S1x1024 .f32) (ix2 _ _)
  blk_simp [iblk]
  exact congrArg (V m c main_v2 : Vec Ideal S1x1024 .f32) (by blk_ext [idx t])

theorem b5 (t : Fin cfg0.N) (e : Fin 1024) : (argsAt m c t).x5 (ix2 0 e) = (layerAt m c (bat t)).g2 e := by
  show iblk m c 5 t (ix2 0 e) = (V m c main_v3 : Vec Ideal S1x1024 .f32) (ix2 _ _)
  blk_simp [iblk]
  exact congrArg (V m c main_v3 : Vec Ideal S1x1024 .f32) (by blk_ext [idx t])

theorem b6 (t : Fin cfg0.N) (d : Fin 1024) (f : Fin 5632) : (argsAt m c t).x6 (ix2 d f) = (layerAt m c (bat t)).up d f := by
  show iblk m c 6 t (ix2 d f) = (V m c main_v4 : Vec Ideal S1024x5632 .bf16) (ix2 _ _)
  blk_simp [iblk]
  exact congrArg (V m c main_v4 : Vec Ideal S1024x5632 .bf16) (by blk_ext [idx t])

theorem b7 (t : Fin cfg0.N) (k : Fin 4) (f : Fin 5632) : (argsAt m c t).x7 (ix2 k f) = (layerAt m c (bat t)).tp k f := by
  show iblk m c 7 t (ix2 k f) = (V m c main_v1 : Vec Ideal S4x5632 .f32) (ix2 _ _)
  blk_simp [iblk]
  exact congrArg (V m c main_v1 : Vec Ideal S4x5632 .f32) (by blk_ext [idx t])

theorem b8 (t : Fin cfg0.N) (f : Fin 2816) (d : Fin 1024) : (argsAt m c t).x8 (ix2 f d) = (layerAt m c (bat t)).dn f d := by
  show iblk m c 8 t (ix2 f d) = (V m c main_v5 : Vec Ideal S2816x1024 .bf16) (ix2 _ _)
  blk_simp [iblk]
  exact congrArg (V m c main_v5 : Vec Ideal S2816x1024 .bf16) (by blk_ext [idx t])

/-! ## The rows of a block and the rows of the batch -/

theorem hRow_place (t : Fin cfg0.N) (x : Fin 1024 → EReal) (p : Fin 2048) (hx : ∀ e, x e = (layerAt m c (bat t)).xs p e) (q : ℕ) (hq : q = p.val + 1)
    (d : Fin 1024) : hRow (argsAt m c t) x d = hS (layerAt m c (bat t)) q d := by
  subst hq
  unfold hRow hS
  rw [dif_pos ⟨Nat.succ_pos _, by have := p.isLt; omega⟩]
  exact hOf_congr hx (b4 m c t) (b3 m c t) d

theorem hS_out (q : ℕ) (hq : q = 0 ∨ q = 2049) (d : Fin 1024) : hS L q d = 0 := by
  unfold hS
  rw [dif_neg (by omega)]

theorem first_yes (t : Fin cfg0.N) (h : t.val % 2 = 0) : isFirst (argsAt m c t) = 1#1 := by
  show Scalar.cmpi .eq (BitVec.ofNat 32 ((grid0.coords t) 1).val) 0#32 = _
  rw [coord t, h]; rfl
theorem first_no (t : Fin cfg0.N) (h : t.val % 2 = 1) : isFirst (argsAt m c t) = 0#1 := by
  show Scalar.cmpi .eq (BitVec.ofNat 32 ((grid0.coords t) 1).val) 0#32 = _
  rw [coord t, h]; rfl
theorem last_yes (t : Fin cfg0.N) (h : t.val % 2 = 1) : isLast (argsAt m c t) = 1#1 := by
  show Scalar.cmpi .eq (BitVec.ofNat 32 ((grid0.coords t) 1).val) 1#32 = _
  rw [coord t, h]; rfl
theorem last_no (t : Fin cfg0.N) (h : t.val % 2 = 0) : isLast (argsAt m c t) = 0#1 := by
  show Scalar.cmpi .eq (BitVec.ofNat 32 ((grid0.coords t) 1).val) 1#32 = _
  rw [coord t, h]; rfl

theorem sel_yes (a b : EReal) : Scalar.select (1#1) a b = a := rfl
theorem sel_no (a b : EReal) : Scalar.select (0#1) a b = b := rfl

/-- Row `ρ` of the block at `t` is row `1024 i + ρ` of the batch. -/
theorem hx_place (t : Fin cfg0.N) (ρ : ℕ) (hρ : ρ < 1026) (d : Fin 1024) :
    hx (argsAt m c t) ρ d = hS (layerAt m c (bat t)) (1024 * (t.val % 2) + ρ) d := by
  by_cases h0 : ρ = 0
  · subst h0
    rw [hx_first]
    by_cases hi : t.val % 2 = 0
    · rw [first_yes m c t hi, sel_yes, hS_out _ _ (by omega)]
    · have hi : t.val % 2 = 1 := by omega
      rw [first_no m c t hi, sel_no]
      exact hRow_place m c t _ ⟨1023, by omega⟩ (b1 m c t hi) _ (by rw [hi]) d
  · by_cases h1 : ρ = 1025
    · subst h1
      rw [hx_last]
      by_cases hi : t.val % 2 = 0
      · rw [last_no m c t hi, sel_no]
        exact hRow_place m c t _ ⟨1024, by omega⟩ (b2 m c t hi) _ (by rw [hi]) d
      · have hi : t.val % 2 = 1 := by omega
        rw [last_yes m c t hi, sel_yes, hS_out _ _ (by omega)]
    · rw [hx_mid _ ρ ⟨ρ - 1, by omega⟩ (by show ρ = ρ - 1 + 1; omega)]
      exact hRow_place m c t _ (seqOf t ⟨ρ - 1, by omega⟩) (b0 m c t _) _ (by show _ = 1024 * (t.val % 2) + (ρ - 1) + 1; omega) d

theorem up_place (t : Fin cfg0.N) (ρ : ℕ) (hρ : ρ < 1026) (f : Fin 5632) :
    upX (argsAt m c t) ρ f = upS (layerAt m c (bat t)) (1024 * (t.val % 2) + ρ) f := by
  unfold upX upS
  exact Finset.sum_congr rfl fun d _ => by rw [hx_place m c t ρ hρ, b6]

theorem cv_place (t : Fin cfg0.N) (R : ℕ) (hR : R < 1024) (f : Fin 5632) :
    cvX (argsAt m c t) R f = cvS (layerAt m c (bat t)) (1024 * (t.val % 2) + R) f := by
  unfold cvX cvS
  rw [up_place m c t R (by omega), up_place m c t (R + 1) (by omega), up_place m c t (R + 2) (by omega), b7, b7, b7, b7]
  rfl

theorem y_place (t : Fin cfg0.N) (R : ℕ) (hR : R < 1024) (d : Fin 1024) :
    yX (argsAt m c t) R d = yS (layerAt m c (bat t)) (1024 * (t.val % 2) + R) d := by
  unfold yX yS actX actS
  exact Finset.sum_congr rfl fun f _ => by rw [cv_place m c t R hR, cv_place m c t R hR, b8]

theorem rms_congr {x x' g g' : Fin 1024 → EReal} (hx : ∀ e, x e = x' e) (hg : ∀ e, g e = g' e) (d : Fin 1024) : rms x g d = rms x' g' d := by
  rw [funext hx, funext hg]

theorem out_place (t : Fin cfg0.N) (R d : Fin 1024) :
    outX (argsAt m c t) (ix3 0 R d) = outS (layerAt m c (bat t)) (seqOf t R) d := by
  show ((argsAt m c t).x0 (ix3 0 R d) + (argsAt m c t).x3 (ix3 0 5 d) * rms (yX (argsAt m c t) R.val) (fun e => (argsAt m c t).x5 (ix2 0 e)) d : EReal) = _
  unfold outS
  rw [b0, b3, rms_congr (y_place m c t R.val R.isLt) (b5 m c t)]

/-! ## The array -/

/-- The call's array. -/
def ffnArr : Vec Ideal S16x2048x1024 .f32 := fun y => outS (layerAt m c (y 0)) (y 1) (y 2)

theorem ffn_place (t : Fin cfg0.N) (e : S16x2048x1024.Idx) (y : S1x1024x1024.Idx) (h0 : (e 0).val = t.val / 2)
    (h1 : (e 1).val = t.val % 2 * 1024 + (y 1).val) (h2 : (e 2).val = (y 2).val) : outX (argsAt m c t) y = ffnArr m c e := by
  have he : e = ix3 (bat t) (seqOf t (y 1)) (y 2) := by
    funext a; match a with | ⟨0, _⟩ => exact Fin.ext h0 | ⟨1, _⟩ => exact Fin.ext (h1.trans (congrArg (fun w : ℕ => w + (y 1).val) (Nat.mul_comm _ _))) | ⟨2, _⟩ => exact Fin.ext h2
  have hy : y = ix3 (0 : Fin 1) (y 1) (y 2) := by
    funext a; match a with | ⟨0, _⟩ => exact Subsingleton.elim (α := Fin 1) _ _ | ⟨1, _⟩ => rfl | ⟨2, _⟩ => rfl
  subst he
  exact (congrArg (outX (argsAt m c t)) hy).trans (out_place m c t (y 1) (y 2))

theorem outsAt_eq (t : Fin cfg0.N) : outsAt0 m c t = outX (argsAt m c t) := out_eq (argsAt m c t)

theorem final_ffn : (dats m 0 c).arrAt 9 cfg0.N = ffnArr m c := by
  refine (dats m 0 c).arrAt_eq_of_covers 9 _ (by decide +kernel) fun t hf y => ?_
  blk_simp
  rw [after0_9, outsAt_eq]
  exact ffn_place m c t _ y (by blk_ext [idx t]) (by blk_ext [idx t]) (by blk_ext [idx t])

end Cert.FfnIdeal.Conv
-- ==== Proof.FfnRef.lean ====
module

public import proofs.«01_k».proof.Proof.FfnArr
public import proofs.«01_k».proof.Proof.Gen.FfnReferenceIdeal.Run
public import Idealize.ShloMosaic.Lib.Pipeline.ValueKit
public import Idealize.ShloMosaic.Lib.Pointwise
public import Idealize.ShloMosaic.Lib.Tactic.CleanTypes

/-! The reference's feed-forward sub-layer, read entry by entry: its operations, grouped by the lines of the reference, and the value
of each group at one index. -/

@[expose] public section

set_option maxRecDepth 16384

noncomputable section

namespace Cert.FfnReferenceIdeal.Conv

open Cert.FfnReferenceIdeal Cert.FfnReferenceIdeal.Gen Idealize.ShloMosaic Idealize.ShloMosaic.TcCoe Idealize.SL.Sem
open Cert.FfnIdeal.Conv

/-- The sums of squares of the rows. -/
def sqV (x : FVec Ideal S16x2048x1024 .f32) : FVec Ideal S16x2048 .f32 :=
  Host.reduceAdd (mulf x x) (constant S_ .f32 0x00000000#32) reducesTo_S16x2048x1024_S16x2048_d2 h_S_

/-- The norm of the rows. -/
def rmsV (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (sqV x)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The modulated rows. -/
def hV (r : FVec Ideal S16x2048x1024 .f32) (mo : FVec Ideal S16x6x1024 .f32) : FVec Ideal S16x2048x1024 .f32 :=
  addf (mulf r (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 4, 0] mo slices_S16x6x1024_S16x1x1024_0_4_0))))
    (broadcastInDim S16x2048x1024 ![0, 1, 2] bcast_S16x1x1024_S16x2048x1024_0_1_2 (extractStridedSlice S16x1x1024 ![0, 3, 0] mo slices_S16x6x1024_S16x1x1024_0_3_0))

/-- The up-projection. -/
def upV (h : FVec Ideal S16x2048x1024 .f32) (u : FVec Ideal S1024x5632 .f32) : FVec Ideal S16x2048x5632 .f32 :=
  Host.dotGeneral dot_S16x2048x1024_S1024x5632_S16x2048x5632_2_0_01_1_n_n none h u

/-- A zero row before and after each sequence. -/
def padV (y : FVec Ideal S16x2048x5632 .f32) : FVec Ideal S16x2050x5632 .f32 :=
  pad S16x2050x5632 ![0, 1, 0] ![0, 1, 0] ![0, 0, 0] y (sitofp .f32 (constantI S_ 32 0#32)) pads_S16x2048x5632_S16x2050x5632_000_110_000 h_S_

/-- The convolution. -/
def cvV (y : FVec Ideal S16x2050x5632 .f32) (k : FVec Ideal S3x5632 .f32) (b : FVec Ideal S5632 .f32) : FVec Ideal S16x2048x5632 .f32 :=
  addf (addf (addf (mulf (extractStridedSlice S16x2048x5632 ![0, 0, 0] y slices_S16x2050x5632_S16x2048x5632_0_0_0) (broadcastInDim S16x2048x5632 ![0, 1, 2] bcast_S1x1x5632_S16x2048x5632_0_1_2 (broadcastInDim S1x1x5632 ![2] bcast_S5632_S1x1x5632_2 (shapeCast _ (extractStridedSlice S1x5632 ![0, 0] k slices_S3x5632_S1x5632_0_0) shapeCasts_S1x5632_S5632)))) (mulf (extractStridedSlice S16x2048x5632 ![0, 1, 0] y slices_S16x2050x5632_S16x2048x5632_0_1_0) (broadcastInDim S16x2048x5632 ![0, 1, 2] bcast_S1x1x5632_S16x2048x5632_0_1_2 (broadcastInDim S1x1x5632 ![2] bcast_S5632_S1x1x5632_2 (shapeCast _ (extractStridedSlice S1x5632 ![1, 0] k slices_S3x5632_S1x5632_1_0) shapeCasts_S1x5632_S5632))))) (mulf (extractStridedSlice S16x2048x5632 ![0, 2, 0] y slices_S16x2050x5632_S16x2048x5632_0_2_0) (broadcastInDim S16x2048x5632 ![0, 1, 2] bcast_S1x1x5632_S16x2048x5632_0_1_2 (broadcastInDim S1x1x5632 ![2] bcast_S5632_S1x1x5632_2 (shapeCast _ (extractStridedSlice S1x5632 ![2, 0] k slices_S3x5632_S1x5632_2_0) shapeCasts_S1x5632_S5632))))) (broadcastInDim S16x2048x5632 ![0, 1, 2] bcast_S1x1x5632_S16x2048x5632_0_1_2 (broadcastInDim S1x1x5632 ![2] bcast_S5632_S1x1x5632_2 b))

/-- The gate's half. -/
def gateV (v : FVec Ideal S16x2048x5632 .f32) : FVec Ideal S16x2048x2816 .f32 :=
  extractStridedSlice S16x2048x2816 ![0, 0, 0] v slices_S16x2048x5632_S16x2048x2816_0_0_0

/-- The activation of the gate. -/
def geV (g : FVec Ideal S16x2048x2816 .f32) : FVec Ideal S16x2048x2816 .f32 :=
  mulf g (mulf (broadcastInDim S16x2048x2816 ![] bcast_S_S16x2048x2816 (constant S_ .f32 0x3F000000#32)) (addf (broadcastInDim S16x2048x2816 ![] bcast_S_S16x2048x2816 (constant S_ .f32 0x3F800000#32)) (Host.tanh (mulf (broadcastInDim S16x2048x2816 ![] bcast_S_S16x2048x2816 (constant S_ .f32 0x3F4C422A#32)) (addf g (mulf (broadcastInDim S16x2048x2816 ![] bcast_S_S16x2048x2816 (constant S_ .f32 0x3D372713#32)) (mulf (mulf g g) g)))))))

/-- The gated activation. -/
def actV (v : FVec Ideal S16x2048x5632 .f32) : FVec Ideal S16x2048x2816 .f32 :=
  mulf (geV (gateV v)) (extractStridedSlice S16x2048x2816 ![0, 0, 2816] v slices_S16x2048x5632_S16x2048x2816_0_0_2816)

/-- The down-projection. -/
def dnV (a : FVec Ideal S16x2048x2816 .f32) (w : FVec Ideal S2816x1024 .f32) : FVec Ideal S16x2048x1024 .f32 :=
  Host.dotGeneral dot_S16x2048x2816_S2816x1024_S16x2048x1024_2_0_01_1_n_n none a w

/-- The gated residual sum. -/
def resV (x : FVec Ideal S16x2048x1024 .f32) (mo : FVec Ideal S16x6x1024 .f32) (r : FVec Ideal S16x2048x1024 .f32) : FVec Ideal S16x2048x1024 .f32 :=
  addf x (mulf (broadcastInDim S16x2048x1024 ![0, 1, 2] bcast_S16x1x1024_S16x2048x1024_0_1_2 (extractStridedSlice S16x1x1024 ![0, 5, 0] mo slices_S16x6x1024_S16x1x1024_0_5_0)) r)

/-- The rows after the convolution. -/
def cvAll (x : FVec Ideal S16x2048x1024 .f32) (mo : FVec Ideal S16x6x1024 .f32) (g1 : FVec Ideal S1024 .f32) (u : FVec Ideal S1024x5632 .f32)
    (k : FVec Ideal S3x5632 .f32) (b : FVec Ideal S5632 .f32) : FVec Ideal S16x2048x5632 .f32 :=
  cvV (padV (upV (hV (rmsV x g1) mo) u)) k b

/-- The whole sub-layer. -/
def ffnV (x : FVec Ideal S16x2048x1024 .f32) (mo : FVec Ideal S16x6x1024 .f32) (g1 g2 : FVec Ideal S1024 .f32) (u : FVec Ideal S1024x5632 .f32)
    (k : FVec Ideal S3x5632 .f32) (b : FVec Ideal S5632 .f32) (w : FVec Ideal S2816x1024 .f32) : FVec Ideal S16x2048x1024 .f32 :=
  resV x mo (rmsV (dnV (actV (cvAll x mo g1 u k b)) w) g2)

/-! ## The groups' entries -/

theorem row_fiber (b : Fin 16) (p : Fin 2048) (i : S16x2048x1024.Idx) :
    (reducesTo_S16x2048x1024_S16x2048_d2).drop i = (ix2 b p : S16x2048.Idx) ↔ ∃ k : Fin 1024, ix3 b p k = i := by
  constructor
  · intro q
    refine ⟨i 2, ?_⟩
    funext x; apply Fin.ext
    match x with
    | ⟨0, _⟩ => exact (congrArg Fin.val (congrFun q 0)).symm
    | ⟨1, _⟩ => exact (congrArg Fin.val (congrFun q 1)).symm
    | ⟨2, _⟩ => rfl
  · rintro ⟨k, rfl⟩
    funext x
    apply Fin.ext
    match x with
    | ⟨0, _⟩ => rfl
    | ⟨1, _⟩ => rfl

theorem row_sum (v : S16x2048x1024.Idx → EReal) (init : EReal) (b : Fin 16) (p : Fin 2048) :
    Ideal.hostReduceAdd reducesTo_S16x2048x1024_S16x2048_d2 v init (ix2 b p) = init + ∑ k : Fin 1024, v (ix3 b p k) :=
  congrArg (init + ·) (Finset.sum_filter_eq_sum_of_fiber _ (fun k : Fin 1024 => ix3 b p k)
    (fun _ _ q => congrFun q 2) (row_fiber b p) v)

theorem sq_apply (x : FVec Ideal S16x2048x1024 .f32) (b : Fin 16) (p : Fin 2048) :
    sqV x (ix2 b p) = ∑ e : Fin 1024, (x (ix3 b p e) * x (ix3 b p e) : EReal) := by
  show Ideal.hostReduceAdd reducesTo_S16x2048x1024_S16x2048_d2 (fun i => (x i * x i : EReal)) (Ideal.ofBits .f32 0x00000000#32) (ix2 b p) = _
  rw [row_sum, Ideal.ofBits_zero_f32, zero_add]

theorem rms_apply (x : FVec Ideal S16x2048x1024 .f32) (g : FVec Ideal S1024 .f32) (b : Fin 16) (p : Fin 2048) (d : Fin 1024) :
    rmsV x g (ix3 b p d) = rms (fun e => x (ix3 b p e)) (fun e => g (ix1 e)) d := by
  have h := sq_apply x b p
  unfold rmsV rms
  generalize sqV x = s at h ⊢
  dsimp only
  rw [← h]
  clean_types
  pointwise

theorem h_apply (r : FVec Ideal S16x2048x1024 .f32) (mo : FVec Ideal S16x6x1024 .f32) (b : Fin 16) (p : Fin 2048) (d : Fin 1024) :
    hV r mo (ix3 b p d) = (r (ix3 b p d) * (Ideal.ofBits .f32 0x3F800000#32 + mo (ix3 b 4 d)) + mo (ix3 b 3 d) : EReal) := by
  unfold hV
  clean_types
  pointwise

theorem up_apply (h : FVec Ideal S16x2048x1024 .f32) (u : FVec Ideal S1024x5632 .f32) (b : Fin 16) (p : Fin 2048) (f : Fin 5632) :
    upV h u (ix3 b p f) = ∑ d : Fin 1024, (h (ix3 b p d) * u (ix2 d f) : EReal) := by
  unfold upV
  clean_types
  pointwise

theorem zero_int : (FloatOps.sitofp (F := Ideal) FTy.f32 (0#32 : BitVec 32) : EReal) = 0 := by
  show (((0#32 : BitVec 32).toInt : ℝ) : EReal) = 0
  simp

theorem pad_apply (y : FVec Ideal S16x2048x5632 .f32) (b : Fin 16) (q : Fin 2050) (f : Fin 5632) :
    padV y (ix3 b q f) = if h : 1 ≤ q.val ∧ q.val - 1 < 2048 then (y (ix3 b ⟨q.val - 1, h.2⟩ f) : EReal) else 0 := by
  unfold padV
  clean_types
  pointwise
  rw [zero_int]

theorem cv_apply (y : FVec Ideal S16x2050x5632 .f32) (k : FVec Ideal S3x5632 .f32) (c : FVec Ideal S5632 .f32) (b : Fin 16) (p : Fin 2048) (f : Fin 5632) :
    cvV y k c (ix3 b p f) = (y (ix3 b ⟨p.val, by omega⟩ f) * k (ix2 0 f) + y (ix3 b ⟨1 + p.val, by omega⟩ f) * k (ix2 1 f)
      + y (ix3 b ⟨2 + p.val, by omega⟩ f) * k (ix2 2 f) + c (ix1 f) : EReal) := by
  unfold cvV
  clean_types
  pointwise

theorem ge_apply (g : FVec Ideal S16x2048x2816 .f32) (b : Fin 16) (p : Fin 2048) (f : Fin 2816) :
    geV g (ix3 b p f) = gelu1 (g (ix3 b p f)) := by
  have h : geV g (ix3 b p f) = (g (ix3 b p f) * (Ideal.ofBits .f32 0x3F000000#32 * (Ideal.ofBits .f32 0x3F800000#32
    + Ideal.tanh (Ideal.ofBits .f32 0x3F4C422A#32 * (g (ix3 b p f) + Ideal.ofBits .f32 0x3D372713#32 * (g (ix3 b p f) * g (ix3 b p f) * g (ix3 b p f)))))) : EReal) := by
    unfold geV
    clean_types
    pointwise
  rw [h]
  unfold gelu1
  rw [mul_comm (g (ix3 b p f) * g (ix3 b p f) : EReal) (g (ix3 b p f))]

theorem gate_apply (v : FVec Ideal S16x2048x5632 .f32) (b : Fin 16) (p : Fin 2048) (f : Fin 2816) :
    gateV v (ix3 b p f) = v (ix3 b p ⟨f.val, by omega⟩) := by
  unfold gateV
  clean_types
  pointwise

theorem act_apply (v : FVec Ideal S16x2048x5632 .f32) (b : Fin 16) (p : Fin 2048) (f : Fin 2816) :
    actV v (ix3 b p f) = (gelu1 (v (ix3 b p ⟨f.val, by omega⟩)) * v (ix3 b p ⟨2816 + f.val, by omega⟩) : EReal) := by
  rw [← gate_apply v b p f, ← ge_apply]
  unfold actV
  generalize geV (gateV v) = a
  clean_types
  pointwise

theorem dn_apply (a : FVec Ideal S16x2048x2816 .f32) (w : FVec Ideal S2816x1024 .f32) (b : Fin 16) (p : Fin 2048) (d : Fin 1024) :
    dnV a w (ix3 b p d) = ∑ f : Fin 2816, (a (ix3 b p f) * w (ix2 f d) : EReal) := by
  unfold dnV
  clean_types
  pointwise

theorem res_apply (x : FVec Ideal S16x2048x1024 .f32) (mo : FVec Ideal S16x6x1024 .f32) (r : FVec Ideal S16x2048x1024 .f32)
    (b : Fin 16) (p : Fin 2048) (d : Fin 1024) : resV x mo r (ix3 b p d) = (x (ix3 b p d) + mo (ix3 b 5 d) * r (ix3 b p d) : EReal) := by
  unfold resV
  clean_types
  pointwise

/-! ## The whole -/

/-- The three taps and the bias, as four rows. -/
def tapsOf (k : FVec Ideal S3x5632 .f32) (c : FVec Ideal S5632 .f32) (i : Fin 4) (f : Fin 5632) : EReal :=
  if h : i.val < 3 then k (ix2 ⟨i.val, h⟩ f) else c (ix1 f)

/-- The sub-layer's reading of batch `b`. -/
def layerOf (x : FVec Ideal S16x2048x1024 .f32) (mo : FVec Ideal S16x6x1024 .f32) (g1 g2 : FVec Ideal S1024 .f32) (u : FVec Ideal S1024x5632 .f32)
    (k : FVec Ideal S3x5632 .f32) (c : FVec Ideal S5632 .f32) (w : FVec Ideal S2816x1024 .f32) (b : Fin 16) : Layer where
  xs p e := x (ix3 b p e)
  mo i e := mo (ix3 b i e)
  g1 e := g1 (ix1 e)
  g2 e := g2 (ix1 e)
  up d f := u (ix2 d f)
  tp := tapsOf k c
  dn f d := w (ix2 f d)

variable (x : FVec Ideal S16x2048x1024 .f32) (mo : FVec Ideal S16x6x1024 .f32) (g1 g2 : FVec Ideal S1024 .f32) (u : FVec Ideal S1024x5632 .f32)
  (k : FVec Ideal S3x5632 .f32) (c : FVec Ideal S5632 .f32) (w : FVec Ideal S2816x1024 .f32)

theorem hAt (b : Fin 16) (p : Fin 2048) (q : ℕ) (hq : q = p.val + 1) (d : Fin 1024) :
    hV (rmsV x g1) mo (ix3 b p d) = hS (layerOf x mo g1 g2 u k c w b) q d := by
  subst hq
  rw [h_apply, rms_apply]
  unfold hS
  rw [dif_pos ⟨Nat.succ_pos _, by have := p.isLt; omega⟩]
  rfl

/-- The padded up-projection: the padding rows are the projection of a zero row. -/
theorem upAt (b : Fin 16) (q : Fin 2050) (f : Fin 5632) :
    padV (upV (hV (rmsV x g1) mo) u) (ix3 b q f) = upS (layerOf x mo g1 g2 u k c w b) q.val f := by
  rw [pad_apply]
  by_cases h : 1 ≤ q.val ∧ q.val - 1 < 2048
  · rw [dif_pos h, up_apply]
    unfold upS
    exact Finset.sum_congr rfl fun d _ => congrArg (fun z : EReal => z * u (ix2 d f))
      (hAt x mo g1 g2 u k c w b ⟨q.val - 1, h.2⟩ q.val (by show q.val = q.val - 1 + 1; omega) d)
  · rw [dif_neg h]
    unfold upS
    refine (Finset.sum_eq_zero fun d _ => ?_).symm
    rw [hS_out _ _ (by have := q.isLt; omega), zero_mul]

theorem cvAt (b : Fin 16) (p : Fin 2048) (f : Fin 5632) : cvAll x mo g1 u k c (ix3 b p f) = cvS (layerOf x mo g1 g2 u k c w b) p.val f := by
  unfold cvAll
  rw [cv_apply, upAt x mo g1 g2 u k c w, upAt x mo g1 g2 u k c w, upAt x mo g1 g2 u k c w]
  unfold cvS
  rw [Nat.add_comm p.val 1, Nat.add_comm p.val 2]
  rfl

theorem yAt (b : Fin 16) (p : Fin 2048) (d : Fin 1024) :
    dnV (actV (cvAll x mo g1 u k c)) w (ix3 b p d) = yS (layerOf x mo g1 g2 u k c w b) p.val d := by
  rw [dn_apply]
  unfold yS
  refine Finset.sum_congr rfl fun f _ => congrArg (fun z : EReal => z * w (ix2 f d)) ?_
  rw [act_apply, cvAt x mo g1 g2 u k c w, cvAt x mo g1 g2 u k c w]
  rfl

theorem ffn_apply (b : Fin 16) (p : Fin 2048) (d : Fin 1024) :
    ffnV x mo g1 g2 u k c w (ix3 b p d) = outS (layerOf x mo g1 g2 u k c w b) p d := by
  unfold ffnV
  rw [res_apply, rms_apply, rms_congr (yAt x mo g1 g2 u k c w b p) (fun _ => rfl)]
  rfl

/-! ## The reference's run -/

open Cert.FfnReferenceIdeal.Value

variable (V : Valuation τ sig (Elt Ideal))

theorem res23 : res_main_v23 (F := Ideal) V = padV (upV (hV (rmsV (V (Proc.devRef .tc main_arg0)) (V (Proc.devRef .tc main_arg2))) (V (Proc.devRef .tc main_arg1))) (V (Proc.devRef .tc main_arg4))) := by
  unfold res_main_v23 padV upV hV rmsV sqV
  rfl

theorem res46 : res_main_v46 (F := Ideal) V = cvAll (V (Proc.devRef .tc main_arg0)) (V (Proc.devRef .tc main_arg1)) (V (Proc.devRef .tc main_arg2))
    (V (Proc.devRef .tc main_arg4)) (V (Proc.devRef .tc main_arg5)) (V (Proc.devRef .tc main_arg6)) := by
  unfold res_main_v46 cvAll
  rw [res23]
  unfold cvV
  rfl

theorem res63 : res_main_v63 (F := Ideal) V = dnV (actV (cvAll (V (Proc.devRef .tc main_arg0)) (V (Proc.devRef .tc main_arg1)) (V (Proc.devRef .tc main_arg2))
    (V (Proc.devRef .tc main_arg4)) (V (Proc.devRef .tc main_arg5)) (V (Proc.devRef .tc main_arg6)))) (V (Proc.devRef .tc main_arg7)) := by
  unfold res_main_v63 res_main_v47
  rw [res46]
  unfold dnV actV geV gateV
  rfl

/-- The reference runs and leaves that function of its arguments, which it keeps. -/
theorem run_ffn (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79) = ffnV (m (c, Proc.devRef .tc main_arg0)) (m (c, Proc.devRef .tc main_arg1)) (m (c, Proc.devRef .tc main_arg2))
        (m (c, Proc.devRef .tc main_arg3)) (m (c, Proc.devRef .tc main_arg4)) (m (c, Proc.devRef .tc main_arg5)) (m (c, Proc.devRef .tc main_arg6)) (m (c, Proc.devRef .tc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun r h c => ⟨(h c).1.trans ?_, (h c).2⟩) (run (F := Ideal) m ρ)
  rw [res63]
  unfold ffnV resV rmsV sqV
  rfl

end Cert.FfnReferenceIdeal.Conv
-- ==== Proof.FfnHost.lean ====
module

public import proofs.«01_k».proof.Proof.FfnRef
public import Idealize.ShloMosaic.Lib.Pipeline.ValueKit
public import Idealize.ShloMosaic.Lib.Pointwise
public import Idealize.ShloMosaic.Lib.Tactic.CleanTypes

/-! The operands the host prepares for the feed-forward call: the gains as rows, the weights at the products' type, the taps above
the bias. With them, the call's array is the reference's. -/

@[expose] public section

set_option maxRecDepth 16384

noncomputable section

namespace Cert.FfnIdeal.Conv

open Cert.FfnIdeal Cert.FfnIdeal.Gen Idealize.ShloMosaic Idealize.ShloMosaic.TcCoe Idealize.SL.Sem

variable (m : (ℓ : Loc nD τ sig) → Buf (Elt Ideal) ℓ) (c : Dev nD)

theorem gain1 (e : Fin 1024) : (V m c main_v2 : Vec Ideal S1x1024 .f32) (ix2 0 e) = (m (c, Proc.devRef .tc main_arg2) : Vec Ideal S1024 .f32) (ix1 e) := by
  simp only [V, hostOps0]
  entry_read
  clean_types
  pointwise

theorem gain2 (e : Fin 1024) : (V m c main_v3 : Vec Ideal S1x1024 .f32) (ix2 0 e) = (m (c, Proc.devRef .tc main_arg3) : Vec Ideal S1024 .f32) (ix1 e) := by
  simp only [V, hostOps0]
  entry_read
  clean_types
  pointwise

theorem upW (d : Fin 1024) (f : Fin 5632) :
    (V m c main_v4 : Vec Ideal S1024x5632 .bf16) (ix2 d f) = (m (c, Proc.devRef .tc main_arg4) : Vec Ideal S1024x5632 .f32) (ix2 d f) := by
  simp only [V, hostOps0]
  entry_read
  clean_types
  pointwise

theorem dnW (f : Fin 2816) (d : Fin 1024) :
    (V m c main_v5 : Vec Ideal S2816x1024 .bf16) (ix2 f d) = (m (c, Proc.devRef .tc main_arg7) : Vec Ideal S2816x1024 .f32) (ix2 f d) := by
  simp only [V, hostOps0]
  entry_read
  clean_types
  pointwise

theorem taps (k : Fin 4) (f : Fin 5632) : (V m c main_v1 : Vec Ideal S4x5632 .f32) (ix2 k f)
    = Cert.FfnReferenceIdeal.Conv.tapsOf (m (c, Proc.devRef .tc main_arg5) : Vec Ideal S3x5632 .f32) (m (c, Proc.devRef .tc main_arg6) : Vec Ideal S5632 .f32) k f := by
  simp only [V, hostOps0]
  entry_read
  unfold Cert.FfnReferenceIdeal.Conv.tapsOf
  clean_types
  pointwise

theorem layer_same (b : Fin 16) : layerAt m c b = Cert.FfnReferenceIdeal.Conv.layerOf (m (c, Proc.devRef .tc main_arg0)) (m (c, Proc.devRef .tc main_arg1))
    (m (c, Proc.devRef .tc main_arg2)) (m (c, Proc.devRef .tc main_arg3)) (m (c, Proc.devRef .tc main_arg4)) (m (c, Proc.devRef .tc main_arg5))
    (m (c, Proc.devRef .tc main_arg6)) (m (c, Proc.devRef .tc main_arg7)) b := by
  unfold layerAt Cert.FfnReferenceIdeal.Conv.layerOf
  rw [V_main_arg0, V_main_arg1]
  rw [Layer.mk.injEq]
  exact ⟨rfl, rfl, funext (gain1 m c), funext (gain2 m c), funext fun d => funext (upW m c d), funext fun k => funext (taps m c k),
    funext fun f => funext (dnW m c f)⟩

/-- The call's array is the reference's function of the arguments. -/
theorem ffn_same : ffnArr m c = Cert.FfnReferenceIdeal.Conv.ffnV (m (c, Proc.devRef .tc main_arg0)) (m (c, Proc.devRef .tc main_arg1))
    (m (c, Proc.devRef .tc main_arg2)) (m (c, Proc.devRef .tc main_arg3)) (m (c, Proc.devRef .tc main_arg4)) (m (c, Proc.devRef .tc main_arg5))
    (m (c, Proc.devRef .tc main_arg6)) (m (c, Proc.devRef .tc main_arg7)) := by
  funext y
  idx_vars y
  refine Eq.trans ?_ (Cert.FfnReferenceIdeal.Conv.ffn_apply _ _ _ _ _ _ _ _ _ _ _).symm
  rw [← layer_same]
  rfl

end Cert.FfnIdeal.Conv
-- ==== Proof.InTiles.lean ====
module

public import proofs.«01_k».proof.Proof.FfnRows
public import proofs.«01_k».proof.Proof.Gen.InIdeal.Skeleton
public import Idealize.ShloMosaic.Lib.WholeRead
public import Idealize.ShloMosaic.Lib.Pipeline.ValueKit
public import Idealize.ShloMosaic.Lib.Pointwise
public import Idealize.ShloMosaic.Lib.Tactic.CleanTypes

/-! One run of the input projection: four tiles of 32 positions of all 16 batches, each normalized, modulated and multiplied by the
weight; the columns from 384 on are written to the four output blocks f, q, k, v. -/

@[expose] public section

set_option maxRecDepth 16384

noncomputable section

namespace Cert.InIdeal.Proj

open Cert.InIdeal Cert.InIdeal.Gen Idealize.ShloMosaic Idealize.ShloMosaic.TcCoe Idealize.SL.Sem
open Cert.FfnIdeal.Conv (rms)

/-- The normalized row, scaled and shifted by the modulation's rows 1 and 0. -/
def hOf (x g : Fin 1024 → EReal) (m : Fin 6 → Fin 1024 → EReal) (d : Fin 1024) : EReal :=
  rms x g d * (Ideal.ofBits .f32 0x3F800000#32 + m 1 d) + m 0 d

/-- A column of the projected row. -/
def zOf (x g : Fin 1024 → EReal) (m : Fin 6 → Fin 1024 → EReal) (w : Fin 1024 → Fin 1280 → EReal) (f : Fin 1280) : EReal :=
  ∑ d : Fin 1024, hOf x g m d * w d f

/-- The row of a tile's 512 that holds position `r` of batch `b`. -/
abbrev at32 (b : Fin 16) (r : Fin 32) : Fin 512 := ⟨b.val * 32 + r.val, by omega⟩

theorem tile_b (b : Fin 16) (r : Fin 32) (h : (b.val * 32 + r.val) / 32 < 16) : (⟨(b.val * 32 + r.val) / 32, h⟩ : Fin 16) = b :=
  Fin.ext (by show (b.val * 32 + r.val) / 32 = b.val; omega)

theorem tile_r (b : Fin 16) (r : Fin 32) (h : (b.val * 32 + r.val) % 32 < 32) : (⟨(b.val * 32 + r.val) % 32, h⟩ : Fin 32) = r :=
  Fin.ext (by show (b.val * 32 + r.val) % 32 = r.val; omega)

section
variable (mo : Vec Ideal S16x6x1024 .f32) (x : Vec Ideal S16x32x1024 .f32) (g : Vec Ideal S1x1024 .f32) (w : Vec Ideal S1024x1280 .bf16)
variable (b : Fin 16) (r : Fin 32)

theorem h0_apply (d : Fin 1024) : k0_pay4 mo x g (ix2 (at32 b r) d)
    = hOf (fun e => x (ix3 b r e)) (fun e => g (ix2 0 e)) (fun k e => mo (ix3 b k e)) d := by
  unfold k0_pay4 hOf rms; clean_types; pointwise; simp only [tile_b, tile_r]

theorem h1_apply (d : Fin 1024) : k0_pay7 mo x (k0_pay5 g) (k0_pay6 x) (ix2 (at32 b r) d)
    = hOf (fun e => x (ix3 b r e)) (fun e => g (ix2 0 e)) (fun k e => mo (ix3 b k e)) d := by
  unfold k0_pay7 k0_pay5 k0_pay6 hOf rms; clean_types; pointwise; simp only [tile_b, tile_r]

theorem h2_apply (d : Fin 1024) : k0_pay8 mo x g (ix2 (at32 b r) d)
    = hOf (fun e => x (ix3 b r e)) (fun e => g (ix2 0 e)) (fun k e => mo (ix3 b k e)) d := by
  unfold k0_pay8 hOf rms; clean_types; pointwise; simp only [tile_b, tile_r]

theorem z0_apply (f : Fin 1280) : k0_pay11 (k0_pay4 mo x g) w (ix2 (at32 b r) f)
    = zOf (fun e => x (ix3 b r e)) (fun e => g (ix2 0 e)) (fun k e => mo (ix3 b k e)) (fun d f => w (ix2 d f)) f := by
  unfold zOf
  simp only [← h0_apply]
  generalize k0_pay4 mo x g = h
  unfold k0_pay11; clean_types; pointwise

theorem z1_apply (f : Fin 1280) : k0_pay12 (k0_pay7 mo x (k0_pay5 g) (k0_pay6 x)) w (ix2 (at32 b r) f)
    = zOf (fun e => x (ix3 b r e)) (fun e => g (ix2 0 e)) (fun k e => mo (ix3 b k e)) (fun d f => w (ix2 d f)) f := by
  unfold zOf
  simp only [← h1_apply]
  generalize k0_pay7 mo x (k0_pay5 g) (k0_pay6 x) = h
  unfold k0_pay12; clean_types; pointwise

theorem z2_apply (f : Fin 1280) : k0_pay13 (k0_pay8 mo x g) w (ix2 (at32 b r) f)
    = zOf (fun e => x (ix3 b r e)) (fun e => g (ix2 0 e)) (fun k e => mo (ix3 b k e)) (fun d f => w (ix2 d f)) f := by
  unfold zOf
  simp only [← h2_apply]
  generalize k0_pay8 mo x g = h
  unfold k0_pay13; clean_types; pointwise

theorem z3_apply (f : Fin 1280) : k0_pay14 mo x (k0_pay9 g) (k0_pay10 x) w (ix2 (at32 b r) f)
    = zOf (fun e => x (ix3 b r e)) (fun e => g (ix2 0 e)) (fun k e => mo (ix3 b k e)) (fun d f => w (ix2 d f)) f := by
  unfold k0_pay14 k0_pay9 k0_pay10 zOf hOf rms; clean_types; pointwise; simp only [tile_b, tile_r]
end

section
variable (z : FVec Ideal S512x1280 .f32) (b : Fin 16) (r : Fin 32)

theorem f0_apply (h : FVec Ideal S512x1024 .bf16) (w : Vec Ideal S1024x1280 .bf16) (f : Fin 256) :
    k0_pay15 h w (ix3 b r f) = k0_pay11 h w (ix2 (at32 b r) ⟨384 + f.val, by omega⟩) := by
  unfold k0_pay15; generalize k0_pay11 h w = z; clean_types; pointwise
theorem f1_apply (f : Fin 256) : k0_pay72 z (ix3 b r f) = z (ix2 (at32 b r) ⟨384 + f.val, by omega⟩) := by
  unfold k0_pay72; clean_types; pointwise
theorem f2_apply (f : Fin 256) : k0_pay131 z (ix3 b r f) = z (ix2 (at32 b r) ⟨384 + f.val, by omega⟩) := by
  unfold k0_pay131; clean_types; pointwise
theorem f3_apply (f : Fin 256) : k0_pay190 z (ix3 b r f) = z (ix2 (at32 b r) ⟨384 + f.val, by omega⟩) := by
  unfold k0_pay190; clean_types; pointwise

theorem q0_apply (h : FVec Ideal S512x1024 .bf16) (w : Vec Ideal S1024x1280 .bf16) (f : Fin 384) :
    k0_pay18 (k0_pay16 h w) k0_pay17 (ix3 b r f) = (k0_pay11 h w (ix2 (at32 b r) ⟨640 + f.val, by omega⟩) * Ideal.ofBits .f32 0x3E000000#32 : EReal) := by
  unfold k0_pay18 k0_pay17 k0_pay16; generalize k0_pay11 h w = z; clean_types; pointwise
theorem q1_apply (f : Fin 384) : k0_pay74 (k0_pay73 z) (ix3 b r f) = (z (ix2 (at32 b r) ⟨640 + f.val, by omega⟩) * Ideal.ofBits .f32 0x3E000000#32 : EReal) := by
  unfold k0_pay74 k0_pay73; clean_types; pointwise
theorem q2_apply (f : Fin 384) : k0_pay133 (k0_pay132 z) (ix3 b r f) = (z (ix2 (at32 b r) ⟨640 + f.val, by omega⟩) * Ideal.ofBits .f32 0x3E000000#32 : EReal) := by
  unfold k0_pay133 k0_pay132; clean_types; pointwise
theorem q3_apply (f : Fin 384) : k0_pay191 z (ix3 b r f) = (z (ix2 (at32 b r) ⟨640 + f.val, by omega⟩) * Ideal.ofBits .f32 0x3E000000#32 : EReal) := by
  unfold k0_pay191; clean_types; pointwise

theorem k0_apply (f : Fin 128) : k0_pay19 z (ix3 b r f) = z (ix2 (at32 b r) ⟨1024 + f.val, by omega⟩) := by
  unfold k0_pay19; clean_types; pointwise
theorem k1_apply (f : Fin 128) : k0_pay75 z (ix3 b r f) = z (ix2 (at32 b r) ⟨1024 + f.val, by omega⟩) := by
  unfold k0_pay75; clean_types; pointwise
theorem k2_apply (f : Fin 128) : k0_pay134 z (ix3 b r f) = z (ix2 (at32 b r) ⟨1024 + f.val, by omega⟩) := by
  unfold k0_pay134; clean_types; pointwise
theorem k3_apply (f : Fin 128) : k0_pay192 z (ix3 b r f) = z (ix2 (at32 b r) ⟨1024 + f.val, by omega⟩) := by
  unfold k0_pay192; clean_types; pointwise

theorem v0_apply (f : Fin 128) : k0_pay20 z (ix3 b r f) = z (ix2 (at32 b r) ⟨1152 + f.val, by omega⟩) := by
  unfold k0_pay20; clean_types; pointwise
theorem v1_apply (f : Fin 128) : k0_pay76 z (ix3 b r f) = z (ix2 (at32 b r) ⟨1152 + f.val, by omega⟩) := by
  unfold k0_pay76; clean_types; pointwise
theorem v2_apply (f : Fin 128) : k0_pay135 z (ix3 b r f) = z (ix2 (at32 b r) ⟨1152 + f.val, by omega⟩) := by
  unfold k0_pay135; clean_types; pointwise
theorem v3_apply (f : Fin 128) : k0_pay193 z (ix3 b r f) = z (ix2 (at32 b r) ⟨1152 + f.val, by omega⟩) := by
  unfold k0_pay193; clean_types; pointwise
end

end Cert.InIdeal.Proj
-- ==== Proof.InOut.lean ====
module

public import proofs.«01_k».proof.Proof.InTiles
public import proofs.«01_k».proof.Proof.Gen.InIdeal.Frame
public import Idealize.ShloMosaic.Lib.WholeRead
public import Idealize.ShloMosaic.Lib.Pipeline.ValueKit
public import Idealize.ShloMosaic.Lib.Pointwise

/-! The four blocks one run of the input projection writes, as functions of the windows' contents. -/

@[expose] public section

set_option maxRecDepth 16384

noncomputable section

namespace Cert.InIdeal.Proj

open Cert.InIdeal Cert.InIdeal.Gen Idealize.ShloMosaic Idealize.ShloMosaic.TcCoe Idealize.SL.Sem

/-- What one run is given: its grid point, its buffers, and what the windows hold. -/
structure Args where
  c : Dev nD
  i : grid0.Coords
  arg1 : Memref sig .tc .vmem S16x128x1024 .f32
  harg1 : arg1.IsWhole
  arg2 : Memref sig .tc .vmem S16x6x1024 .f32
  harg2 : arg2.IsWhole
  arg3 : Memref sig .tc .vmem S1x1024 .f32
  harg3 : arg3.IsWhole
  arg4 : Memref sig .tc .vmem S1024x1280 .bf16
  harg4 : arg4.IsWhole
  arg5 : Memref sig .tc .vmem S24x128x256 .bf16
  harg5 : arg5.IsWhole
  arg6 : Memref sig .tc .vmem S16x128x256 .bf16
  harg6 : arg6.IsWhole
  arg7 : Memref sig .tc .vmem S16x128x384 .bf16
  harg7 : arg7.IsWhole
  arg8 : Memref sig .tc .vmem S16x128x128 .bf16
  harg8 : arg8.IsWhole
  arg9 : Memref sig .tc .vmem S16x128x128 .bf16
  harg9 : arg9.IsWhole
  arg10 : Memref sig .tc .vmem S12x640x128 .f32
  harg10 : arg10.IsWhole
  x0 : Vec Ideal S16x128x1024 .f32
  x1 : Vec Ideal S16x6x1024 .f32
  x2 : Vec Ideal S1x1024 .f32
  x3 : Vec Ideal S1024x1280 .bf16

variable (A : Args)

/-! ## The loads -/

def ldMod : Vec Ideal S16x6x1024 .f32 :=
  View.readAt (Elt Ideal) A.arg2.view (Rect.unit (s := S16x6x1024) ![0, 0, 0] S16x6x1024.size (by decide)).toLoadRect (A.harg2.unread A.x1)
def ldG : Vec Ideal S1x1024 .f32 :=
  View.readAt (Elt Ideal) A.arg3.view (Rect.unit (s := S1x1024) ![0, 0] S1x1024.size (by decide)).toLoadRect (A.harg3.unread A.x2)
def ldW : Vec Ideal S1024x1280 .bf16 :=
  View.readAt (Elt Ideal) A.arg4.view (Rect.unit (s := S1024x1280) ![0, 0] S1024x1280.size (by decide)).toLoadRect (A.harg4.unread A.x3)
def ldX (o : ℕ) (h : ∀ a, (![0, o, 0] : Fin 3 → ℕ) a + S16x32x1024.size a ≤ S16x128x1024.size a) : Vec Ideal S16x32x1024 .f32 :=
  View.readAt (Elt Ideal) A.arg1.view (Rect.unit (s := S16x128x1024) ![0, o, 0] S16x32x1024.size h).toLoadRect (A.harg1.unread A.x0)

theorem ldMod_apply (b : Fin 16) (k : Fin 6) (e : Fin 1024) : ldMod A (ix3 b k e) = A.x1 (ix3 b k e) := by
  unfold ldMod
  rw [Memref.IsWhole.readAt_unread]
  refine congrArg A.x1 (funext fun a => ?_)
  fin_cases a <;> apply Fin.ext
  · show 0 + 1 * b.val = b.val; omega
  · show 0 + 1 * k.val = k.val; omega
  · show 0 + 1 * e.val = e.val; omega

theorem ldG_apply (e : Fin 1024) : ldG A (ix2 0 e) = A.x2 (ix2 0 e) := by
  unfold ldG
  rw [Memref.IsWhole.readAt_unread]
  refine congrArg A.x2 (funext fun a => ?_)
  fin_cases a <;> apply Fin.ext
  · rfl
  · show 0 + 1 * e.val = e.val; omega

theorem ldW_apply (d : Fin 1024) (f : Fin 1280) : ldW A (ix2 d f) = A.x3 (ix2 d f) := by
  unfold ldW
  rw [Memref.IsWhole.readAt_unread]
  refine congrArg A.x3 (funext fun a => ?_)
  fin_cases a <;> apply Fin.ext
  · show 0 + 1 * d.val = d.val; omega
  · show 0 + 1 * f.val = f.val; omega

theorem ldX_apply (o : ℕ) (h : ∀ a, (![0, o, 0] : Fin 3 → ℕ) a + S16x32x1024.size a ≤ S16x128x1024.size a) (b : Fin 16) (r : Fin 32) (e : Fin 1024)
    (R : Fin 128) (hR : R.val = o + r.val) : ldX A o h (ix3 b r e) = A.x0 (ix3 b R e) := by
  unfold ldX
  rw [Memref.IsWhole.readAt_unread]
  refine congrArg A.x0 (funext fun a => ?_)
  fin_cases a <;> apply Fin.ext
  · show 0 + 1 * b.val = b.val; omega
  · show o + 1 * r.val = R.val; omega
  · show 0 + 1 * e.val = e.val; omega

/-! ## The blocks -/

/-- Position `R` of batch `b`, projected. -/
def zX (b : Fin 16) (R : Fin 128) (f : Fin 1280) : EReal :=
  zOf (fun e => A.x0 (ix3 b R e)) (fun e => A.x2 (ix2 0 e)) (fun k e => A.x1 (ix3 b k e)) (fun d f => A.x3 (ix2 d f)) f

theorem z_ld (o : ℕ) (h : ∀ a, (![0, o, 0] : Fin 3 → ℕ) a + S16x32x1024.size a ≤ S16x128x1024.size a) (b : Fin 16) (r : Fin 32)
    (R : Fin 128) (hR : R.val = o + r.val) (f : Fin 1280) :
    zOf (fun e => ldX A o h (ix3 b r e)) (fun e => ldG A (ix2 0 e)) (fun k e => ldMod A (ix3 b k e)) (fun d f => ldW A (ix2 d f)) f = zX A b R f := by
  unfold zX
  rw [funext fun e => ldX_apply A o h b r e R hR, funext (ldG_apply A), show (fun k e => ldMod A (ix3 b k e)) = fun k e => A.x1 (ix3 b k e) from funext fun k => funext (ldMod_apply A b k),
    show (fun d f => ldW A (ix2 d f)) = fun d f => A.x3 (ix2 d f) from funext fun d => funext (ldW_apply A d)]

def fX : Vec Ideal S16x128x256 .bf16 := fun z => (zX A (z 0) (z 1) ⟨384 + (z 2).val, by have h : (z 2).val < 256 := (z 2).isLt; omega⟩ : EReal)
def qX : Vec Ideal S16x128x384 .bf16 := fun z =>
  (zX A (z 0) (z 1) ⟨640 + (z 2).val, by have h : (z 2).val < 384 := (z 2).isLt; omega⟩ * Ideal.ofBits .f32 0x3E000000#32 : EReal)
def kX : Vec Ideal S16x128x128 .bf16 := fun z => (zX A (z 0) (z 1) ⟨1024 + (z 2).val, by have h : (z 2).val < 128 := (z 2).isLt; omega⟩ : EReal)
def vX : Vec Ideal S16x128x128 .bf16 := fun z => (zX A (z 0) (z 1) ⟨1152 + (z 2).val, by have h : (z 2).val < 128 := (z 2).isLt; omega⟩ : EReal)

/-! ## The tiles -/

def h0 : FVec Ideal S512x1024 .bf16 := k0_pay4 (ldMod A) (ldX A 0 (by decide)) (ldG A)
def z0 : FVec Ideal S512x1280 .f32 := k0_pay11 (h0 A) (ldW A)
def z1 : FVec Ideal S512x1280 .f32 := k0_pay12 (k0_pay7 (ldMod A) (ldX A 32 (by decide)) (k0_pay5 (ldG A)) (k0_pay6 (ldX A 32 (by decide)))) (ldW A)
def z2 : FVec Ideal S512x1280 .f32 := k0_pay13 (k0_pay8 (ldMod A) (ldX A 64 (by decide)) (ldG A)) (ldW A)
def z3 : FVec Ideal S512x1280 .f32 := k0_pay14 (ldMod A) (ldX A 96 (by decide)) (k0_pay9 (ldG A)) (k0_pay10 (ldX A 96 (by decide))) (ldW A)

theorem z0_eq (b : Fin 16) (r : Fin 32) (R : Fin 128) (hR : R.val = 0 + r.val) (f : Fin 1280) : z0 A (ix2 (at32 b r) f) = zX A b R f :=
  (z0_apply _ _ _ _ b r f).trans (z_ld A 0 (by decide) b r R hR f)
theorem z1_eq (b : Fin 16) (r : Fin 32) (R : Fin 128) (hR : R.val = 32 + r.val) (f : Fin 1280) : z1 A (ix2 (at32 b r) f) = zX A b R f :=
  (z1_apply _ _ _ _ b r f).trans (z_ld A 32 (by decide) b r R hR f)
theorem z2_eq (b : Fin 16) (r : Fin 32) (R : Fin 128) (hR : R.val = 64 + r.val) (f : Fin 1280) : z2 A (ix2 (at32 b r) f) = zX A b R f :=
  (z2_apply _ _ _ _ b r f).trans (z_ld A 64 (by decide) b r R hR f)
theorem z3_eq (b : Fin 16) (r : Fin 32) (R : Fin 128) (hR : R.val = 96 + r.val) (f : Fin 1280) : z3 A (ix2 (at32 b r) f) = zX A b R f :=
  (z3_apply _ _ _ _ b r f).trans (z_ld A 96 (by decide) b r R hR f)

/-- A tile's piece is of the block's function when its entries are. -/
theorem piece_of (n : ℕ) (G : (⟨3, ![16, 128, n]⟩ : Shape).Idx → EReal) (o : ℕ) (ho : o + 32 ≤ 128)
    (h : ∀ a, (![0, o, 0] : Fin 3 → ℕ) a + (![16, 32, n] : Fin 3 → ℕ) a ≤ (⟨3, ![16, 128, n]⟩ : Shape).size a)
    (p : (⟨3, ![16, 32, n]⟩ : Shape).Idx → EReal) (hp : ∀ (b : Fin 16) (r : Fin 32) (f : Fin n), p (ix3 b r f) = G (ix3 b ⟨o + r.val, by omega⟩ f))
    (z : (⟨3, ![16, 32, n]⟩ : Shape).Idx) : p z = G ((Rect.unit (s := ⟨3, ![16, 128, n]⟩) ![0, o, 0] ![16, 32, n] h).emb z) := by
  obtain ⟨b, r, f, rfl⟩ : ∃ (b : Fin 16) (r : Fin 32) (f : Fin n), z = ix3 b r f := ⟨z 0, z 1, z 2, eq_ix3 z⟩
  rw [hp]
  refine congrArg G (funext fun a => ?_)
  fin_cases a <;> apply Fin.ext
  · show b.val = 0 + 1 * b.val; omega
  · show o + r.val = o + 1 * r.val; omega
  · show f.val = 0 + 1 * f.val; omega

def fL : List (View.Piece (Elt Ideal) S16x128x256 .bf16) :=
  [⟨Rect.unit (s := S16x128x256) ![0, 96, 0] S16x32x256.size (by decide), k0_pay190 (z3 A)⟩,
   ⟨Rect.unit (s := S16x128x256) ![0, 64, 0] S16x32x256.size (by decide), k0_pay131 (z2 A)⟩,
   ⟨Rect.unit (s := S16x128x256) ![0, 32, 0] S16x32x256.size (by decide), k0_pay72 (z1 A)⟩,
   ⟨Rect.unit (s := S16x128x256) ![0, 0, 0] S16x32x256.size (by decide), k0_pay15 (h0 A) (ldW A)⟩]

theorem fL_of : View.PiecesOf (fX A) (fL A) := by
  refine ⟨?_, ?_, ?_, ?_, trivial⟩
  · exact piece_of 256 (fX A) 96 (by decide) (by decide) _ fun b r f => (f3_apply (z3 A) b r f).trans (z3_eq A b r ⟨96 + r.val, by omega⟩ rfl _)
  · exact piece_of 256 (fX A) 64 (by decide) (by decide) _ fun b r f => (f2_apply (z2 A) b r f).trans (z2_eq A b r ⟨64 + r.val, by omega⟩ rfl _)
  · exact piece_of 256 (fX A) 32 (by decide) (by decide) _ fun b r f => (f1_apply (z1 A) b r f).trans (z1_eq A b r ⟨32 + r.val, by omega⟩ rfl _)
  · exact piece_of 256 (fX A) 0 (by decide) (by decide) _ fun b r f => (f0_apply b r (h0 A) (ldW A) f).trans (z0_eq A b r ⟨0 + r.val, by omega⟩ rfl _)

theorem f_eq : out0_A_5 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 = fX A := by
  have hl : (kernelRun0_A (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3).2.1 = fL A := rfl
  unfold out0_A_5
  rw [View.read_writes_junk_eq_canon, hl]
  funext y
  refine View.canon_append_of_piecesOf (fX A) [] (fL A) (fL_of A) y ?_
  rw [← hl]
  exact cover0_A_5 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 y

def qL : List (View.Piece (Elt Ideal) S16x128x384 .bf16) :=
  [⟨Rect.unit (s := S16x128x384) ![0, 96, 0] S16x32x384.size (by decide), k0_pay191 (z3 A)⟩,
   ⟨Rect.unit (s := S16x128x384) ![0, 64, 0] S16x32x384.size (by decide), k0_pay133 (k0_pay132 (z2 A))⟩,
   ⟨Rect.unit (s := S16x128x384) ![0, 32, 0] S16x32x384.size (by decide), k0_pay74 (k0_pay73 (z1 A))⟩,
   ⟨Rect.unit (s := S16x128x384) ![0, 0, 0] S16x32x384.size (by decide), k0_pay18 (k0_pay16 (h0 A) (ldW A)) k0_pay17⟩]

theorem qL_of : View.PiecesOf (qX A) (qL A) := by
  refine ⟨?_, ?_, ?_, ?_, trivial⟩
  · exact piece_of 384 (qX A) 96 (by decide) (by decide) _ fun b r f => (q3_apply (z3 A) b r f).trans (congrArg (fun w : EReal => w * Ideal.ofBits .f32 0x3E000000#32) (z3_eq A b r ⟨96 + r.val, by omega⟩ rfl _))
  · exact piece_of 384 (qX A) 64 (by decide) (by decide) _ fun b r f => (q2_apply (z2 A) b r f).trans (congrArg (fun w : EReal => w * Ideal.ofBits .f32 0x3E000000#32) (z2_eq A b r ⟨64 + r.val, by omega⟩ rfl _))
  · exact piece_of 384 (qX A) 32 (by decide) (by decide) _ fun b r f => (q1_apply (z1 A) b r f).trans (congrArg (fun w : EReal => w * Ideal.ofBits .f32 0x3E000000#32) (z1_eq A b r ⟨32 + r.val, by omega⟩ rfl _))
  · exact piece_of 384 (qX A) 0 (by decide) (by decide) _ fun b r f => (q0_apply b r (h0 A) (ldW A) f).trans (congrArg (fun w : EReal => w * Ideal.ofBits .f32 0x3E000000#32) (z0_eq A b r ⟨0 + r.val, by omega⟩ rfl _))

theorem q_eq : out0_A_6 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 = qX A := by
  have hl : (kernelRun0_A (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3).2.2.1 = qL A := rfl
  unfold out0_A_6
  rw [View.read_writes_junk_eq_canon, hl]
  funext y
  refine View.canon_append_of_piecesOf (qX A) [] (qL A) (qL_of A) y ?_
  rw [← hl]
  exact cover0_A_6 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 y

def kL : List (View.Piece (Elt Ideal) S16x128x128 .bf16) :=
  [⟨Rect.unit (s := S16x128x128) ![0, 96, 0] S16x32x128.size (by decide), k0_pay192 (z3 A)⟩,
   ⟨Rect.unit (s := S16x128x128) ![0, 64, 0] S16x32x128.size (by decide), k0_pay134 (z2 A)⟩,
   ⟨Rect.unit (s := S16x128x128) ![0, 32, 0] S16x32x128.size (by decide), k0_pay75 (z1 A)⟩,
   ⟨Rect.unit (s := S16x128x128) ![0, 0, 0] S16x32x128.size (by decide), k0_pay19 (z0 A)⟩]

theorem kL_of : View.PiecesOf (kX A) (kL A) := by
  refine ⟨?_, ?_, ?_, ?_, trivial⟩
  · exact piece_of 128 (kX A) 96 (by decide) (by decide) _ fun b r f => (k3_apply (z3 A) b r f).trans (z3_eq A b r ⟨96 + r.val, by omega⟩ rfl _)
  · exact piece_of 128 (kX A) 64 (by decide) (by decide) _ fun b r f => (k2_apply (z2 A) b r f).trans (z2_eq A b r ⟨64 + r.val, by omega⟩ rfl _)
  · exact piece_of 128 (kX A) 32 (by decide) (by decide) _ fun b r f => (k1_apply (z1 A) b r f).trans (z1_eq A b r ⟨32 + r.val, by omega⟩ rfl _)
  · exact piece_of 128 (kX A) 0 (by decide) (by decide) _ fun b r f => (k0_apply (z0 A) b r f).trans (z0_eq A b r ⟨0 + r.val, by omega⟩ rfl _)

theorem k_eq : out0_A_7 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 = kX A := by
  have hl : (kernelRun0_A (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3).2.2.2.1 = kL A := rfl
  unfold out0_A_7
  rw [View.read_writes_junk_eq_canon, hl]
  funext y
  refine View.canon_append_of_piecesOf (kX A) [] (kL A) (kL_of A) y ?_
  rw [← hl]
  exact cover0_A_7 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 y

def vL : List (View.Piece (Elt Ideal) S16x128x128 .bf16) :=
  [⟨Rect.unit (s := S16x128x128) ![0, 96, 0] S16x32x128.size (by decide), k0_pay193 (z3 A)⟩,
   ⟨Rect.unit (s := S16x128x128) ![0, 64, 0] S16x32x128.size (by decide), k0_pay135 (z2 A)⟩,
   ⟨Rect.unit (s := S16x128x128) ![0, 32, 0] S16x32x128.size (by decide), k0_pay76 (z1 A)⟩,
   ⟨Rect.unit (s := S16x128x128) ![0, 0, 0] S16x32x128.size (by decide), k0_pay20 (z0 A)⟩]

theorem vL_of : View.PiecesOf (vX A) (vL A) := by
  refine ⟨?_, ?_, ?_, ?_, trivial⟩
  · exact piece_of 128 (vX A) 96 (by decide) (by decide) _ fun b r f => (v3_apply (z3 A) b r f).trans (z3_eq A b r ⟨96 + r.val, by omega⟩ rfl _)
  · exact piece_of 128 (vX A) 64 (by decide) (by decide) _ fun b r f => (v2_apply (z2 A) b r f).trans (z2_eq A b r ⟨64 + r.val, by omega⟩ rfl _)
  · exact piece_of 128 (vX A) 32 (by decide) (by decide) _ fun b r f => (v1_apply (z1 A) b r f).trans (z1_eq A b r ⟨32 + r.val, by omega⟩ rfl _)
  · exact piece_of 128 (vX A) 0 (by decide) (by decide) _ fun b r f => (v0_apply (z0 A) b r f).trans (z0_eq A b r ⟨0 + r.val, by omega⟩ rfl _)

theorem v_eq : out0_A_8 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 = vX A := by
  have hl : (kernelRun0_A (F := Ideal) A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3).2.2.2.2.1 = vL A := rfl
  unfold out0_A_8
  rw [View.read_writes_junk_eq_canon, hl]
  funext y
  refine View.canon_append_of_piecesOf (vX A) [] (vL A) (vL_of A) y ?_
  rw [← hl]
  exact cover0_A_8 A.c A.i A.arg1 A.harg1 A.arg2 A.harg2 A.arg3 A.harg3 A.arg4 A.harg4 A.arg5 A.harg5 A.arg6 A.harg6 A.arg7 A.harg7 A.arg8 A.harg8 A.arg9 A.harg9 A.arg10 A.harg10 A.x0 A.x1 A.x2 A.x3 y

end Cert.InIdeal.Proj
-- ==== Proof.InRef.lean ====
module

public import proofs.«01_k».proof.Proof.InTiles
public import proofs.«01_k».proof.Proof.Gen.InReferenceIdeal.Run
public import Idealize.ShloMosaic.Lib.Pipeline.ValueKit
public import Idealize.ShloMosaic.Lib.Pointwise
public import Idealize.ShloMosaic.Lib.Tactic.CleanTypes

/-! The reference's input projection, read entry by entry. -/

@[expose] public section

set_option maxRecDepth 16384

noncomputable section

namespace Cert.InReferenceIdeal.Proj

open Cert.InReferenceIdeal Cert.InReferenceIdeal.Gen Idealize.ShloMosaic Idealize.ShloMosaic.TcCoe Idealize.SL.Sem
open Cert.FfnIdeal.Conv (rms)
open Cert.InIdeal.Proj (hOf zOf)

/-- The sums of squares of the rows. -/
def sqV (x : FVec Ideal S16x2048x1024 .f32) : FVec Ideal S16x2048 .f32 :=
  Host.reduceAdd (mulf x x) (constant S_ .f32 0x00000000#32) reducesTo_S16x2048x1024_S16x2048_d2 h_S_

/-- The norm of the rows. -/
def rmsV (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (sqV x)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The modulated rows. -/
def hV (r : FVec Ideal S16x2048x1024 .f32) (mo : FVec Ideal S16x6x1024 .f32) : FVec Ideal S16x2048x1024 .f32 :=
  addf (mulf r (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 1, 0] mo slices_S16x6x1024_S16x1x1024_0_1_0))))
    (broadcastInDim S16x2048x1024 ![0, 1, 2] bcast_S16x1x1024_S16x2048x1024_0_1_2 (extractStridedSlice S16x1x1024 ![0, 0, 0] mo slices_S16x6x1024_S16x1x1024_0_0_0))

/-- The product with the weight. -/
def mmV (h : FVec Ideal S16x2048x1024 .f32) (w : FVec Ideal S1024x1280 .f32) : FVec Ideal S16x2048x1280 .f32 :=
  Host.dotGeneral dot_S16x2048x1024_S1024x1280_S16x2048x1280_2_0_01_1_n_n none h w

/-- The projection. -/
def zV (x : FVec Ideal S16x2048x1024 .f32) (mo : FVec Ideal S16x6x1024 .f32) (g : FVec Ideal S1024 .f32) (w : FVec Ideal S1024x1280 .f32) :
    FVec Ideal S16x2048x1280 .f32 := mmV (hV (rmsV x g) mo) w

/-! ## The groups' entries -/

theorem row_fiber (b : Fin 16) (p : Fin 2048) (i : S16x2048x1024.Idx) :
    (reducesTo_S16x2048x1024_S16x2048_d2).drop i = (ix2 b p : S16x2048.Idx) ↔ ∃ k : Fin 1024, ix3 b p k = i := by
  constructor
  · intro q
    refine ⟨i 2, ?_⟩
    funext x; apply Fin.ext
    match x with
    | ⟨0, _⟩ => exact (congrArg Fin.val (congrFun q 0)).symm
    | ⟨1, _⟩ => exact (congrArg Fin.val (congrFun q 1)).symm
    | ⟨2, _⟩ => rfl
  · rintro ⟨k, rfl⟩
    funext x
    apply Fin.ext
    match x with
    | ⟨0, _⟩ => rfl
    | ⟨1, _⟩ => rfl

theorem row_sum (v : S16x2048x1024.Idx → EReal) (init : EReal) (b : Fin 16) (p : Fin 2048) :
    Ideal.hostReduceAdd reducesTo_S16x2048x1024_S16x2048_d2 v init (ix2 b p) = init + ∑ k : Fin 1024, v (ix3 b p k) :=
  congrArg (init + ·) (Finset.sum_filter_eq_sum_of_fiber _ (fun k : Fin 1024 => ix3 b p k)
    (fun _ _ q => congrFun q 2) (row_fiber b p) v)

theorem sq_apply (x : FVec Ideal S16x2048x1024 .f32) (b : Fin 16) (p : Fin 2048) :
    sqV x (ix2 b p) = ∑ e : Fin 1024, (x (ix3 b p e) * x (ix3 b p e) : EReal) := by
  show Ideal.hostReduceAdd reducesTo_S16x2048x1024_S16x2048_d2 (fun i => (x i * x i : EReal)) (Ideal.ofBits .f32 0x00000000#32) (ix2 b p) = _
  rw [row_sum, Ideal.ofBits_zero_f32, zero_add]

theorem rms_apply (x : FVec Ideal S16x2048x1024 .f32) (g : FVec Ideal S1024 .f32) (b : Fin 16) (p : Fin 2048) (d : Fin 1024) :
    rmsV x g (ix3 b p d) = rms (fun e => x (ix3 b p e)) (fun e => g (ix1 e)) d := by
  have h := sq_apply x b p
  unfold rmsV rms
  generalize sqV x = s at h ⊢
  dsimp only
  rw [← h]
  clean_types
  pointwise

theorem h_apply (r : FVec Ideal S16x2048x1024 .f32) (mo : FVec Ideal S16x6x1024 .f32) (b : Fin 16) (p : Fin 2048) (d : Fin 1024) :
    hV r mo (ix3 b p d) = (r (ix3 b p d) * (Ideal.ofBits .f32 0x3F800000#32 + mo (ix3 b 1 d)) + mo (ix3 b 0 d) : EReal) := by
  unfold hV
  clean_types
  pointwise

theorem mm_apply (h : FVec Ideal S16x2048x1024 .f32) (w : FVec Ideal S1024x1280 .f32) (b : Fin 16) (p : Fin 2048) (f : Fin 1280) :
    mmV h w (ix3 b p f) = ∑ d : Fin 1024, (h (ix3 b p d) * w (ix2 d f) : EReal) := by
  unfold mmV
  clean_types
  pointwise

variable (x : FVec Ideal S16x2048x1024 .f32) (mo : FVec Ideal S16x6x1024 .f32) (g : FVec Ideal S1024 .f32) (w : FVec Ideal S1024x1280 .f32)

theorem z_apply (b : Fin 16) (p : Fin 2048) (f : Fin 1280) :
    zV x mo g w (ix3 b p f) = zOf (fun e => x (ix3 b p e)) (fun e => g (ix1 e)) (fun k e => mo (ix3 b k e)) (fun d f => w (ix2 d f)) f := by
  unfold zV
  rw [mm_apply]
  unfold zOf hOf
  exact Finset.sum_congr rfl fun d _ => by rw [h_apply, rms_apply]

/-! ## The four results -/

def fV (z : FVec Ideal S16x2048x1280 .f32) : FVec Ideal S16x2048x256 .bf16 :=
  truncf .bf16 (extractStridedSlice S16x2048x256 ![0, 0, 384] z slices_S16x2048x1280_S16x2048x256_0_0_384) bitsLt_bf16_f32
def qV (z : FVec Ideal S16x2048x1280 .f32) : FVec Ideal S16x2048x384 .bf16 :=
  truncf .bf16 (mulf (extractStridedSlice S16x2048x384 ![0, 0, 640] z slices_S16x2048x1280_S16x2048x384_0_0_640) (broadcastInDim S16x2048x384 ![] bcast_S_S16x2048x384 (constant S_ .f32 0x3E000000#32))) bitsLt_bf16_f32
def kV (z : FVec Ideal S16x2048x1280 .f32) : FVec Ideal S16x2048x128 .bf16 :=
  truncf .bf16 (extractStridedSlice S16x2048x128 ![0, 0, 1024] z slices_S16x2048x1280_S16x2048x128_0_0_1024) bitsLt_bf16_f32
def vV (z : FVec Ideal S16x2048x1280 .f32) : FVec Ideal S16x2048x128 .bf16 :=
  truncf .bf16 (extractStridedSlice S16x2048x128 ![0, 0, 1152] z slices_S16x2048x1280_S16x2048x128_0_0_1152) bitsLt_bf16_f32

variable (z : FVec Ideal S16x2048x1280 .f32)

theorem f_apply (b : Fin 16) (p : Fin 2048) (f : Fin 256) : fV z (ix3 b p f) = z (ix3 b p ⟨384 + f.val, by omega⟩) := by
  unfold fV
  clean_types
  pointwise

theorem q_apply (b : Fin 16) (p : Fin 2048) (f : Fin 384) : qV z (ix3 b p f) = (z (ix3 b p ⟨640 + f.val, by omega⟩) * Ideal.ofBits .f32 0x3E000000#32 : EReal) := by
  unfold qV
  clean_types
  pointwise

theorem k_apply (b : Fin 16) (p : Fin 2048) (f : Fin 128) : kV z (ix3 b p f) = z (ix3 b p ⟨1024 + f.val, by omega⟩) := by
  unfold kV
  clean_types
  pointwise

theorem v_apply (b : Fin 16) (p : Fin 2048) (f : Fin 128) : vV z (ix3 b p f) = z (ix3 b p ⟨1152 + f.val, by omega⟩) := by
  unfold vV
  clean_types
  pointwise

/-! ## The reference's run -/

/-- The reference runs and leaves those functions of its arguments, which it keeps. -/
theorem run_in (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = fV (zV (m (c, Proc.devRef .tc main_arg0)) (m (c, Proc.devRef .tc main_arg1)) (m (c, Proc.devRef .tc main_arg2)) (m (c, Proc.devRef .tc main_arg3)))
      ∧ r.2.mem ((c.tc : Thread nD τ).loc main_v30) = qV (zV (m (c, Proc.devRef .tc main_arg0)) (m (c, Proc.devRef .tc main_arg1)) (m (c, Proc.devRef .tc main_arg2)) (m (c, Proc.devRef .tc main_arg3)))
      ∧ r.2.mem ((c.tc : Thread nD τ).loc main_v31) = kV (zV (m (c, Proc.devRef .tc main_arg0)) (m (c, Proc.devRef .tc main_arg1)) (m (c, Proc.devRef .tc main_arg2)) (m (c, Proc.devRef .tc main_arg3)))
      ∧ r.2.mem ((c.tc : Thread nD τ).loc main_v32) = vV (zV (m (c, Proc.devRef .tc main_arg0)) (m (c, Proc.devRef .tc main_arg1)) (m (c, Proc.devRef .tc main_arg2)) (m (c, Proc.devRef .tc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ⟨(h c).1.trans ?_, (h c).2.1.trans ?_, (h c).2.2.1.trans ?_, (h c).2.2.2.1.trans ?_, (h c).2.2.2.2⟩)
    (Cert.InReferenceIdeal.Value.run (F := Ideal) m ρ)
  · unfold fV zV mmV hV rmsV sqV; rfl
  · unfold qV zV mmV hV rmsV sqV; rfl
  · unfold kV zV mmV hV rmsV sqV; rfl
  · unfold vV zV mmV hV rmsV sqV; rfl

end Cert.InReferenceIdeal.Proj
-- ==== Proof.InArr.lean ====
module

public import proofs.«01_k».proof.Proof.InOut
public import proofs.«01_k».proof.Proof.InRef
public import proofs.«01_k».proof.Proof.Gen.InIdeal.Value
public import Idealize.ShloMosaic.Lib.Pipeline.ValueKit
public import Idealize.ShloMosaic.Lib.Pointwise
public import Idealize.ShloMosaic.Lib.Tactic.CleanTypes

/-! The four arrays the input projection leaves, as the reference's functions of the arguments. Grid point `t` writes positions
`128 t … 128 t + 127` of all batches. -/

@[expose] public section

set_option maxRecDepth 16384

noncomputable section

namespace Cert.InIdeal.Proj

open Cert.InIdeal Cert.InIdeal.Gen Idealize.ShloMosaic Idealize.ShloMosaic.TcCoe Idealize.SL.Sem
open Idealize.ShloMosaic.Pipeline (Dat)
open Cert.InReferenceIdeal.Proj (zV fV qV kV vV z_apply f_apply q_apply k_apply v_apply)

variable (m : (ℓ : Loc nD τ sig) → Buf (Elt Ideal) ℓ) (c : Dev nD)

/-! ## The operands the host prepares -/

theorem gain (e : Fin 1024) : (V m c main_v0 : Vec Ideal S1x1024 .f32) (ix2 0 e) = (m (c, Proc.devRef .tc main_arg2) : Vec Ideal S1024 .f32) (ix1 e) := by
  simp only [V, hostOps0]
  entry_read
  clean_types
  pointwise

theorem wgt (d : Fin 1024) (f : Fin 1280) :
    (V m c main_v1 : Vec Ideal S1024x1280 .bf16) (ix2 d f) = (m (c, Proc.devRef .tc main_arg3) : Vec Ideal S1024x1280 .f32) (ix2 d f) := by
  simp only [V, hostOps0]
  entry_read
  clean_types
  pointwise

/-! ## One grid point -/

/-- What the run of grid point `t` reads. -/
def argsAt (t : Fin cfg0.N) : Args :=
  { c := c, i := grid0.coords t,
    arg1 := ms0_0 t, harg1 := hs0_0 t,
    arg2 := ms0_1 t, harg2 := hs0_1 t,
    arg3 := ms0_2 t, harg3 := hs0_2 t,
    arg4 := ms0_3 t, harg4 := hs0_3 t,
    arg5 := ms0_4 t, harg5 := hs0_4 t,
    arg6 := ms0_5 t, harg6 := hs0_5 t,
    arg7 := ms0_6 t, harg7 := hs0_6 t,
    arg8 := ms0_7 t, harg8 := hs0_7 t,
    arg9 := ms0_8 t, harg9 := hs0_8 t,
    arg10 := scM0_0, harg10 := Memref.isWhole_whole _,
    x0 := iblk m c 0 t,
    x1 := iblk m c 1 t,
    x2 := iblk m c 2 t,
    x3 := iblk m c 3 t }

theorem idx : ∀ t : Fin cfg0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0)
    ∧ (win0_8.index t 0 = 0 ∧ win0_8.index t 1 = t.val ∧ win0_8.index t 2 = 0) := by decide +kernel

/-- The place in the sequence of row `r` of a grid point's block. -/
abbrev seqOf (t : Fin cfg0.N) (r : Fin 128) : Fin 2048 := ⟨t.val * 128 + r.val, by have h : t.val < 16 := t.isLt; omega⟩

theorem b0 (t : Fin cfg0.N) (b : Fin 16) (r : Fin 128) (e : Fin 1024) :
    (argsAt m c t).x0 (ix3 b r e) = (m (c, Proc.devRef .tc main_arg0) : Vec Ideal S16x2048x1024 .f32) (ix3 b (seqOf t r) e) := by
  refine Eq.trans ?_ (congrFun (V_main_arg0 m c) _)
  show iblk m c 0 t (ix3 b r e) = _
  blk_simp [iblk]
  exact congrArg (V m c main_arg0 : Vec Ideal S16x2048x1024 .f32) (by blk_ext [idx t])

theorem b1 (t : Fin cfg0.N) (b : Fin 16) (k : Fin 6) (e : Fin 1024) :
    (argsAt m c t).x1 (ix3 b k e) = (m (c, Proc.devRef .tc main_arg1) : Vec Ideal S16x6x1024 .f32) (ix3 b k e) := by
  refine Eq.trans ?_ (congrFun (V_main_arg1 m c) _)
  show iblk m c 1 t (ix3 b k e) = _
  blk_simp [iblk]
  exact congrArg (V m c main_arg1 : Vec Ideal S16x6x1024 .f32) (by blk_ext [idx t])

theorem b2 (t : Fin cfg0.N) (e : Fin 1024) :
    (argsAt m c t).x2 (ix2 0 e) = (m (c, Proc.devRef .tc main_arg2) : Vec Ideal S1024 .f32) (ix1 e) := by
  refine Eq.trans ?_ (gain m c e)
  show iblk m c 2 t (ix2 0 e) = _
  blk_simp [iblk]
  exact congrArg (V m c main_v0 : Vec Ideal S1x1024 .f32) (by blk_ext [idx t])

theorem b3 (t : Fin cfg0.N) (d : Fin 1024) (f : Fin 1280) :
    (argsAt m c t).x3 (ix2 d f) = (m (c, Proc.devRef .tc main_arg3) : Vec Ideal S1024x1280 .f32) (ix2 d f) := by
  refine Eq.trans ?_ (wgt m c d f)
  show iblk m c 3 t (ix2 d f) = _
  blk_simp [iblk]
  exact congrArg (V m c main_v1 : Vec Ideal S1024x1280 .bf16) (by blk_ext [idx t])

/-- The reference's projection of the arguments. -/
abbrev zM : FVec Ideal Cert.InReferenceIdeal.S16x2048x1280 .f32 :=
  zV (m (c, Proc.devRef .tc main_arg0)) (m (c, Proc.devRef .tc main_arg1)) (m (c, Proc.devRef .tc main_arg2)) (m (c, Proc.devRef .tc main_arg3))

theorem z_place (t : Fin cfg0.N) (b : Fin 16) (r : Fin 128) (f : Fin 1280) : zX (argsAt m c t) b r f = zM m c (ix3 b (seqOf t r) f) := by
  refine Eq.trans ?_ (z_apply _ _ _ _ _ _ _).symm
  unfold zX
  rw [funext (b0 m c t b r), funext (b2 m c t), show (fun k e => (argsAt m c t).x1 (ix3 b k e)) = _ from funext fun k => funext (b1 m c t b k),
    show (fun d f => (argsAt m c t).x3 (ix2 d f)) = _ from funext fun d => funext (b3 m c t d)]

/-! ## The arrays -/

/-- An index of an array, from its place in the block of grid point `t`. -/
theorem at_place (n : ℕ) (t : Fin cfg0.N) (e : (⟨3, ![16, 2048, n]⟩ : Shape).Idx) (y : (⟨3, ![16, 128, n]⟩ : Shape).Idx) (h0 : (e 0).val = (y 0).val)
    (h1 : (e 1).val = t.val * 128 + (y 1).val) (h2 : (e 2).val = (y 2).val) : e = ix3 (y 0) (seqOf t (y 1)) (y 2) := by
  funext a; match a with | ⟨0, _⟩ => exact Fin.ext h0 | ⟨1, _⟩ => exact Fin.ext h1 | ⟨2, _⟩ => exact Fin.ext h2

theorem f_at (t : Fin cfg0.N) (b : Fin 16) (r : Fin 128) (f : Fin 256) :
    fX (argsAt m c t) (ix3 b r f) = fV (zM m c) (ix3 b (seqOf t r) f) :=
  Eq.trans (z_place m c t b r ⟨384 + f.val, by omega⟩) (f_apply (zM m c) b (seqOf t r) f).symm

theorem f_place (t : Fin cfg0.N) (e : S16x2048x256.Idx) (y : S16x128x256.Idx) (h0 : (e 0).val = (y 0).val)
    (h1 : (e 1).val = t.val * 128 + (y 1).val) (h2 : (e 2).val = (y 2).val) : fX (argsAt m c t) y = fV (zM m c) e := by
  have he : e = ix3 (y 0) (seqOf t (y 1)) (y 2) := at_place 256 t e y h0 h1 h2
  have hy : y = ix3 (y 0) (y 1) (y 2) := eq_ix3 y
  subst he
  exact (congrArg (fX (argsAt m c t)) hy).trans (f_at m c t (y 0) (y 1) (y 2))

theorem q_at (t : Fin cfg0.N) (b : Fin 16) (r : Fin 128) (f : Fin 384) :
    qX (argsAt m c t) (ix3 b r f) = qV (zM m c) (ix3 b (seqOf t r) f) :=
  Eq.trans (congrArg (fun w : EReal => w * Ideal.ofBits .f32 0x3E000000#32) (z_place m c t b r ⟨640 + f.val, by omega⟩)) (q_apply (zM m c) b (seqOf t r) f).symm

theorem q_place (t : Fin cfg0.N) (e : S16x2048x384.Idx) (y : S16x128x384.Idx) (h0 : (e 0).val = (y 0).val)
    (h1 : (e 1).val = t.val * 128 + (y 1).val) (h2 : (e 2).val = (y 2).val) : qX (argsAt m c t) y = qV (zM m c) e := by
  have he : e = ix3 (y 0) (seqOf t (y 1)) (y 2) := at_place 384 t e y h0 h1 h2
  have hy : y = ix3 (y 0) (y 1) (y 2) := eq_ix3 y
  subst he
  exact (congrArg (qX (argsAt m c t)) hy).trans (q_at m c t (y 0) (y 1) (y 2))

theorem k_at (t : Fin cfg0.N) (b : Fin 16) (r : Fin 128) (f : Fin 128) :
    kX (argsAt m c t) (ix3 b r f) = kV (zM m c) (ix3 b (seqOf t r) f) :=
  Eq.trans (z_place m c t b r ⟨1024 + f.val, by omega⟩) (k_apply (zM m c) b (seqOf t r) f).symm

theorem k_place (t : Fin cfg0.N) (e : S16x2048x128.Idx) (y : S16x128x128.Idx) (h0 : (e 0).val = (y 0).val)
    (h1 : (e 1).val = t.val * 128 + (y 1).val) (h2 : (e 2).val = (y 2).val) : kX (argsAt m c t) y = kV (zM m c) e := by
  have he : e = ix3 (y 0) (seqOf t (y 1)) (y 2) := at_place 128 t e y h0 h1 h2
  have hy : y = ix3 (y 0) (y 1) (y 2) := eq_ix3 y
  subst he
  exact (congrArg (kX (argsAt m c t)) hy).trans (k_at m c t (y 0) (y 1) (y 2))

theorem v_at (t : Fin cfg0.N) (b : Fin 16) (r : Fin 128) (f : Fin 128) :
    vX (argsAt m c t) (ix3 b r f) = vV (zM m c) (ix3 b (seqOf t r) f) :=
  Eq.trans (z_place m c t b r ⟨1152 + f.val, by omega⟩) (v_apply (zM m c) b (seqOf t r) f).symm

theorem v_place (t : Fin cfg0.N) (e : S16x2048x128.Idx) (y : S16x128x128.Idx) (h0 : (e 0).val = (y 0).val)
    (h1 : (e 1).val = t.val * 128 + (y 1).val) (h2 : (e 2).val = (y 2).val) : vX (argsAt m c t) y = vV (zM m c) e := by
  have he : e = ix3 (y 0) (seqOf t (y 1)) (y 2) := at_place 128 t e y h0 h1 h2
  have hy : y = ix3 (y 0) (y 1) (y 2) := eq_ix3 y
  subst he
  exact (congrArg (vX (argsAt m c t)) hy).trans (v_at m c t (y 0) (y 1) (y 2))

theorem f_out (t : Fin cfg0.N) : (outsAt0 m c t).2.1 = fX (argsAt m c t) := by
  unfold outsAt0; dsimp only
  exact f_eq (argsAt m c t)

theorem q_out (t : Fin cfg0.N) : (outsAt0 m c t).2.2.1 = qX (argsAt m c t) := by
  unfold outsAt0; dsimp only
  exact q_eq (argsAt m c t)

theorem k_out (t : Fin cfg0.N) : (outsAt0 m c t).2.2.2.1 = kX (argsAt m c t) := by
  unfold outsAt0; dsimp only
  exact k_eq (argsAt m c t)

theorem v_out (t : Fin cfg0.N) : (outsAt0 m c t).2.2.2.2 = vX (argsAt m c t) := by
  unfold outsAt0; dsimp only
  exact v_eq (argsAt m c t)

theorem final_f : (dats m 0 c).arrAt 5 cfg0.N = fV (zM m c) := by
  refine (dats m 0 c).arrAt_eq_of_covers 5 _ (by decide +kernel) fun t hf y => ?_
  blk_simp
  rw [after0_5, f_out]
  exact f_place m c t _ y (by blk_ext [idx t]) (by blk_ext [idx t]) (by blk_ext [idx t])

theorem final_q : (dats m 0 c).arrAt 6 cfg0.N = qV (zM m c) := by
  refine (dats m 0 c).arrAt_eq_of_covers 6 _ (by decide +kernel) fun t hf y => ?_
  blk_simp
  rw [after0_6, q_out]
  exact q_place m c t _ y (by blk_ext [idx t]) (by blk_ext [idx t]) (by blk_ext [idx t])

theorem final_k : (dats m 0 c).arrAt 7 cfg0.N = kV (zM m c) := by
  refine (dats m 0 c).arrAt_eq_of_covers 7 _ (by decide +kernel) fun t hf y => ?_
  blk_simp
  rw [after0_7, k_out]
  exact k_place m c t _ y (by blk_ext [idx t]) (by blk_ext [idx t]) (by blk_ext [idx t])

theorem final_v : (dats m 0 c).arrAt 8 cfg0.N = vV (zM m c) := by
  refine (dats m 0 c).arrAt_eq_of_covers 8 _ (by decide +kernel) fun t hf y => ?_
  blk_simp
  rw [after0_8, v_out]
  exact v_place m c t _ y (by blk_ext [idx t]) (by blk_ext [idx t]) (by blk_ext [idx t])

end Cert.InIdeal.Proj
-- ==== Proof.AdaArr.lean ====
module

public import proofs.«01_k».proof.Proof.Gen.AdaIdeal.Value
public import proofs.«01_k».proof.Proof.Gen.AdaReferenceIdeal.Run
public import Idealize.ShloMosaic.Lib.WholeRead
public import Idealize.ShloMosaic.Lib.Pipeline.ValueKit
public import Idealize.ShloMosaic.Lib.Pointwise
public import Idealize.ShloMosaic.Lib.Tactic.CleanTypes

/-! The adaLN modulation of both layers: one product with the layer's weight, to which the layer's bias is added. Grid point
`4 l + j` computes columns `1536 j … 1536 j + 1535` of layer `l`. -/

@[expose] public section

set_option maxRecDepth 16384

noncomputable section

/-! ## The reference -/

namespace Cert.AdaReferenceIdeal.Mod

open Cert.AdaReferenceIdeal Cert.AdaReferenceIdeal.Gen Idealize.ShloMosaic Idealize.ShloMosaic.TcCoe Idealize.SL.Sem

/-- An entry: row `c` by a column of the weight, and the bias's entry. -/
def adaOf (c w : Fin 1024 → EReal) (b : EReal) : EReal := (∑ d : Fin 1024, c d * w d) + b

variable (x : FVec Ideal S16x1024 .f32) (w : FVec Ideal S2x1024x6144 .f32) (b : FVec Ideal S2x6144 .f32)

/-- Layer 0. -/
def ada0 : FVec Ideal S1x16x6144 .f32 :=
  broadcastInDim S1x16x6144 ![1, 2] bcast_S16x6144_S1x16x6144_1_2 (addf (Host.dotGeneral dot_S16x1024_S1024x6144_S16x6144_1_0_0_1_n_n none x (shapeCast _ (extractStridedSlice S1x1024x6144 ![0, 0, 0] w slices_S2x1024x6144_S1x1024x6144_0_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![0, 0] b slices_S2x6144_S1x6144_0_0) shapeCasts_S1x6144_S6144))))

/-- Layer 1. -/
def ada1 : FVec Ideal S1x16x6144 .f32 :=
  broadcastInDim S1x16x6144 ![1, 2] bcast_S16x6144_S1x16x6144_1_2 (addf (Host.dotGeneral dot_S16x1024_S1024x6144_S16x6144_1_0_0_1_n_n none x (shapeCast _ (extractStridedSlice S1x1024x6144 ![1, 0, 0] w slices_S2x1024x6144_S1x1024x6144_1_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![1, 0] b slices_S2x6144_S1x6144_1_0) shapeCasts_S1x6144_S6144))))

/-- Both layers. -/
def adaV : FVec Ideal S2x16x6144 .f32 :=
  concatenate S2x16x6144 0 [⟨S1x16x6144, ada0 x w b⟩, ⟨S1x16x6144, ada1 x w b⟩] concatenates_S1x16x6144_S1x16x6144_S2x16x6144_d0

theorem ada0_apply (r : Fin 16) (f : Fin 6144) :
    ada0 x w b (ix3 0 r f) = adaOf (fun d => x (ix2 r d)) (fun d => w (ix3 0 d f)) (b (ix2 0 f)) := by
  unfold ada0 adaOf; clean_types; pointwise

theorem ada1_apply (r : Fin 16) (f : Fin 6144) :
    ada1 x w b (ix3 0 r f) = adaOf (fun d => x (ix2 r d)) (fun d => w (ix3 1 d f)) (b (ix2 1 f)) := by
  unfold ada1 adaOf; clean_types; pointwise

theorem adaV_apply (l : Fin 2) (r : Fin 16) (f : Fin 6144) :
    adaV x w b (ix3 l r f) = adaOf (fun d => x (ix2 r d)) (fun d => w (ix3 l d f)) (b (ix2 l f)) := by
  match l with
  | 0 =>
    refine Eq.trans ?_ (ada0_apply x w b r f)
    unfold adaV; generalize ada0 x w b = p; generalize ada1 x w b = q; clean_types; pointwise
  | 1 =>
    refine Eq.trans ?_ (ada1_apply x w b r f)
    unfold adaV; generalize ada0 x w b = p; generalize ada1 x w b = q; clean_types; pointwise

/-- The reference runs and leaves that function of its arguments, which it keeps. -/
theorem run_ada (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = adaV (m (c, Proc.devRef .tc main_arg0)) (m (c, Proc.devRef .tc main_arg1)) (m (c, Proc.devRef .tc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ⟨(h c).1.trans ?_, (h c).2⟩) (Cert.AdaReferenceIdeal.Value.run (F := Ideal) m ρ)
  unfold adaV ada0 ada1; rfl

end Cert.AdaReferenceIdeal.Mod

/-! ## The kernel -/

namespace Cert.AdaIdeal.Mod

open Cert.AdaIdeal Cert.AdaIdeal.Gen Idealize.ShloMosaic Idealize.ShloMosaic.TcCoe Idealize.SL.Sem
open Idealize.ShloMosaic.Pipeline (Dat)
open Cert.AdaReferenceIdeal.Mod (adaOf adaV adaV_apply)

variable (m : (ℓ : Loc nD τ sig) → Buf (Elt Ideal) ℓ) (c : Dev nD)

theorem pay_apply (x : Vec Ideal S16x1024 .f32) (w : Vec Ideal S1x1024x1536 .f32) (b : Vec Ideal S1x1x1536 .f32) (r : Fin 16) (f : Fin 1536) :
    k0_pay1 x w b (ix3 0 r f) = adaOf (fun d => x (ix2 r d)) (fun d => w (ix3 0 d f)) (b (ix3 0 0 f)) := by
  unfold k0_pay1 adaOf; clean_types; pointwise

theorem off2 : (![0, 0] : Fin 2 → ℕ) = fun _ => 0 := by decide

theorem off3 : (![0, 0, 0] : Fin 3 → ℕ) = fun _ => 0 := by decide

theorem ld0 (x : Vec Ideal S16x1024 .f32) : View.ld x r0_0 = x := View.ld_unit_zero (S := S16x1024) off2 _ x

theorem ld1 (w : Vec Ideal S1x1024x1536 .f32) : View.ld w r0_1 = w := View.ld_unit_zero (S := S1x1024x1536) off3 _ w

theorem ld2 (b : Vec Ideal S1x1x1536 .f32) : View.ld b r0_2 = b := View.ld_unit_zero (S := S1x1x1536) off3 _ b

theorem piece (p : Vec Ideal S1x16x1536 .f32) : View.canon (Val := Elt Ideal) (s := S1x16x1536) (e := .f32) [⟨r0_3, p⟩] = p :=
  View.canon_unit_zero (S := S1x16x1536) off3 _ p

theorem out_eq (x : Vec Ideal S16x1024 .f32) (w : Vec Ideal S1x1024x1536 .f32) (b : Vec Ideal S1x1x1536 .f32) :
    out0_3 x w b = k0_pay1 x w b := by
  unfold out0_3
  rw [piece, ld0, ld1, ld2]

theorem out_apply (x : Vec Ideal S16x1024 .f32) (w : Vec Ideal S1x1024x1536 .f32) (b : Vec Ideal S1x1x1536 .f32) (r : Fin 16) (f : Fin 1536) :
    out0_3 x w b (ix3 0 r f) = adaOf (fun d => x (ix2 r d)) (fun d => w (ix3 0 d f)) (b (ix3 0 0 f)) :=
  (congrFun (out_eq x w b) _).trans (pay_apply x w b r f)

/-- The bias, to which the host adds a dimension. -/
theorem bias (l : Fin 2) (f : Fin 6144) : (V m c main_v0 : Vec Ideal S2x1x6144 .f32) (ix3 l 0 f) = (m (c, Proc.devRef .tc main_arg2) : Vec Ideal S2x6144 .f32) (ix2 l f) := by
  simp only [V, hostOps0]
  entry_read
  clean_types
  pointwise

theorem idx : ∀ t : Fin cfg0.N, (win0_0.index t 0 = 0 ∧ win0_0.index t 1 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4) := by decide +kernel

/-- The layer of a grid point. -/
abbrev layer (t : Fin cfg0.N) : Fin 2 := ⟨t.val / 4, by have h : t.val < 8 := t.isLt; omega⟩

/-- The place of column `f` of a grid point's block. -/
abbrev col (t : Fin cfg0.N) (f : Fin 1536) : Fin 6144 := ⟨t.val % 4 * 1536 + f.val, by omega⟩

theorem b0 (t : Fin cfg0.N) (r : Fin 16) (d : Fin 1024) :
    (iblk m c 0 t : Vec Ideal S16x1024 .f32) (ix2 r d) = (m (c, Proc.devRef .tc main_arg0) : Vec Ideal S16x1024 .f32) (ix2 r d) := by
  refine Eq.trans ?_ (congrFun (V_main_arg0 m c) _)
  blk_simp [iblk]
  exact congrArg (V m c main_arg0 : Vec Ideal S16x1024 .f32) (by blk_ext [idx t])

theorem b1 (t : Fin cfg0.N) (d : Fin 1024) (f : Fin 1536) :
    (iblk m c 1 t : Vec Ideal S1x1024x1536 .f32) (ix3 0 d f) = (m (c, Proc.devRef .tc main_arg1) : Vec Ideal S2x1024x6144 .f32) (ix3 (layer t) d (col t f)) := by
  refine Eq.trans ?_ (congrFun (V_main_arg1 m c) _)
  blk_simp [iblk]
  exact congrArg (V m c main_arg1 : Vec Ideal S2x1024x6144 .f32) (by blk_ext [idx t])

theorem b2 (t : Fin cfg0.N) (f : Fin 1536) :
    (iblk m c 2 t : Vec Ideal S1x1x1536 .f32) (ix3 0 0 f) = (m (c, Proc.devRef .tc main_arg2) : Vec Ideal S2x6144 .f32) (ix2 (layer t) (col t f)) := by
  refine Eq.trans ?_ (bias m c (layer t) (col t f))
  blk_simp [iblk]
  exact congrArg (V m c main_v0 : Vec Ideal S2x1x6144 .f32) (by blk_ext [idx t])

/-- The reference's modulation of the arguments. -/
abbrev adaM : FVec Ideal Cert.AdaReferenceIdeal.S2x16x6144 .f32 :=
  adaV (m (c, Proc.devRef .tc main_arg0)) (m (c, Proc.devRef .tc main_arg1)) (m (c, Proc.devRef .tc main_arg2))

theorem ada_at (t : Fin cfg0.N) (r : Fin 16) (f : Fin 1536) :
    out0_3 (iblk m c 0 t) (iblk m c 1 t) (iblk m c 2 t) (ix3 0 r f) = adaM m c (ix3 (layer t) r (col t f)) := by
  refine Eq.trans (out_apply (iblk m c 0 t) (iblk m c 1 t) (iblk m c 2 t) r f) (Eq.trans ?_ (adaV_apply _ _ _ _ _ _).symm)
  rw [funext (b0 m c t r), show (fun d => (iblk m c 1 t : Vec Ideal S1x1024x1536 .f32) (ix3 0 d f)) = _ from funext fun d => b1 m c t d f, b2 m c t f]

theorem ada_place (t : Fin cfg0.N) (e : S2x16x6144.Idx) (y : S1x16x1536.Idx) (h0 : (e 0).val = t.val / 4)
    (h1 : (e 1).val = (y 1).val) (h2 : (e 2).val = t.val % 4 * 1536 + (y 2).val) :
    out0_3 (iblk m c 0 t) (iblk m c 1 t) (iblk m c 2 t) y = adaM m c e := by
  have he : e = ix3 (layer t) (y 1) (col t (y 2)) := by
    funext a; match a with | ⟨0, _⟩ => exact Fin.ext h0 | ⟨1, _⟩ => exact Fin.ext h1 | ⟨2, _⟩ => exact Fin.ext h2
  have hy : y = ix3 0 (y 1) (y 2) := by
    funext a; match a with | ⟨0, _⟩ => exact Subsingleton.elim (α := Fin 1) _ _ | ⟨1, _⟩ => rfl | ⟨2, _⟩ => rfl
  subst he
  exact (congrArg (out0_3 (iblk m c 0 t) (iblk m c 1 t) (iblk m c 2 t)) hy).trans (ada_at m c t (y 1) (y 2))

/-- The array after the run is the reference's. -/
theorem final_ada : (dats m 0 c).arrAt 3 cfg0.N = adaM m c := by
  refine (dats m 0 c).arrAt_eq_of_covers 3 _ (by decide +kernel) fun t hf y => ?_
  blk_simp
  rw [after0_3]
  exact ada_place m c t _ y (by blk_ext [idx t]) (by blk_ext [idx t]) (by blk_ext [idx t])

end Cert.AdaIdeal.Mod
-- ==== Proof.lean ====
module

public import proofs.«01_k».proof.Proof.Gen.Ffn
public import proofs.«01_k».proof.Proof.Gen.Ada
public import proofs.«01_k».proof.Proof.Gen.AdaIdeal
public import proofs.«01_k».proof.Proof.Gen.AdaReferenceIdeal
public import proofs.«01_k».proof.Proof.Gen.Ada.Frame
public import proofs.«01_k».proof.Proof.Gen.AdaIdeal.Frame
public import proofs.«01_k».proof.Proof.Gen.AdaIdeal.Value
public import proofs.«01_k».proof.Proof.Gen.AdaReferenceIdeal.Run
public import proofs.«01_k».proof.Proof.Gen.In
public import proofs.«01_k».proof.Proof.Gen.InIdeal
public import proofs.«01_k».proof.Proof.Gen.InReferenceIdeal
public import proofs.«01_k».proof.Proof.Gen.In.Frame
public import proofs.«01_k».proof.Proof.Gen.InIdeal.Frame
public import proofs.«01_k».proof.Proof.Gen.InIdeal.Value
public import proofs.«01_k».proof.Proof.Gen.InReferenceIdeal.Run
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.EqualFour
public import proofs.«01_k».proof.Proof.PreAt
public import proofs.«01_k».proof.Proof.FfnHost
public import proofs.«01_k».proof.Proof.InArr
public import proofs.«01_k».proof.Proof.AdaArr
public import Idealize.ShloMosaic.Lib.Quiescent
public import Idealize.ShloMosaic.Lib.Bf16Pair
public import Idealize.ShloMosaic.Adequacy
public import Idealize.ShloMosaic.Init

@[expose] public section

noncomputable section

namespace Cert.Proof

open Idealize.ShloMosaic Idealize.SL.Sem

/-- The reference ends with its arguments unchanged; it has no semaphores. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run (Cert.ReferenceIdeal.defs (F := Ideal)) _ _).mono (fun r h => ⟨fun c => (h c).2.2, sem_eq_zero_of_no_sems rfl _⟩) (Cert.ReferenceIdeal.Value.run (F := Ideal) m g)

/-- The kernel's two results are the reference's, when the precondition holds. -/
theorem equal : Cert.algebraic_KernelIdeal_ReferenceIdeal_pre_finite := by
  intro m g m' g' hpre hargs
  have hfin := fun c => Cert.Att.pre_at _ _ _ _ _ _ (hpre c)
  refine ⟨fun c => (Cert.KernelIdeal.Gen.dats m 0 c).arrAt 11 Cert.KernelIdeal.cfg0.N, fun c => (Cert.KernelIdeal.Gen.dats m 0 c).arrAt 12 Cert.KernelIdeal.cfg0.N,
    Cert.KernelIdeal.Value.run_blocks m g, ?_⟩
  refine (θ_run (Cert.ReferenceIdeal.defs (F := Ideal)) _ _).mono (fun r h c => ?_) (Cert.ReferenceIdeal.Value.run (F := Ideal) m' g')
  obtain ⟨h0, h1, h2, h3, h4, h5⟩ := hargs c
  obtain ⟨p0, p1, p3, p4, p5⟩ := hfin c
  refine ⟨(h c).1.trans ?_, (h c).2.1.trans ?_, (h c).2.2⟩
  · rw [Cert.ReferenceIdeal.Att.att_run, h0, h1, h2, h3]
    exact ((Cert.KernelIdeal.Att.final_att m c).trans (Cert.KernelIdeal.Att.att_same m c p0 p1 p3)).symm
  · rw [h4, h5]
    exact ((Cert.KernelIdeal.Att.final_four m c).trans (Cert.KernelIdeal.Att.four_same m c p4 p5)).symm

/-- The feed-forward sub-layer's reference ends with its arguments unchanged; it has no semaphores. -/
theorem ffn_reference_frame (m : (ℓ : Loc Cert.FfnReferenceIdeal.nD Cert.FfnReferenceIdeal.τ Cert.FfnReferenceIdeal.sig) → Buf (Elt Ideal) ℓ)
    (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0) :=
  (θ_run (Cert.FfnReferenceIdeal.defs (F := Ideal)) _ _).mono (fun r h => ⟨fun c => (h c).2, sem_eq_zero_of_no_sems rfl _⟩) (Cert.FfnReferenceIdeal.Value.run (F := Ideal) m g)

/-- The feed-forward call's result is its reference's, for all arguments. -/
theorem ffn_equal : Cert.algebraic_FfnIdeal_FfnReferenceIdeal := by
  intro m g m' g' hpre hargs
  refine ⟨fun c => (Cert.FfnIdeal.Gen.dats m 0 c).arrAt 9 Cert.FfnIdeal.cfg0.N, Cert.FfnIdeal.Value.run_blocks m g, ?_⟩
  refine (θ_run (Cert.FfnReferenceIdeal.defs (F := Ideal)) _ _).mono (fun r h c => ?_) (Cert.FfnReferenceIdeal.Conv.run_ffn m' g')
  obtain ⟨h0, h1, h2, h3, h4, h5, h6, h7⟩ := hargs c
  refine ⟨(h c).1.trans ?_, (h c).2⟩
  refine Eq.trans ?_ ((Cert.FfnIdeal.Conv.final_ffn m c).trans (Cert.FfnIdeal.Conv.ffn_same m c)).symm
  rw [show m' (c, Proc.devRef .tc Cert.FfnReferenceIdeal.main_arg0) = m (c, Proc.devRef .tc Cert.FfnIdeal.main_arg0) from h0, show m' (c, Proc.devRef .tc Cert.FfnReferenceIdeal.main_arg1) = m (c, Proc.devRef .tc Cert.FfnIdeal.main_arg1) from h1, show m' (c, Proc.devRef .tc Cert.FfnReferenceIdeal.main_arg2) = m (c, Proc.devRef .tc Cert.FfnIdeal.main_arg2) from h2, show m' (c, Proc.devRef .tc Cert.FfnReferenceIdeal.main_arg3) = m (c, Proc.devRef .tc Cert.FfnIdeal.main_arg3) from h3,
    show m' (c, Proc.devRef .tc Cert.FfnReferenceIdeal.main_arg4) = m (c, Proc.devRef .tc Cert.FfnIdeal.main_arg4) from h4, show m' (c, Proc.devRef .tc Cert.FfnReferenceIdeal.main_arg5) = m (c, Proc.devRef .tc Cert.FfnIdeal.main_arg5) from h5, show m' (c, Proc.devRef .tc Cert.FfnReferenceIdeal.main_arg6) = m (c, Proc.devRef .tc Cert.FfnIdeal.main_arg6) from h6, show m' (c, Proc.devRef .tc Cert.FfnReferenceIdeal.main_arg7) = m (c, Proc.devRef .tc Cert.FfnIdeal.main_arg7) from h7]

/-- The input projection's reference ends with its arguments unchanged; it has no semaphores. -/
theorem in_reference_frame (m : (ℓ : Loc Cert.InReferenceIdeal.nD Cert.InReferenceIdeal.τ Cert.InReferenceIdeal.sig) → Buf (Elt Ideal) ℓ)
    (g : Dev Cert.InReferenceIdeal.nD → PrngReg) :
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0) :=
  (θ_run (Cert.InReferenceIdeal.defs (F := Ideal)) _ _).mono (fun r h => ⟨fun c => (h c).2.2.2.2, sem_eq_zero_of_no_sems rfl _⟩) (Cert.InReferenceIdeal.Proj.run_in m g)

/-- The input projection's four results are its reference's, for all arguments. -/
theorem in_equal : Cert.algebraic_InIdeal_InReferenceIdeal := by
  intro m g m' g' hpre hargs
  refine ⟨fun c => (Cert.InIdeal.Gen.dats m 0 c).arrAt 5 Cert.InIdeal.cfg0.N, fun c => (Cert.InIdeal.Gen.dats m 0 c).arrAt 6 Cert.InIdeal.cfg0.N,
    fun c => (Cert.InIdeal.Gen.dats m 0 c).arrAt 7 Cert.InIdeal.cfg0.N, fun c => (Cert.InIdeal.Gen.dats m 0 c).arrAt 8 Cert.InIdeal.cfg0.N,
    (θ_run (Cert.InIdeal.defs (F := Ideal)) _ _).mono (fun r h c => (h c).2) (Cert.InIdeal.Value.run_blocks m g), ?_⟩
  refine (θ_run (Cert.InReferenceIdeal.defs (F := Ideal)) _ _).mono (fun r h c => ?_) (Cert.InReferenceIdeal.Proj.run_in m' g')
  obtain ⟨h0, h1, h2, h3⟩ := hargs c
  have hz : Cert.InReferenceIdeal.Proj.zV (m' (c, Proc.devRef .tc Cert.InReferenceIdeal.main_arg0)) (m' (c, Proc.devRef .tc Cert.InReferenceIdeal.main_arg1)) (m' (c, Proc.devRef .tc Cert.InReferenceIdeal.main_arg2)) (m' (c, Proc.devRef .tc Cert.InReferenceIdeal.main_arg3))
      = Cert.InIdeal.Proj.zM m c := by
    rw [show m' (c, Proc.devRef .tc Cert.InReferenceIdeal.main_arg0) = m (c, Proc.devRef .tc Cert.InIdeal.main_arg0) from h0, show m' (c, Proc.devRef .tc Cert.InReferenceIdeal.main_arg1) = m (c, Proc.devRef .tc Cert.InIdeal.main_arg1) from h1,
      show m' (c, Proc.devRef .tc Cert.InReferenceIdeal.main_arg2) = m (c, Proc.devRef .tc Cert.InIdeal.main_arg2) from h2, show m' (c, Proc.devRef .tc Cert.InReferenceIdeal.main_arg3) = m (c, Proc.devRef .tc Cert.InIdeal.main_arg3) from h3]
  exact ⟨(h c).1.trans ((congrArg _ hz).trans (Cert.InIdeal.Proj.final_f m c).symm), (h c).2.1.trans ((congrArg _ hz).trans (Cert.InIdeal.Proj.final_q m c).symm),
    (h c).2.2.1.trans ((congrArg _ hz).trans (Cert.InIdeal.Proj.final_k m c).symm), (h c).2.2.2.1.trans ((congrArg _ hz).trans (Cert.InIdeal.Proj.final_v m c).symm), (h c).2.2.2.2⟩

theorem ada_reference_frame (m : (ℓ : Loc Cert.AdaReferenceIdeal.nD Cert.AdaReferenceIdeal.τ Cert.AdaReferenceIdeal.sig) → Buf (Elt Ideal) ℓ)
    (g : Dev Cert.AdaReferenceIdeal.nD → PrngReg) :
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0) :=
  (θ_run (Cert.AdaReferenceIdeal.defs (F := Ideal)) _ _).mono (fun r h => ⟨fun c => (h c).2, sem_eq_zero_of_no_sems rfl _⟩) (Cert.AdaReferenceIdeal.Mod.run_ada m g)

/-- The modulation of both layers is its reference's, for all arguments. -/
theorem ada_equal : Cert.algebraic_AdaIdeal_AdaReferenceIdeal := by
  intro m g m' g' hpre hargs
  refine ⟨fun c => (Cert.AdaIdeal.Gen.dats m 0 c).arrAt 3 Cert.AdaIdeal.cfg0.N, Cert.AdaIdeal.Value.run_blocks m g, ?_⟩
  refine (θ_run (Cert.AdaReferenceIdeal.defs (F := Ideal)) _ _).mono (fun r h c => ?_) (Cert.AdaReferenceIdeal.Mod.run_ada m' g')
  obtain ⟨h0, h1, h2⟩ := hargs c
  refine ⟨(h c).1.trans (Eq.trans ?_ (Cert.AdaIdeal.Mod.final_ada m c).symm), (h c).2⟩
  rw [show m' (c, Proc.devRef .tc Cert.AdaReferenceIdeal.main_arg0) = m (c, Proc.devRef .tc Cert.AdaIdeal.main_arg0) from h0, show m' (c, Proc.devRef .tc Cert.AdaReferenceIdeal.main_arg1) = m (c, Proc.devRef .tc Cert.AdaIdeal.main_arg1) from h1,
    show m' (c, Proc.devRef .tc Cert.AdaReferenceIdeal.main_arg2) = m (c, Proc.devRef .tc Cert.AdaIdeal.main_arg2) from h2]

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.In.Gen.facts, Cert.InIdeal.Gen.facts, Cert.InReferenceIdeal.Gen.facts,
  Cert.Ada.Gen.facts, Cert.AdaIdeal.Gen.facts, Cert.AdaReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => reference_frame m g, fun m g _ => reference_frame m g,
  fun m g _ => Cert.Ffn.Gen.frame m g, fun m g _ => Cert.FfnIdeal.Gen.frame m g, fun m g _ => ffn_reference_frame m g,
  fun m g _ => Cert.In.Gen.frame m g, fun m g _ => Cert.InIdeal.Gen.frame m g, fun m g _ => in_reference_frame m g,
  fun m g _ => Cert.Ada.Gen.frame m g, fun m g _ => Cert.AdaIdeal.Gen.frame m g, fun m g _ => ada_reference_frame m g,
  IdealRules.named_const.statement Cert.KernelIdeal.κ "neg_inf" .f32 0xF149F2CA#32 ⊥ rfl, equal, trivial, ffn_equal,
  IdealRules.bf16_pair.statement _ _, in_equal, trivial, ada_equal⟩

end Cert.Proof

end
